-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_sorted [hPre_finite_sorted : Cert.Pre_finite_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_finite_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_sorted [hPre_finite_sorted : Cert.Pre_finite_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13)) (m ((c.tc : Thread Cert.Kernel2.nD Cert.Kernel2.τ).loc Cert.Kernel2.main_arg14)) (m ((c.tc : Thread Cert.Kernel2.nD Cert.Kernel2.τ).loc Cert.Kernel2.main_arg15))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))) = (fun _ => 1#1)

def Pre_Kernel2Ideal_in_range_finite [hPre_in_range_finite : Cert.Pre_in_range_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range_finite [hPre_in_range_finite : Cert.Pre_in_range_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_sorted [hKernelIdeal : Cert.KernelIdeal.Facts] [hPre_finite_sorted : Cert.Pre_finite_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_sorted [hReferenceIdeal : Cert.ReferenceIdeal.Facts] [hPre_finite_sorted : Cert.Pre_finite_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Kernel2Ideal_pre_in_range_finite [hKernel2Ideal : Cert.Kernel2Ideal.Facts] [hPre_in_range_finite : Cert.Pre_in_range_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_in_range_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Reference2Ideal_pre_in_range_finite [hReference2Ideal : Cert.Reference2Ideal.Facts] [hPre_in_range_finite : Cert.Pre_in_range_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_finite_sorted [hKernelIdeal : Cert.KernelIdeal.Facts] [hReferenceIdeal : Cert.ReferenceIdeal.Facts] [hPre_finite_sorted : Cert.Pre_finite_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v29_3)) (v4 : (c : Dev Cert.KernelIdeal.nD) → Buf (Elt Ideal) ((c.tc : Thread Cert.KernelIdeal.nD Cert.KernelIdeal.τ).loc Cert.KernelIdeal.main_v29_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_v29_3) = v3 c
          ∧ r.2.mem ((c.tc : Thread Cert.KernelIdeal.nD Cert.KernelIdeal.τ).loc Cert.KernelIdeal.main_v29_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v144) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_in_range_finite [hKernel2Ideal : Cert.Kernel2Ideal.Facts] [hReference2Ideal : Cert.Reference2Ideal.Facts] [hPre_in_range_finite : Cert.Pre_in_range_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_in_range_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_sorted : Cert.Pre_finite_sorted.Facts) (hPre_in_range : Cert.Pre_in_range.Facts) (hPre_in_range_finite : Cert.Pre_in_range_finite.Facts),
    quiescent_Kernel (hKernel := hKernel)
    ∧ quiescent_KernelIdeal (hKernelIdeal := hKernelIdeal)
    ∧ quiescent_KernelIdeal_pre_finite_sorted (hKernelIdeal := hKernelIdeal) (hPre_finite_sorted := hPre_finite_sorted)
    ∧ quiescent_ReferenceIdeal (hReferenceIdeal := hReferenceIdeal)
    ∧ quiescent_ReferenceIdeal_pre_finite_sorted (hReferenceIdeal := hReferenceIdeal) (hPre_finite_sorted := hPre_finite_sorted)
    ∧ quiescent_Kernel2 (hKernel2 := hKernel2) (hPre_in_range := hPre_in_range)
    ∧ quiescent_Kernel2Ideal (hKernel2Ideal := hKernel2Ideal) (hPre_in_range := hPre_in_range)
    ∧ quiescent_Kernel2Ideal_pre_in_range_finite (hKernel2Ideal := hKernel2Ideal) (hPre_in_range_finite := hPre_in_range_finite)
    ∧ quiescent_Reference2Ideal (hReference2Ideal := hReference2Ideal)
    ∧ quiescent_Reference2Ideal_pre_in_range_finite (hReference2Ideal := hReference2Ideal) (hPre_in_range_finite := hPre_in_range_finite)
    ∧ preserves_Kernel_KernelIdeal
    ∧ algebraic_KernelIdeal_ReferenceIdeal_pre_finite_sorted (hKernelIdeal := hKernelIdeal) (hReferenceIdeal := hReferenceIdeal) (hPre_finite_sorted := hPre_finite_sorted)
    ∧ preserves_Kernel2_Kernel2Ideal
    ∧ algebraic_Kernel2Ideal_Reference2Ideal_pre_in_range_finite (hKernel2Ideal := hKernel2Ideal) (hReference2Ideal := hReference2Ideal) (hPre_in_range_finite := hPre_in_range_finite)
-- ==== Pre_finite_sorted.lean ====
abbrev S10000x256 : Shape := ⟨2, ![10000, 256]⟩
abbrev S10000 : Shape := ⟨1, ![10000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S9999 : Shape := ⟨1, ![9999]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S10000 : S_.BroadcastsInDim S10000 (![] : Fin 0 → Fin S10000.rank)
  reducesTo_S10000_S_d0 : S10000.ReducesTo [0] S_
  slices_S10000_S9999_0 : S10000.Slices ![0] S9999
  slices_S10000_S9999_1 : S10000.Slices ![1] S9999
  reducesTo_S9999_S_d0 : S9999.ReducesTo [0] S_

variable [Facts]

def fn_part3 {F : FTy → Type} [FloatOps F] (main_arg1 : IVec S10000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 0#32
  let main_v54 : IVec S10000 32 := broadcastInDim S10000 ![] bcast_S_S10000 main_c_20
  let main_v55 : IVec S10000 1 := cmpi .sge main_arg1 main_v54
  let main_c_21 : IVec S_ 32 := constantI S_ 32 256#32
  let main_v56 : IVec S10000 32 := broadcastInDim S10000 ![] bcast_S_S10000 main_c_21
  let main_v57 : IVec S10000 1 := cmpi .slt main_arg1 main_v56
  let main_v58 : IVec S10000 1 := andi main_v55 main_v57
  let main_c_22 : IVec S_ 1 := constantI S_ 1 1#1
  let main_v59 : IVec S_ 1 := (fun x v => Host.reduce IntOp.andi x v reducesTo_S10000_S_d0 h_S_) main_v58 main_c_22
  let main_v60 : IVec S_ 1 := andi main_v53 main_v59
  let main_v61 : IVec S9999 32 := (extractStridedSlice S9999 ![0] · slices_S10000_S9999_0) main_arg1
  let main_v62 : IVec S9999 32 := (extractStridedSlice S9999 ![1] · slices_S10000_S9999_1) main_arg1
  let main_v63 : IVec S9999 1 := cmpi .sle main_v61 main_v62
  let main_c_23 : IVec S_ 1 := constantI S_ 1 1#1
  let main_v64 : IVec S_ 1 := (fun x v => Host.reduce IntOp.andi x v reducesTo_S9999_S_d0 h_S_) main_v63 main_c_23
  let main_v65 : IVec S_ 1 := andi main_v60 main_v64
  main_v65

def fn_part2 {F : FTy → Type} [FloatOps F] (main_arg1 : IVec S10000 32) (main_arg8 : FVec F S256x256 .f32) (main_arg9 : FVec F S256 .f32) (main_arg10 : FVec F S256x1 .f32) (main_arg11 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg1 main_v48 main_v49 main_v50

def fn_part1 {F : FTy → Type} [FloatOps F] (main_arg1 : IVec S10000 32) (main_arg5 : FVec F S256 .f32) (main_arg6 : FVec F S256x256 .f32) (main_arg7 : FVec F S256 .f32) (main_arg8 : FVec F S256x256 .f32) (main_arg9 : FVec F S256 .f32) (main_arg10 : FVec F S256x1 .f32) (main_arg11 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S10000x256 .f32) (main_arg1 : IVec S10000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x1 .f32) (main_arg11 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_arg8 main_arg9 main_arg10 main_arg11 main_v13 main_v16
-- ==== Pre_in_range.lean ====
abbrev S10000x256 : Shape := ⟨2, ![10000, 256]⟩
abbrev S4x256 : Shape := ⟨2, ![4, 256]⟩
abbrev S256x256 : Shape := ⟨2, ![256, 256]⟩
abbrev S1792x256 : Shape := ⟨2, ![1792, 256]⟩
abbrev S256 : Shape := ⟨1, ![256]⟩
abbrev S3x256 : Shape := ⟨2, ![3, 256]⟩
abbrev S_ : Shape := ⟨0, ![]⟩

class Facts : Prop where
  slices_S4x256_S3x256_0_0 : S4x256.Slices ![0, 0] S3x256
  bcast_S_S3x256 : S_.BroadcastsInDim S3x256 (![] : Fin 0 → Fin S3x256.rank)
  reducesTo_S3x256_S_d0_1 : S3x256.ReducesTo [0, 1] S_
  h_S_ : 0 < S_.numel

variable [Facts]

def fn {F : FTy → Type} [FloatOps F] (main_arg0 : FVec F S10000x256 .f32) (main_arg1 : IVec S4x256 32) (main_arg2 : FVec F S256x256 .f32) (main_arg3 : FVec F S256x256 .f32) (main_arg4 : FVec F S256x256 .f32) (main_arg5 : FVec F S256x256 .f32) (main_arg6 : FVec F S1792x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) : IVec S_ 1 :=
  let main_v0 : IVec S3x256 32 := (extractStridedSlice S3x256 ![0, 0] · slices_S4x256_S3x256_0_0) main_arg1
  let main_c : IVec S_ 32 := constantI S_ 32 0#32
  let main_v1 : IVec S3x256 32 := broadcastInDim S3x256 ![] bcast_S_S3x256 main_c
  let main_v2 : IVec S3x256 1 := cmpi .sge main_v0 main_v1
  let main_v3 : IVec S3x256 32 := (extractStridedSlice S3x256 ![0, 0] · slices_S4x256_S3x256_0_0) main_arg1
  let main_c_0 : IVec S_ 32 := constantI S_ 32 10000#32
  let main_v4 : IVec S3x256 32 := broadcastInDim S3x256 ![] bcast_S_S3x256 main_c_0
  let main_v5 : IVec S3x256 1 := cmpi .sle main_v3 main_v4
  let main_v6 : IVec S3x256 1 := andi main_v2 main_v5
  let main_c_1 : IVec S_ 1 := constantI S_ 1 1#1
  let main_v7 : IVec S_ 1 := (fun x v => Host.reduce IntOp.andi x v reducesTo_S3x256_S_d0_1 h_S_) main_v6 main_c_1
  main_v7
-- ==== Pre_in_range_finite.lean ====
abbrev S10000x256 : Shape := ⟨2, ![10000, 256]⟩
abbrev S4x256 : Shape := ⟨2, ![4, 256]⟩
abbrev S256x256 : Shape := ⟨2, ![256, 256]⟩
abbrev S1792x256 : Shape := ⟨2, ![1792, 256]⟩
abbrev S256 : Shape := ⟨1, ![256]⟩
abbrev S3x256 : Shape := ⟨2, ![3, 256]⟩
abbrev S_ : Shape := ⟨0, ![]⟩

class Facts : Prop where
  slices_S4x256_S3x256_0_0 : S4x256.Slices ![0, 0] S3x256
  bcast_S_S3x256 : S_.BroadcastsInDim S3x256 (![] : Fin 0 → Fin S3x256.rank)
  reducesTo_S3x256_S_d0_1 : S3x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_
  bcast_S_S1792x256 : S_.BroadcastsInDim S1792x256 (![] : Fin 0 → Fin S1792x256.rank)
  reducesTo_S1792x256_S_d0_1 : S1792x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S256x256 .f32) (main_v67 : IVec S_ 1) (main_v68 : FVec F S256 .f32) : IVec S_ 1 :=
  let main_cst_25 : FVec F S_ .f32 := constant S_ .f32 0x7F800000#32
  let main_v69 : FVec F S256 .f32 := broadcastInDim S256 ![] bcast_S_S256 main_cst_25
  let main_v70 : IVec S256 1 := cmpf .olt main_v68 main_v69
  let main_c_26 : IVec S_ 1 := constantI S_ 1 1#1
  let main_v71 : IVec S_ 1 := (fun x v => Host.reduce IntOp.andi x v reducesTo_S256_S_d0 h_S_) main_v70 main_c_26
  let main_v72 : IVec S_ 1 := andi main_v67 main_v71
  let main_v73 : FVec F S256x256 .f32 := Host.absf main_arg14
  let main_cst_27 : FVec F S_ .f32 := constant S_ .f32 0x7F800000#32
  let main_v74 : FVec F S256x256 .f32 := broadcastInDim S256x256 ![] bcast_S_S256x256 main_cst_27
  let main_v75 : IVec S256x256 1 := cmpf .olt main_v73 main_v74
  let main_c_28 : IVec S_ 1 := constantI S_ 1 1#1
  let main_v76 : IVec S_ 1 := (fun x v => Host.reduce IntOp.andi x v reducesTo_S256x256_S_d0_1 h_S_) main_v75 main_c_28
  let main_v77 : IVec S_ 1 := andi main_v72 main_v76
  main_v77

def fn_part3 {F : FTy → Type} [FloatOps F] (main_arg10 : FVec F S256x256 .f32) (main_arg11 : FVec F S256 .f32) (main_arg12 : FVec F S256x256 .f32) (main_arg13 : FVec F S256 .f32) (main_arg14 : FVec F S256x256 .f32) (main_v47 : IVec S_ 1) (main_v50 : IVec S256 1) (main_c_18 : IVec S_ 1) : IVec S_ 1 :=
  let main_v51 : IVec S_ 1 := (fun x v => Host.reduce IntOp.andi x v reducesTo_S256_S_d0 h_S_) main_v50 main_c_18
  let main_v52 : IVec S_ 1 := andi main_v47 main_v51
  let main_v53 : FVec F S256x256 .f32 := Host.absf main_arg10
  let main_cst_19 : FVec F S_ .f32 := constant S_ .f32 0x7F800000#32
  let main_v54 : FVec F S256x256 .f32 := broadcastInDim S256x256 ![] bcast_S_S256x256 main_cst_19
  let main_v55 : IVec S256x256 1 := cmpf .olt main_v53 main_v54
  let main_c_20 : IVec S_ 1 := constantI S_ 1 1#1
  let main_v56 : IVec S_ 1 := (fun x v => Host.reduce IntOp.andi x v reducesTo_S256x256_S_d0_1 h_S_) main_v55 main_c_20
  let main_v57 : IVec S_ 1 := andi main_v52 main_v56
  let main_v58 : FVec F S256 .f32 := Host.absf main_arg11
  let main_cst_21 : FVec F S_ .f32 := constant S_ .f32 0x7F800000#32
  let main_v59 : FVec F S256 .f32 := broadcastInDim S256 ![] bcast_S_S256 main_cst_21
  let main_v60 : IVec S256 1 := cmpf .olt main_v58 main_v59
  let main_c_22 : IVec S_ 1 := constantI S_ 1 1#1
  let main_v61 : IVec S_ 1 := (fun x v => Host.reduce IntOp.andi x v reducesTo_S256_S_d0 h_S_) main_v60 main_c_22
  let main_v62 : IVec S_ 1 := andi main_v57 main_v61
  let main_v63 : FVec F S256x256 .f32 := Host.absf main_arg12
  let main_cst_23 : FVec F S_ .f32 := constant S_ .f32 0x7F800000#32
  let main_v64 : FVec F S256x256 .f32 := broadcastInDim S256x256 ![] bcast_S_S256x256 main_cst_23
  let main_v65 : IVec S256x256 1 := cmpf .olt main_v63 main_v64
  let main_c_24 : IVec S_ 1 := constantI S_ 1 1#1
  let main_v66 : IVec S_ 1 := (fun x v => Host.reduce IntOp.andi x v reducesTo_S256x256_S_d0_1 h_S_) main_v65 main_c_24
  let main_v67 : IVec S_ 1 := andi main_v62 main_v66
  let main_v68 : FVec F S256 .f32 := Host.absf main_arg13
  fn_part4 (F := F) main_arg14 main_v67 main_v68

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_v32 : IVec S_ 1) (main_v33 : FVec F S1792x256 .f32) (main_cst_11 : FVec F S_ .f32) : IVec S_ 1 :=
  let main_v34 : FVec F S1792x256 .f32 := broadcastInDim S1792x256 ![] bcast_S_S1792x256 main_cst_11
  let main_v35 : IVec S1792x256 1 := cmpf .olt main_v33 main_v34
  let main_c_12 : IVec S_ 1 := constantI S_ 1 1#1
  let main_v36 : IVec S_ 1 := (fun x v => Host.reduce IntOp.andi x v reducesTo_S1792x256_S_d0_1 h_S_) main_v35 main_c_12
  let main_v37 : IVec S_ 1 := andi main_v32 main_v36
  let main_v38 : FVec F S256 .f32 := Host.absf main_arg7
  let main_cst_13 : FVec F S_ .f32 := constant S_ .f32 0x7F800000#32
  let main_v39 : FVec F S256 .f32 := broadcastInDim S256 ![] bcast_S_S256 main_cst_13
  let main_v40 : IVec S256 1 := cmpf .olt main_v38 main_v39
  let main_c_14 : IVec S_ 1 := constantI S_ 1 1#1
  let main_v41 : IVec S_ 1 := (fun x v => Host.reduce IntOp.andi x v reducesTo_S256_S_d0 h_S_) main_v40 main_c_14
  let main_v42 : IVec S_ 1 := andi main_v37 main_v41
  let main_v43 : FVec F S256x256 .f32 := Host.absf main_arg8
  let main_cst_15 : FVec F S_ .f32 := constant S_ .f32 0x7F800000#32
  let main_v44 : FVec F S256x256 .f32 := broadcastInDim S256x256 ![] bcast_S_S256x256 main_cst_15
  let main_v45 : IVec S256x256 1 := cmpf .olt main_v43 main_v44
  let main_c_16 : IVec S_ 1 := constantI S_ 1 1#1
  let main_v46 : IVec S_ 1 := (fun x v => Host.reduce IntOp.andi x v reducesTo_S256x256_S_d0_1 h_S_) main_v45 main_c_16
  let main_v47 : IVec S_ 1 := andi main_v42 main_v46
  let main_v48 : FVec F S256 .f32 := Host.absf main_arg9
  let main_cst_17 : FVec F S_ .f32 := constant S_ .f32 0x7F800000#32
  let main_v49 : FVec F S256 .f32 := broadcastInDim S256 ![] bcast_S_S256 main_cst_17
  let main_v50 : IVec S256 1 := cmpf .olt main_v48 main_v49
  let main_c_18 : IVec S_ 1 := constantI S_ 1 1#1
  fn_part3 (F := F) main_arg10 main_arg11 main_arg12 main_arg13 main_arg14 main_v47 main_v50 main_c_18

def fn_part1 {F : FTy → Type} [FloatOps F] (main_arg3 : FVec F S256x256 .f32) (main_arg4 : FVec F S256x256 .f32) (main_arg5 : FVec F S256x256 .f32) (main_arg6 : FVec F S1792x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_v12 : IVec S_ 1) (main_v16 : IVec S_ 1) : IVec S_ 1 :=
  let main_v17 : IVec S_ 1 := andi main_v12 main_v16
  let main_v18 : FVec F S256x256 .f32 := Host.absf main_arg3
  let main_cst_5 : FVec F S_ .f32 := constant S_ .f32 0x7F800000#32
  let main_v19 : FVec F S256x256 .f32 := broadcastInDim S256x256 ![] bcast_S_S256x256 main_cst_5
  let main_v20 : IVec S256x256 1 := cmpf .olt main_v18 main_v19
  let main_c_6 : IVec S_ 1 := constantI S_ 1 1#1
  let main_v21 : IVec S_ 1 := (fun x v => Host.reduce IntOp.andi x v reducesTo_S256x256_S_d0_1 h_S_) main_v20 main_c_6
  let main_v22 : IVec S_ 1 := andi main_v17 main_v21
  let main_v23 : FVec F S256x256 .f32 := Host.absf main_arg4
  let main_cst_7 : FVec F S_ .f32 := constant S_ .f32 0x7F800000#32
  let main_v24 : FVec F S256x256 .f32 := broadcastInDim S256x256 ![] bcast_S_S256x256 main_cst_7
  let main_v25 : IVec S256x256 1 := cmpf .olt main_v23 main_v24
  let main_c_8 : IVec S_ 1 := constantI S_ 1 1#1
  let main_v26 : IVec S_ 1 := (fun x v => Host.reduce IntOp.andi x v reducesTo_S256x256_S_d0_1 h_S_) main_v25 main_c_8
  let main_v27 : IVec S_ 1 := andi main_v22 main_v26
  let main_v28 : FVec F S256x256 .f32 := Host.absf main_arg5
  let main_cst_9 : FVec F S_ .f32 := constant S_ .f32 0x7F800000#32
  let main_v29 : FVec F S256x256 .f32 := broadcastInDim S256x256 ![] bcast_S_S256x256 main_cst_9
  let main_v30 : IVec S256x256 1 := cmpf .olt main_v28 main_v29
  let main_c_10 : IVec S_ 1 := constantI S_ 1 1#1
  let main_v31 : IVec S_ 1 := (fun x v => Host.reduce IntOp.andi x v reducesTo_S256x256_S_d0_1 h_S_) main_v30 main_c_10
  let main_v32 : IVec S_ 1 := andi main_v27 main_v31
  let main_v33 : FVec F S1792x256 .f32 := Host.absf main_arg6
  let main_cst_11 : FVec F S_ .f32 := constant S_ .f32 0x7F800000#32
  fn_part2 (F := F) main_arg7 main_arg8 main_arg9 main_arg10 main_arg11 main_arg12 main_arg13 main_arg14 main_v32 main_v33 main_cst_11

def fn {F : FTy → Type} [FloatOps F] (main_arg0 : FVec F S10000x256 .f32) (main_arg1 : IVec S4x256 32) (main_arg2 : FVec F S256x256 .f32) (main_arg3 : FVec F S256x256 .f32) (main_arg4 : FVec F S256x256 .f32) (main_arg5 : FVec F S256x256 .f32) (main_arg6 : FVec F S1792x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) : IVec S_ 1 :=
  let main_v0 : IVec S3x256 32 := (extractStridedSlice S3x256 ![0, 0] · slices_S4x256_S3x256_0_0) main_arg1
  let main_c : IVec S_ 32 := constantI S_ 32 0#32
  let main_v1 : IVec S3x256 32 := broadcastInDim S3x256 ![] bcast_S_S3x256 main_c
  let main_v2 : IVec S3x256 1 := cmpi .sge main_v0 main_v1
  let main_v3 : IVec S3x256 32 := (extractStridedSlice S3x256 ![0, 0] · slices_S4x256_S3x256_0_0) main_arg1
  let main_c_0 : IVec S_ 32 := constantI S_ 32 10000#32
  let main_v4 : IVec S3x256 32 := broadcastInDim S3x256 ![] bcast_S_S3x256 main_c_0
  let main_v5 : IVec S3x256 1 := cmpi .sle main_v3 main_v4
  let main_v6 : IVec S3x256 1 := andi main_v2 main_v5
  let main_c_1 : IVec S_ 1 := constantI S_ 1 1#1
  let main_v7 : IVec S_ 1 := (fun x v => Host.reduce IntOp.andi x v reducesTo_S3x256_S_d0_1 h_S_) main_v6 main_c_1
  let main_v8 : FVec F S10000x256 .f32 := Host.absf main_arg0
  let main_cst : FVec F S_ .f32 := constant S_ .f32 0x7F800000#32
  let main_v9 : FVec F S10000x256 .f32 := broadcastInDim S10000x256 ![] bcast_S_S10000x256 main_cst
  let main_v10 : IVec S10000x256 1 := cmpf .olt main_v8 main_v9
  let main_c_2 : IVec S_ 1 := constantI S_ 1 1#1
  let main_v11 : IVec S_ 1 := (fun x v => Host.reduce IntOp.andi x v reducesTo_S10000x256_S_d0_1 h_S_) main_v10 main_c_2
  let main_v12 : IVec S_ 1 := andi main_v7 main_v11
  let main_v13 : FVec F S256x256 .f32 := Host.absf main_arg2
  let main_cst_3 : FVec F S_ .f32 := constant S_ .f32 0x7F800000#32
  let main_v14 : FVec F S256x256 .f32 := broadcastInDim S256x256 ![] bcast_S_S256x256 main_cst_3
  let main_v15 : IVec S256x256 1 := cmpf .olt main_v13 main_v14
  let main_c_4 : IVec S_ 1 := constantI S_ 1 1#1
  let main_v16 : IVec S_ 1 := (fun x v => Host.reduce IntOp.andi x v reducesTo_S256x256_S_d0_1 h_S_) main_v15 main_c_4
  fn_part1 (F := F) main_arg3 main_arg4 main_arg5 main_arg6 main_arg7 main_arg8 main_arg9 main_arg10 main_arg11 main_arg12 main_arg13 main_arg14 main_v12 main_v16
-- ==== Kernel.lean ====
abbrev S10000x256 : Shape := ⟨2, ![10000, 256]⟩
abbrev S10000 : Shape := ⟨1, ![10000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S10240x256 : Shape := ⟨2, ![10240, 256]⟩
abbrev S10240 : Shape := ⟨1, ![10240]⟩
abbrev S10239 : Shape := ⟨1, ![10239]⟩
abbrev S40x256x1 : Shape := ⟨3, ![40, 256, 1]⟩
abbrev S1x256 : Shape := ⟨2, ![1, 256]⟩
abbrev S1x1 : Shape := ⟨2, ![1, 1]⟩
abbrev S4x256 : Shape := ⟨2, ![4, 256]⟩
abbrev S1x256x1 : Shape := ⟨3, ![1, 256, 1]⟩
abbrev S255x256 : Shape := ⟨2, ![255, 256]⟩
abbrev S255x1 : Shape := ⟨2, ![255, 1]⟩
abbrev S2x256 : Shape := ⟨2, ![2, 256]⟩
abbrev S254x256 : Shape := ⟨2, ![254, 256]⟩
abbrev S2x1 : Shape := ⟨2, ![2, 1]⟩
abbrev S254x1 : Shape := ⟨2, ![254, 1]⟩
abbrev S252x256 : Shape := ⟨2, ![252, 256]⟩
abbrev S4x1 : Shape := ⟨2, ![4, 1]⟩
abbrev S252x1 : Shape := ⟨2, ![252, 1]⟩
abbrev S8x256 : Shape := ⟨2, ![8, 256]⟩
abbrev S248x256 : Shape := ⟨2, ![248, 256]⟩
abbrev S8x1 : Shape := ⟨2, ![8, 1]⟩
abbrev S248x1 : Shape := ⟨2, ![248, 1]⟩
abbrev S16x256 : Shape := ⟨2, ![16, 256]⟩
abbrev S240x256 : Shape := ⟨2, ![240, 256]⟩
abbrev S16x1 : Shape := ⟨2, ![16, 1]⟩
abbrev S240x1 : Shape := ⟨2, ![240, 1]⟩
abbrev S32x256 : Shape := ⟨2, ![32, 256]⟩
abbrev S224x256 : Shape := ⟨2, ![224, 256]⟩
abbrev S32x1 : Shape := ⟨2, ![32, 1]⟩
abbrev S224x1 : Shape := ⟨2, ![224, 1]⟩
abbrev S64x256 : Shape := ⟨2, ![64, 256]⟩
abbrev S192x256 : Shape := ⟨2, ![192, 256]⟩
abbrev S64x1 : Shape := ⟨2, ![64, 1]⟩
abbrev S192x1 : Shape := ⟨2, ![192, 1]⟩
abbrev S128x256 : Shape := ⟨2, ![128, 256]⟩
abbrev S128x1 : Shape := ⟨2, ![128, 1]⟩
abbrev S3x256 : Shape := ⟨2, ![3, 256]⟩
abbrev S6x256 : Shape := ⟨2, ![6, 256]⟩

abbrev nBuf : Space → Nat
  | .hbm => 51
  | .vmem => 35
  | .smem => 0
  | _ => 0

abbrev bufTy : (tb : Table) → Fin (tcTables nBuf tb) → BufTy
  | .hbm, ⟨0, _⟩ => ⟨S10000x256, .f32⟩
  | .hbm, ⟨1, _⟩ => ⟨S10000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S_, .i32⟩
  | .hbm, ⟨13, _⟩ => ⟨S_, .f32⟩
  | .hbm, ⟨14, _⟩ => ⟨S10240x256, .f32⟩
  | .hbm, ⟨15, _⟩ => ⟨S_, .i32⟩
  | .hbm, ⟨16, _⟩ => ⟨S_, .i32⟩
  | .hbm, ⟨17, _⟩ => ⟨S10240, .i32⟩
  | .hbm, ⟨18, _⟩ => ⟨S10239, .i32⟩
  | .hbm, ⟨19, _⟩ => ⟨S_, .i32⟩
  | .hbm, ⟨20, _⟩ => ⟨S1, .i32⟩
  | .hbm, ⟨21, _⟩ => ⟨S10240, .i32⟩
  | .hbm, ⟨22, _⟩ => ⟨S40x256x1, .i32⟩
  | .hbm, ⟨23, _⟩ => ⟨S40x256x1, .i32⟩
  | .hbm, ⟨24, _⟩ => ⟨S256x256, .bf16⟩
  | .hbm, ⟨25, _⟩ => ⟨S256x256, .f32⟩
  | .hbm, ⟨26, _⟩ => ⟨S256x256, .f32⟩
  | .hbm, ⟨27, _⟩ => ⟨S256x256, .bf16⟩
  | .hbm, ⟨28, _⟩ => ⟨S256x256, .bf16⟩
  | .hbm, ⟨29, _⟩ => ⟨S256x256, .f32⟩
  | .hbm, ⟨30, _⟩ => ⟨S256x256, .f32⟩
  | .hbm, ⟨31, _⟩ => ⟨S256x256, .bf16⟩
  | .hbm, ⟨32, _⟩ => ⟨S256x256, .bf16⟩
  | .hbm, ⟨33, _⟩ => ⟨S256x256, .f32⟩
  | .hbm, ⟨34, _⟩ => ⟨S256x256, .f32⟩
  | .hbm, ⟨35, _⟩ => ⟨S256x256, .bf16⟩
  | .hbm, ⟨36, _⟩ => ⟨S256x256, .bf16⟩
  | .hbm, ⟨37, _⟩ => ⟨S256x256, .f32⟩
  | .hbm, ⟨38, _⟩ => ⟨S256x256, .f32⟩
  | .hbm, ⟨39, _⟩ => ⟨S256x256, .bf16⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x1, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S256x256, .f32⟩
  | .hbm, ⟨50, _⟩ => ⟨S4x256, .i32⟩
  | .local _ .vmem, ⟨0, _⟩ => ⟨S256x256, .f32⟩
  | .local _ .vmem, ⟨1, _⟩ => ⟨S256x256, .f32⟩
  | .local _ .vmem, ⟨2, _⟩ => ⟨S1x256x1, .i32⟩
  | .local _ .vmem, ⟨3, _⟩ => ⟨S1x256x1, .i32⟩
  | .local _ .vmem, ⟨4, _⟩ => ⟨S1x256x1, .i32⟩
  | .local _ .vmem, ⟨5, _⟩ => ⟨S1x256x1, .i32⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S256x256, .bf16⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S256x256, .bf16⟩
  | .local _ .vmem, ⟨14, _⟩ => ⟨S1x256, .f32⟩
  | .local _ .vmem, ⟨15, _⟩ => ⟨S256x256, .bf16⟩
  | .local _ .vmem, ⟨16, _⟩ => ⟨S256x256, .bf16⟩
  | .local _ .vmem, ⟨17, _⟩ => ⟨S1x256, .f32⟩
  | .local _ .vmem, ⟨18, _⟩ => ⟨S1x256, .f32⟩
  | .local _ .vmem, ⟨19, _⟩ => ⟨S1x1, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S4x256, .i32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S4x256, .f32⟩
  | .local _ .vmem, ⟨32, _⟩ => ⟨S4x256, .i32⟩
  | .local _ .vmem, ⟨33, _⟩ => ⟨S1x256, .f32⟩
  | .local _ .vmem, ⟨34, _⟩ => ⟨S1x1, .i32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_c_1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29_0 : Ref sig .tc := ⟨.hbm, 46, rfl⟩
abbrev main_v29_1 : Ref sig .tc := ⟨.hbm, 47, rfl⟩
abbrev main_v29_2 : Ref sig .tc := ⟨.hbm, 48, rfl⟩
abbrev main_v29_3 : Ref sig .tc := ⟨.hbm, 49, rfl⟩
abbrev main_v29_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24

abbrev nD : Nat := 1
abbrev τ : Topo := Topo.v7x

variable {F : FTy → Type} [FloatOps F]

abbrev grid0 : Pipeline.Grid := ⟨1, ![40], ![false]⟩

def k0_cond2 (i : grid0.Coords) : BitVec 1 :=
  let arg0 : BitVec 32 := BitVec.ofNat 32 (i 0).val
  let c39_i32 : BitVec 32 := 39#32
  let v404 : BitVec 1 := Scalar.cmpi .eq arg0 c39_i32
  let v405 : BitVec 32 := Scalar.extui v404
  let c0_i32_160 : BitVec 32 := 0#32
  let v406 : BitVec 1 := Scalar.cmpi .ne v405 c0_i32_160
  v406

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x256 .i32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== KernelIdeal.lean ====
variable {F : FTy → Type} [FloatOps F] [Named F]
def κ : String → Option EReal := fun
  | "neg" => some ⊥
  | _ => none
-- ==== ReferenceIdeal.lean ====
abbrev S10000x256 : Shape := ⟨2, ![10000, 256]⟩
abbrev S10000 : Shape := ⟨1, ![10000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S10000x1 : Shape := ⟨2, ![10000, 1]⟩
abbrev S1x256 : Shape := ⟨2, ![1, 256]⟩
abbrev S10000x256x1 : Shape := ⟨3, ![10000, 256, 1]⟩
abbrev S10000x1x256 : Shape := ⟨3, ![10000, 1, 256]⟩
abbrev S10000x256x256 : Shape := ⟨3, ![10000, 256, 256]⟩
abbrev S1x1 : Shape := ⟨2, ![1, 1]⟩
abbrev S10000x1x1 : Shape := ⟨3, ![10000, 1, 1]⟩
abbrev S1x10000 : Shape := ⟨2, ![1, 10000]⟩
abbrev S10000x10000 : Shape := ⟨2, ![10000, 10000]⟩
abbrev S256x10000 : Shape := ⟨2, ![256, 10000]⟩
abbrev S1x256x10000 : Shape := ⟨3, ![1, 256, 10000]⟩
abbrev S3 : Shape := ⟨1, ![3]⟩
abbrev S3x1 : Shape := ⟨2, ![3, 1]⟩
abbrev S3x10000 : Shape := ⟨2, ![3, 10000]⟩
abbrev S3x1x10000 : Shape := ⟨3, ![3, 1, 10000]⟩
abbrev S3x256x10000 : Shape := ⟨3, ![3, 256, 10000]⟩
abbrev S1x1x10000 : Shape := ⟨3, ![1, 1, 10000]⟩
abbrev S3x256 : Shape := ⟨2, ![3, 256]⟩
abbrev S4x256 : Shape := ⟨2, ![4, 256]⟩

abbrev nBuf : Space → Nat
  | .hbm => 226
  | .vmem => 0
  | .smem => 0
  | _ => 0

abbrev hbmTy0_0 (i : Nat) : BufTy := match i % 128 with
  | 0 => ⟨S10000x256, .f32⟩
  | 1 => ⟨S10000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x1, .f32⟩
  | 11 => ⟨S1, .f32⟩
  | 12 => ⟨S_, .i32⟩
  | 13 => ⟨S10000, .i32⟩
  | 14 => ⟨S_, .i32⟩
  | 15 => ⟨S256, .i32⟩
  | 16 => ⟨S10000x1, .i32⟩
  | 17 => ⟨S256, .i32⟩
  | 18 => ⟨S10000x1, .i32⟩
  | 19 => ⟨S256, .i32⟩
  | 20 => ⟨S1x256, .i32⟩
  | 21 => ⟨S10000x256, .i32⟩
  | 22 => ⟨S10000x256, .i32⟩
  | 23 => ⟨S10000x256, .i1⟩
  | 24 => ⟨S10000x256x1, .i1⟩
  | 25 => ⟨S10000x1x256, .f32⟩
  | 26 => ⟨S_, .f32⟩
  | 27 => ⟨S_, .f32⟩
  | 28 => ⟨S10000x256x256, .i1⟩
  | 29 => ⟨S10000x256x256, .f32⟩
  | 30 => ⟨S10000x256x256, .f32⟩
  | 31 => ⟨S10000x256x256, .f32⟩
  | 32 => ⟨S_, .f32⟩
  | 33 => ⟨S256x256, .f32⟩
  | 34 => ⟨S256x256, .f32⟩
  | 35 => ⟨S_, .f32⟩
  | 36 => ⟨S256x256, .f32⟩
  | 37 => ⟨S256x256, .i1⟩
  | 38 => ⟨S_, .f32⟩
  | 39 => ⟨S_, .f32⟩
  | 40 => ⟨S256x256, .f32⟩
  | 41 => ⟨S256x256, .f32⟩
  | 42 => ⟨S_, .f32⟩
  | 43 => ⟨S256x256, .f32⟩
  | 44 => ⟨S10000x1, .i32⟩
  | 45 => ⟨S256x256, .f32⟩
  | 46 => ⟨S_, .i32⟩
  | 47 => ⟨S256, .i32⟩
  | 48 => ⟨S256, .i32⟩
  | 49 => ⟨S256, .f32⟩
  | 50 => ⟨S256x1, .f32⟩
  | 51 => ⟨S256x256, .f32⟩
  | 52 => ⟨S256x256, .f32⟩
  | 53 => ⟨S10000x256, .f32⟩
  | 54 => ⟨S1x256, .f32⟩
  | 55 => ⟨S10000x256, .f32⟩
  | 56 => ⟨S10000x256, .f32⟩
  | 57 => ⟨S_, .f32⟩
  | 58 => ⟨S_, .f32⟩
  | 59 => ⟨S10000x256, .f32⟩
  | 60 => ⟨S10000x256, .i1⟩
  | 61 => ⟨S_, .f32⟩
  | 62 => ⟨S10000x256, .f32⟩
  | 63 => ⟨S10000x256, .f32⟩
  | 64 => ⟨S10000x256, .f32⟩
  | 65 => ⟨S10000x256, .f32⟩
  | 66 => ⟨S1x256, .f32⟩
  | 67 => ⟨S10000x256, .f32⟩
  | 68 => ⟨S10000x256, .f32⟩
  | 69 => ⟨S_, .f32⟩
  | 70 => ⟨S_, .f32⟩
  | 71 => ⟨S10000x256, .f32⟩
  | 72 => ⟨S10000x256, .i1⟩
  | 73 => ⟨S_, .f32⟩
  | 74 => ⟨S10000x256, .f32⟩
  | 75 => ⟨S10000x256, .f32⟩
  | 76 => ⟨S10000x256, .f32⟩
  | 77 => ⟨S10000x256, .f32⟩
  | 78 => ⟨S1x256, .f32⟩
  | 79 => ⟨S10000x256, .f32⟩
  | 80 => ⟨S10000x256, .f32⟩
  | 81 => ⟨S_, .f32⟩
  | 82 => ⟨S_, .f32⟩
  | 83 => ⟨S10000x256, .f32⟩
  | 84 => ⟨S10000x256, .i1⟩
  | 85 => ⟨S_, .f32⟩
  | 86 => ⟨S10000x256, .f32⟩
  | 87 => ⟨S10000x256, .f32⟩
  | 88 => ⟨S10000x256, .f32⟩
  | 89 => ⟨S10000x256, .f32⟩
  | 90 => ⟨S1x256, .f32⟩
  | 91 => ⟨S10000x256, .f32⟩
  | 92 => ⟨S10000x256, .f32⟩
  | 93 => ⟨S_, .f32⟩
  | 94 => ⟨S_, .f32⟩
  | 95 => ⟨S10000x256, .f32⟩
  | 96 => ⟨S10000x256, .i1⟩
  | 97 => ⟨S_, .f32⟩
  | 98 => ⟨S10000x256, .f32⟩
  | 99 => ⟨S10000x256, .f32⟩
  | 100 => ⟨S10000x256, .f32⟩
  | 101 => ⟨S10000x1, .f32⟩
  | 102 => ⟨S1x1, .f32⟩
  | 103 => ⟨S10000x1, .f32⟩
  | 104 => ⟨S10000x1, .f32⟩
  | 105 => ⟨S10000x1, .i32⟩
  | 106 => ⟨S256, .i32⟩
  | 107 => ⟨S1x256, .i32⟩
  | 108 => ⟨S10000x256, .i32⟩
  | 109 => ⟨S10000x256, .i32⟩
  | 110 => ⟨S10000x256, .i1⟩
  | 111 => ⟨S10000x256x1, .i1⟩
  | 112 => ⟨S10000x1x1, .f32⟩
  | 113 => ⟨S_, .f32⟩
  | 114 => ⟨S_, .f32⟩
  | 115 => ⟨S10000x256x1, .f32⟩
  | 116 => ⟨S10000x256x1, .f32⟩
  | 117 => ⟨S10000x256x1, .f32⟩
  | 118 => ⟨S_, .f32⟩
  | 119 => ⟨S256x1, .f32⟩
  | 120 => ⟨S256x1, .f32⟩
  | 121 => ⟨S_, .f32⟩
  | 122 => ⟨S256x1, .f32⟩
  | 123 => ⟨S256x1, .i1⟩
  | 124 => ⟨S_, .f32⟩
  | 125 => ⟨S_, .f32⟩
  | 126 => ⟨S256x1, .f32⟩
  | 127 => ⟨S256x1, .f32⟩
  | _ => ⟨S10000x256, .f32⟩

abbrev hbmTy0_1 (i : Nat) : BufTy := match i % 128 with
  | 0 => ⟨S_, .i32⟩
  | 1 => ⟨S10000, .i32⟩
  | 2 => ⟨S10000, .i1⟩
  | 3 => ⟨S_, .i32⟩
  | 4 => ⟨S10000, .i32⟩
  | 5 => ⟨S10000, .i32⟩
  | 6 => ⟨S10000, .i32⟩
  | 7 => ⟨S10000x1, .i32⟩
  | 8 => ⟨S10000x1, .f32⟩
  | 9 => ⟨S10000x1, .f32⟩
  | 10 => ⟨S10000x1, .f32⟩
  | 11 => ⟨S_, .f32⟩
  | 12 => ⟨S256x1, .f32⟩
  | 13 => ⟨S10000x1, .i32⟩
  | 14 => ⟨S256x1, .f32⟩
  | 15 => ⟨S_, .f32⟩
  | 16 => ⟨S256x1, .f32⟩
  | 17 => ⟨S256x1, .f32⟩
  | 18 => ⟨S_, .i32⟩
  | 19 => ⟨S10000, .i32⟩
  | 20 => ⟨S10000, .i1⟩
  | 21 => ⟨S_, .i32⟩
  | 22 => ⟨S10000, .i32⟩
  | 23 => ⟨S10000, .i32⟩
  | 24 => ⟨S10000, .i32⟩
  | 25 => ⟨S10000x1, .i32⟩
  | 26 => ⟨S10000x1, .f32⟩
  | 27 => ⟨S10000x1, .f32⟩
  | 28 => ⟨S10000x256, .f32⟩
  | 29 => ⟨S10000x256, .f32⟩
  | 30 => ⟨S_, .f32⟩
  | 31 => ⟨S256x256, .f32⟩
  | 32 => ⟨S10000x1, .i32⟩
  | 33 => ⟨S256x256, .f32⟩
  | 34 => ⟨S10000x1, .f32⟩
  | 35 => ⟨S10000, .f32⟩
  | 36 => ⟨S10000, .i32⟩
  | 37 => ⟨S1x10000, .f32⟩
  | 38 => ⟨S10000x1, .f32⟩
  | 39 => ⟨S10000x10000, .f32⟩
  | 40 => ⟨S10000x10000, .f32⟩
  | 41 => ⟨S10000x10000, .i1⟩
  | 42 => ⟨S1x10000, .f32⟩
  | 43 => ⟨S10000x1, .f32⟩
  | 44 => ⟨S10000x10000, .f32⟩
  | 45 => ⟨S10000x10000, .f32⟩
  | 46 => ⟨S10000x10000, .i1⟩
  | 47 => ⟨S1x10000, .i32⟩
  | 48 => ⟨S10000x1, .i32⟩
  | 49 => ⟨S10000x10000, .i32⟩
  | 50 => ⟨S10000x10000, .i32⟩
  | 51 => ⟨S10000x10000, .i1⟩
  | 52 => ⟨S10000x10000, .i1⟩
  | 53 => ⟨S10000x10000, .i1⟩
  | 54 => ⟨S1x10000, .i32⟩
  | 55 => ⟨S10000x1, .i32⟩
  | 56 => ⟨S10000x10000, .i32⟩
  | 57 => ⟨S10000x10000, .i32⟩
  | 58 => ⟨S10000x10000, .i1⟩
  | 59 => ⟨S10000x10000, .i1⟩
  | 60 => ⟨S10000x10000, .i32⟩
  | 61 => ⟨S_, .i32⟩
  | 62 => ⟨S10000, .i32⟩
  | 63 => ⟨S1x10000, .i32⟩
  | 64 => ⟨S256, .i32⟩
  | 65 => ⟨S256x1, .i32⟩
  | 66 => ⟨S256x10000, .i32⟩
  | 67 => ⟨S256x10000, .i32⟩
  | 68 => ⟨S256x10000, .i1⟩
  | 69 => ⟨S1x256x10000, .i1⟩
  | 70 => ⟨S1x10000, .i32⟩
  | 71 => ⟨S3, .i32⟩
  | 72 => ⟨S3x1, .i32⟩
  | 73 => ⟨S3x10000, .i32⟩
  | 74 => ⟨S3x10000, .i32⟩
  | 75 => ⟨S3x10000, .i1⟩
  | 76 => ⟨S3x1x10000, .i1⟩
  | 77 => ⟨S3x256x10000, .i1⟩
  | 78 => ⟨S3x256x10000, .i1⟩
  | 79 => ⟨S3x256x10000, .i1⟩
  | 80 => ⟨S1x1x10000, .i32⟩
  | 81 => ⟨S_, .i32⟩
  | 82 => ⟨S_, .i32⟩
  | 83 => ⟨S3x256x10000, .i32⟩
  | 84 => ⟨S3x256x10000, .i32⟩
  | 85 => ⟨S3x256x10000, .i32⟩
  | 86 => ⟨S_, .i32⟩
  | 87 => ⟨S3x256, .i32⟩
  | 88 => ⟨S_, .i32⟩
  | 89 => ⟨S256, .i32⟩
  | 90 => ⟨S256, .i1⟩
  | 91 => ⟨S_, .i32⟩
  | 92 => ⟨S_, .i32⟩
  | 93 => ⟨S256, .i32⟩
  | 94 => ⟨S256, .i32⟩
  | 95 => ⟨S256, .i32⟩
  | 96 => ⟨S1x256, .i32⟩
  | 97 => ⟨S4x256, .i32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_c_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_call2_cst : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_7 : Ref sig .tc := ⟨.hbm, 69, rfl⟩
abbrev main_call3_cst : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_8 : Ref sig .tc := ⟨.hbm, 81, rfl⟩
abbrev main_call4_cst : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_9 : Ref sig .tc := ⟨.hbm, 93, rfl⟩
abbrev main_call5_cst : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_10 : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_v59 : Ref sig .tc := ⟨.hbm, 117, rfl⟩
abbrev main_cst_11 : Ref sig .tc := ⟨.hbm, 118, rfl⟩
abbrev main_v60 : Ref sig .tc := ⟨.hbm, 119, rfl⟩
abbrev main_v61 : Ref sig .tc := ⟨.hbm, 120, rfl⟩
abbrev main_cst_12 : Ref sig .tc := ⟨.hbm, 121, rfl⟩
abbrev main_v62 : Ref sig .tc := ⟨.hbm, 122, rfl⟩
abbrev main_v63 : Ref sig .tc := ⟨.hbm, 123, rfl⟩
abbrev main_cst_13 : Ref sig .tc := ⟨.hbm, 124, rfl⟩
abbrev main_call7_v0 : Ref sig .tc := ⟨.hbm, 125, rfl⟩
abbrev main_call7_v1 : Ref sig .tc := ⟨.hbm, 126, rfl⟩
abbrev main_v64 : Ref sig .tc := ⟨.hbm, 127, rfl⟩
abbrev main_c_14 : Ref sig .tc := ⟨.hbm, 128, rfl⟩
abbrev main_v65 : Ref sig .tc := ⟨.hbm, 129, rfl⟩
abbrev main_v66 : Ref sig .tc := ⟨.hbm, 130, rfl⟩
abbrev main_c_15 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_cst_16 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_cst_17 : Ref sig .tc := ⟨.hbm, 143, rfl⟩
abbrev main_v77 : Ref sig .tc := ⟨.hbm, 144, rfl⟩
abbrev main_v78 : Ref sig .tc := ⟨.hbm, 145, rfl⟩
abbrev main_c_18 : Ref sig .tc := ⟨.hbm, 146, rfl⟩
abbrev main_v79 : Ref sig .tc := ⟨.hbm, 147, rfl⟩
abbrev main_v80 : Ref sig .tc := ⟨.hbm, 148, rfl⟩
abbrev main_c_19 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_cst_20 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_c_21 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_c_22 : Ref sig .tc := ⟨.hbm, 209, rfl⟩
abbrev main_call8_v0 : Ref sig .tc := ⟨.hbm, 210, rfl⟩
abbrev main_call8_v1 : Ref sig .tc := ⟨.hbm, 211, rfl⟩
abbrev main_call8_v2 : Ref sig .tc := ⟨.hbm, 212, rfl⟩
abbrev main_v138 : Ref sig .tc := ⟨.hbm, 213, rfl⟩
abbrev main_c_23 : Ref sig .tc := ⟨.hbm, 214, rfl⟩
abbrev main_v139 : Ref sig .tc := ⟨.hbm, 215, rfl⟩
abbrev main_c_24 : Ref sig .tc := ⟨.hbm, 216, rfl⟩
abbrev main_v140 : Ref sig .tc := ⟨.hbm, 217, rfl⟩
abbrev main_v141 : Ref sig .tc := ⟨.hbm, 218, rfl⟩
abbrev main_c_25 : Ref sig .tc := ⟨.hbm, 219, rfl⟩
abbrev main_c_26 : Ref sig .tc := ⟨.hbm, 220, rfl⟩
abbrev main_call9_v0 : Ref sig .tc := ⟨.hbm, 221, rfl⟩
abbrev main_call9_v1 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩

abbrev nD : Nat := 1
abbrev τ : Topo := Topo.v7x

variable {F : FTy → Type} [FloatOps F]
-- ==== Kernel2.lean ====
abbrev S10000x256 : Shape := ⟨2, ![10000, 256]⟩
abbrev S4x256 : Shape := ⟨2, ![4, 256]⟩
abbrev S256x256 : Shape := ⟨2, ![256, 256]⟩
abbrev S1792x256 : Shape := ⟨2, ![1792, 256]⟩
abbrev S256 : Shape := ⟨1, ![256]⟩
abbrev S_ : Shape := ⟨0, ![]⟩
abbrev S10240x256 : Shape := ⟨2, ![10240, 256]⟩
abbrev S7x256x256 : Shape := ⟨3, ![7, 256, 256]⟩
abbrev S1x256 : Shape := ⟨2, ![1, 256]⟩
abbrev S1x1 : Shape := ⟨2, ![1, 1]⟩
abbrev S1x256x256 : Shape := ⟨3, ![1, 256, 256]⟩

abbrev nBuf : Space → Nat
  | .hbm => 46
  | .vmem => 24
  | .smem => 1
  | _ => 0

abbrev bufTy : (tb : Table) → Fin (tcTables nBuf tb) → BufTy
  | .hbm, ⟨0, _⟩ => ⟨S10000x256, .f32⟩
  | .hbm, ⟨1, _⟩ => ⟨S4x256, .i32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S1792x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S_, .i32⟩
  | .hbm, ⟨17, _⟩ => ⟨S_, .f32⟩
  | .hbm, ⟨18, _⟩ => ⟨S10240x256, .f32⟩
  | .hbm, ⟨19, _⟩ => ⟨S7x256x256, .f32⟩
  | .hbm, ⟨20, _⟩ => ⟨S7x256x256, .bf16⟩
  | .hbm, ⟨21, _⟩ => ⟨S7x256x256, .f32⟩
  | .hbm, ⟨22, _⟩ => ⟨S7x256x256, .f32⟩
  | .hbm, ⟨23, _⟩ => ⟨S7x256x256, .bf16⟩
  | .hbm, ⟨24, _⟩ => ⟨S256x256, .bf16⟩
  | .hbm, ⟨25, _⟩ => ⟨S256x256, .f32⟩
  | .hbm, ⟨26, _⟩ => ⟨S256x256, .f32⟩
  | .hbm, ⟨27, _⟩ => ⟨S256x256, .bf16⟩
  | .hbm, ⟨28, _⟩ => ⟨S256x256, .bf16⟩
  | .hbm, ⟨29, _⟩ => ⟨S256x256, .f32⟩
  | .hbm, ⟨30, _⟩ => ⟨S256x256, .f32⟩
  | .hbm, ⟨31, _⟩ => ⟨S256x256, .bf16⟩
  | .hbm, ⟨32, _⟩ => ⟨S256x256, .bf16⟩
  | .hbm, ⟨33, _⟩ => ⟨S256x256, .f32⟩
  | .hbm, ⟨34, _⟩ => ⟨S256x256, .f32⟩
  | .hbm, ⟨35, _⟩ => ⟨S256x256, .bf16⟩
  | .hbm, ⟨36, _⟩ => ⟨S256x256, .bf16⟩
  | .hbm, ⟨37, _⟩ => ⟨S256x256, .f32⟩
  | .hbm, ⟨38, _⟩ => ⟨S256x256, .f32⟩
  | .hbm, ⟨39, _⟩ => ⟨S256x256, .bf16⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S256x256, .f32⟩
  | .local _ .vmem, ⟨0, _⟩ => ⟨S10240x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S7x256x256, .bf16⟩
  | .local _ .vmem, ⟨6, _⟩ => ⟨S7x256x256, .bf16⟩
  | .local _ .vmem, ⟨7, _⟩ => ⟨S1x256, .f32⟩
  | .local _ .vmem, ⟨8, _⟩ => ⟨S256x256, .bf16⟩
  | .local _ .vmem, ⟨9, _⟩ => ⟨S256x256, .bf16⟩
  | .local _ .vmem, ⟨10, _⟩ => ⟨S1x256, .f32⟩
  | .local _ .vmem, ⟨11, _⟩ => ⟨S256x256, .bf16⟩
  | .local _ .vmem, ⟨12, _⟩ => ⟨S256x256, .bf16⟩
  | .local _ .vmem, ⟨13, _⟩ => ⟨S1x256, .f32⟩
  | .local _ .vmem, ⟨14, _⟩ => ⟨S256x256, .bf16⟩
  | .local _ .vmem, ⟨15, _⟩ => ⟨S256x256, .bf16⟩
  | .local _ .vmem, ⟨16, _⟩ => ⟨S1x256, .f32⟩
  | .local _ .vmem, ⟨17, _⟩ => ⟨S256x256, .bf16⟩
  | .local _ .vmem, ⟨18, _⟩ => ⟨S256x256, .bf16⟩
  | .local _ .vmem, ⟨19, _⟩ => ⟨S1x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .smem, ⟨0, _⟩ => ⟨S4x256, .i32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg20_0 : Ref sig .tc := ⟨.vmem, 19, rfl⟩
abbrev cc0_stg21_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 2 → Nat :=
  let c0_118 : Index := 0#32
  let c0_i32 : BitVec 32 := 0#32
  let c1_i32 : BitVec 32 := 1#32
  let arg26 : BitVec 32 := Scf.iv c0_i32 c1_i32 k0_t1
  let v198 : Index := Scalar.indexCast arg26
  ![0, v198.toNat]
def k0_off2 (v199 : BitVec 32) : Fin 2 → Nat :=
  let v200 : Index := Scalar.indexCast v199
  let c0_119 : Index := 0#32
  ![v200.toNat, 0]

def k0_chk1 (v199 : BitVec 32) : Prop :=
  (∀ a, (k0_off2 v199) a + S1x256.size a ≤ S10240x256.size a)
theorem k0_off2_inb : ∀ (v199 : BitVec 32) (k0_hw1 : k0_chk1 v199), ∀ a, (k0_off2 v199) a + S1x256.size a ≤ S10240x256.size a := fun v199 k0_hw1 => k0_hw1

def k0_off3 (k0_t1 : Fin k0_t1_loop.trips) : Fin 2 → Nat :=
  let c0_i32 : BitVec 32 := 0#32
  let c1_i32 : BitVec 32 := 1#32
  let arg26 : BitVec 32 := Scf.iv c0_i32 c1_i32 k0_t1
  let v203 : Index := Scalar.indexCast arg26
  let c0_120 : Index := 0#32
  ![v203.toNat, 0]
def k0_off4 (k0_t1 : Fin k0_t1_loop.trips) : Fin 2 → Nat :=
  let c1_121 : Index := 1#32
  let c0_i32 : BitVec 32 := 0#32
  let c1_i32 : BitVec 32 := 1#32
  let arg26 : BitVec 32 := Scf.iv c0_i32 c1_i32 k0_t1
  let v207 : Index := Scalar.indexCast arg26
  ![1, v207.toNat]
def k0_off5 (v208 : BitVec 32) : Fin 2 → Nat :=
  let v209 : Index := Scalar.indexCast v208
  let c0_122 : Index := 0#32
  ![v209.toNat, 0]

def k0_chk2 (v208 : BitVec 32) : Prop :=
  (∀ a, (k0_off5 v208) a + S1x256.size a ≤ S10240x256.size a)
theorem k0_off5_inb : ∀ (v208 : BitVec 32) (k0_hw2 : k0_chk2 v208), ∀ a, (k0_off5 v208) a + S1x256.size a ≤ S10240x256.size a := fun v208 k0_hw2 => k0_hw2

def k0_off6 (k0_t1 : Fin k0_t1_loop.trips) : Fin 2 → Nat :=
  let c0_i32 : BitVec 32 := 0#32
  let c1_i32 : BitVec 32 := 1#32
  let arg26 : BitVec 32 := Scf.iv c0_i32 c1_i32 k0_t1
  let v212 : Index := Scalar.indexCast arg26
  let c0_123 : Index := 0#32
  ![v212.toNat, 0]
def k0_off7 (k0_t1 : Fin k0_t1_loop.trips) : Fin 2 → Nat :=
  let c2_124 : Index := 2#32
  let c0_i32 : BitVec 32 := 0#32
  let c1_i32 : BitVec 32 := 1#32
  let arg26 : BitVec 32 := Scf.iv c0_i32 c1_i32 k0_t1
  let v216 : Index := Scalar.indexCast arg26
  ![2, v216.toNat]
def k0_off8 (v217 : BitVec 32) : Fin 2 → Nat :=
  let v218 : Index := Scalar.indexCast v217
  let c0_125 : Index := 0#32
  ![v218.toNat, 0]

def k0_chk3 (v217 : BitVec 32) : Prop :=
  (∀ a, (k0_off8 v217) a + S1x256.size a ≤ S10240x256.size a)
theorem k0_off8_inb : ∀ (v217 : BitVec 32) (k0_hw3 : k0_chk3 v217), ∀ a, (k0_off8 v217) a + S1x256.size a ≤ S10240x256.size a := fun v217 k0_hw3 => k0_hw3

def k0_off9 (k0_t1 : Fin k0_t1_loop.trips) : Fin 2 → Nat :=
  let c0_i32 : BitVec 32 := 0#32
  let c1_i32 : BitVec 32 := 1#32
  let arg26 : BitVec 32 := Scf.iv c0_i32 c1_i32 k0_t1
  let v221 : Index := Scalar.indexCast arg26
  let c0_126 : Index := 0#32
  ![v221.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10240x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference2Ideal.lean ====
abbrev S10000x256 : Shape := ⟨2, ![10000, 256]⟩
abbrev S4x256 : Shape := ⟨2, ![4, 256]⟩
abbrev S256x256 : Shape := ⟨2, ![256, 256]⟩
abbrev S1792x256 : Shape := ⟨2, ![1792, 256]⟩
abbrev S256 : Shape := ⟨1, ![256]⟩
abbrev S_ : Shape := ⟨0, ![]⟩
abbrev S240x256 : Shape := ⟨2, ![240, 256]⟩
abbrev S10240x256 : Shape := ⟨2, ![10240, 256]⟩
abbrev S1x256 : Shape := ⟨2, ![1, 256]⟩
abbrev S256x1 : Shape := ⟨2, ![256, 1]⟩
abbrev S256x1792 : Shape := ⟨2, ![256, 1792]⟩

abbrev nBuf : Space → Nat
  | .hbm => 105
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S4x256, .i32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S1792x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S_, .f32⟩
  | .hbm, ⟨17, _⟩ => ⟨S240x256, .f32⟩
  | .hbm, ⟨18, _⟩ => ⟨S10240x256, .f32⟩
  | .hbm, ⟨19, _⟩ => ⟨S1x256, .i32⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S256x1, .i32⟩
  | .hbm, ⟨29, _⟩ => ⟨S256x256, .f32⟩
  | .hbm, ⟨30, _⟩ => ⟨S1x256, .i32⟩
  | .hbm, ⟨31, _⟩ => ⟨S256, .i32⟩
  | .hbm, ⟨32, _⟩ => ⟨S_, .i32⟩
  | .hbm, ⟨33, _⟩ => ⟨S256, .i32⟩
  | .hbm, ⟨34, _⟩ => ⟨S256, .i1⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S256x1, .i32⟩
  | .hbm, ⟨40, _⟩ => ⟨S256x256, .f32⟩
  | .hbm, ⟨41, _⟩ => ⟨S1x256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S256, .i32⟩
  | .hbm, ⟨50, _⟩ => ⟨S256x1, .i32⟩
  | .hbm, ⟨51, _⟩ => ⟨S256x256, .f32⟩
  | .hbm, ⟨52, _⟩ => ⟨S256x1792, .f32⟩
  | .hbm, ⟨53, _⟩ => ⟨S256x256, .f32⟩
  | .hbm, ⟨54, _⟩ => ⟨S1x256, .f32⟩
  | .hbm, ⟨55, _⟩ => ⟨S256x256, .f32⟩
  | .hbm, ⟨56, _⟩ => ⟨S256x256, .f32⟩
  | .hbm, ⟨57, _⟩ => ⟨S_, .f32⟩
  | .hbm, ⟨58, _⟩ => ⟨S_, .f32⟩
  | .hbm, ⟨59, _⟩ => ⟨S256x256, .f32⟩
  | .hbm, ⟨60, _⟩ => ⟨S256x256, .i1⟩
  | .hbm, ⟨61, _⟩ => ⟨S_, .f32⟩
  | .hbm, ⟨62, _⟩ => ⟨S256x256, .f32⟩
  | .hbm, ⟨63, _⟩ => ⟨S256x256, .f32⟩
  | .hbm, ⟨64, _⟩ => ⟨S256x256, .f32⟩
  | .hbm, ⟨65, _⟩ => ⟨S256x256, .f32⟩
  | .hbm, ⟨66, _⟩ => ⟨S1x256, .f32⟩
  | .hbm, ⟨67, _⟩ => ⟨S256x256, .f32⟩
  | .hbm, ⟨68, _⟩ => ⟨S256x256, .f32⟩
  | .hbm, ⟨69, _⟩ => ⟨S_, .f32⟩
  | .hbm, ⟨70, _⟩ => ⟨S_, .f32⟩
  | .hbm, ⟨71, _⟩ => ⟨S256x256, .f32⟩
  | .hbm, ⟨72, _⟩ => ⟨S256x256, .i1⟩
  | .hbm, ⟨73, _⟩ => ⟨S_, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S256x256, .f32⟩
  | .hbm, ⟨78, _⟩ => ⟨S1x256, .f32⟩
  | .hbm, ⟨79, _⟩ => ⟨S256x256, .f32⟩
  | .hbm, ⟨80, _⟩ => ⟨S256x256, .f32⟩
  | .hbm, ⟨81, _⟩ => ⟨S_, .f32⟩
  | .hbm, ⟨82, _⟩ => ⟨S_, .f32⟩
  | .hbm, ⟨83, _⟩ => ⟨S256x256, .f32⟩
  | .hbm, ⟨84, _⟩ => ⟨S256x256, .i1⟩
  | .hbm, ⟨85, _⟩ => ⟨S_, .f32⟩
  | .hbm, ⟨86, _⟩ => ⟨S256x256, .f32⟩
  | .hbm, ⟨87, _⟩ => ⟨S256x256, .f32⟩
  | .hbm, ⟨88, _⟩ => ⟨S256x256, .f32⟩
  | .hbm, ⟨89, _⟩ => ⟨S256x256, .f32⟩
  | .hbm, ⟨90, _⟩ => ⟨S1x256, .f32⟩
  | .hbm, ⟨91, _⟩ => ⟨S256x256, .f32⟩
  | .hbm, ⟨92, _⟩ => ⟨S256x256, .f32⟩
  | .hbm, ⟨93, _⟩ => ⟨S_, .f32⟩
  | .hbm, ⟨94, _⟩ => ⟨S_, .f32⟩
  | .hbm, ⟨95, _⟩ => ⟨S256x256, .f32⟩
  | .hbm, ⟨96, _⟩ => ⟨S256x256, .i1⟩
  | .hbm, ⟨97, _⟩ => ⟨S_, .f32⟩
  | .hbm, ⟨98, _⟩ => ⟨S256x256, .f32⟩
  | .hbm, ⟨99, _⟩ => ⟨S256x256, .f32⟩
  | .hbm, ⟨100, _⟩ => ⟨S256x256, .f32⟩
  | .hbm, ⟨101, _⟩ => ⟨S256x256, .f32⟩
  | .hbm, ⟨102, _⟩ => ⟨S1x256, .f32⟩
  | .hbm, ⟨103, _⟩ => ⟨S256x256, .f32⟩
  | .hbm, ⟨104, _⟩ => ⟨S256x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_6 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_7 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_8 : Ref sig .tc := ⟨.hbm, 93, rfl⟩
abbrev main_call3_cst : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩

abbrev nD : Nat := 1
abbrev τ : Topo := Topo.v7x

variable {F : FTy → Type} [FloatOps F]
-- ==== Proof.Hyps2.lean ====
/- The second call reads rows of `x` at words it loads from `topi`. Its body assumes that each such row lies inside the padded
   array; here that assumption is derived from the precondition that every word of its first three rows lies in [0, 10000]. -/
module

public import proofs.«01_k».proof.Defs
public import proofs.«01_k».proof.Proof.Gen.Kernel2
public import proofs.«01_k».proof.Proof.Gen.Kernel2Ideal
public import proofs.«01_k».proof.Proof.Gen.Kernel2.Frame.Runs
public import proofs.«01_k».proof.Proof.Gen.Kernel2Ideal.Frame.Runs
public import proofs.«01_k».proof.Proof.Gen.Pre_in_range
public import proofs.«01_k».proof.Proof.Gen.Pre_in_range_finite
public import Idealize.ShloMosaic.Lib.ReduceAll
public import Idealize.ShloMosaic.Lib.Pointwise
public import Idealize.ShloMosaic.Lib.Pipeline.ValueKit.Point

@[expose] public section

namespace Cert.Hyps2

open Idealize.ShloMosaic Idealize.ShloMosaic.TcCoe

/-- A word that is, as a signed number, between 0 and 10000 is at most 10000 as an unsigned number. -/
theorem word_bound (v : BitVec 32) (h : IntOp.andi (IntOp.cmpi .sge v 0#32) (IntOp.cmpi .sle v 10000#32) = 1#1) :
    v.toNat ≤ 10000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true] at h
  obtain ⟨hge, hle⟩ := h
  simp only [BitVec.sle, BitVec.slt, decide_eq_true_eq, BitVec.toInt, BitVec.toNat_ofNat] at hge hle
  omega

/-- The precondition `in_range` bounds every word of the index argument's first three rows. -/
theorem bound_of_pre {F : FTy → Type} [FloatOps F] (a0 : FVec F Pre_in_range.S10000x256 .f32) (a1 : IVec Pre_in_range.S4x256 32)
    (a2 a3 a4 a5 : FVec F Pre_in_range.S256x256 .f32) (a6 : FVec F Pre_in_range.S1792x256 .f32) (a7 : FVec F Pre_in_range.S256 .f32)
    (a8 : FVec F Pre_in_range.S256x256 .f32) (a9 : FVec F Pre_in_range.S256 .f32)
    (a10 : FVec F Pre_in_range.S256x256 .f32) (a11 : FVec F Pre_in_range.S256 .f32)
    (a12 : FVec F Pre_in_range.S256x256 .f32) (a13 : FVec F Pre_in_range.S256 .f32)
    (a14 : FVec F Pre_in_range.S256x256 .f32) (a15 : FVec F Pre_in_range.S256 .f32)
    (h : Pre_in_range.fn a0 a1 a2 a3 a4 a5 a6 a7 a8 a9 a10 a11 a12 a13 a14 a15 = fun _ => 1#1) (k : Fin 4) (hk : k.val < 3)
    (b : Fin 256) : (a1 (ix2 k b)).toNat ≤ 10000 := by
  have e := congrFun h (fun i => i.elim0)
  dsimp only [Pre_in_range.fn] at e
  haveI : Subsingleton Pre_in_range.S_.Idx := ⟨fun a b => funext fun i => i.elim0⟩
  have hy := Host.reduce_andi_all _ _ _ _ _ e (ix2 ⟨k.val, hk⟩ b)
  have hx : extractStridedSlice Pre_in_range.S3x256 ![0, 0] a1 Pre_in_range.Facts.slices_S4x256_S3x256_0_0 (ix2 ⟨k.val, hk⟩ b)
      = a1 (ix2 k b) := by
    refine congrArg a1 (funext fun d => ?_)
    fin_cases d <;> exact Fin.ext (by simp)
  have hz := word_bound _ hy
  rwa [hx] at hz

/-- The same of the stronger precondition, its finiteness part dropped. -/
theorem fn_of_finite {F : FTy → Type} [FloatOps F] (a0 : FVec F Pre_in_range.S10000x256 .f32) (a1 : IVec Pre_in_range.S4x256 32)
    (a2 a3 a4 a5 : FVec F Pre_in_range.S256x256 .f32) (a6 : FVec F Pre_in_range.S1792x256 .f32) (a7 : FVec F Pre_in_range.S256 .f32)
    (a8 : FVec F Pre_in_range.S256x256 .f32) (a9 : FVec F Pre_in_range.S256 .f32)
    (a10 : FVec F Pre_in_range.S256x256 .f32) (a11 : FVec F Pre_in_range.S256 .f32)
    (a12 : FVec F Pre_in_range.S256x256 .f32) (a13 : FVec F Pre_in_range.S256 .f32)
    (a14 : FVec F Pre_in_range.S256x256 .f32) (a15 : FVec F Pre_in_range.S256 .f32)
    (h : Pre_in_range_finite.fn a0 a1 a2 a3 a4 a5 a6 a7 a8 a9 a10 a11 a12 a13 a14 a15 = fun _ => 1#1) :
    Pre_in_range.fn a0 a1 a2 a3 a4 a5 a6 a7 a8 a9 a10 a11 a12 a13 a14 a15 = fun _ => 1#1 := by
  have and1 : ∀ a b : BitVec 1, IntOp.andi a b = 1#1 → a = 1#1 := by decide
  funext j
  have e := congrFun h j
  dsimp only [Pre_in_range_finite.fn, Pre_in_range_finite.fn_part1, Pre_in_range_finite.fn_part2, Pre_in_range_finite.fn_part3, Pre_in_range_finite.fn_part4] at e
  iterate 14 replace e := and1 _ _ e
  exact e

end Cert.Hyps2

namespace Cert.Kernel2.Gen

open Idealize.ShloMosaic Idealize.ShloMosaic.TcCoe

/-- The row numbers' block is the whole array. -/
theorem idx_words : ∀ t : Fin cfg0.N, win0_1.index t = ![0, 0] := by decide +kernel

/-- The side conditions the second call's body assumes follow from the precondition. -/
theorem hyps_of_pre (m : (ℓ : Loc nD τ sig) → Buf (Elt Bits) ℓ) (h : Cert.Pre_Kernel2 m) : Hyps m := by
  intro c t
  have bound := Cert.Hyps2.bound_of_pre _ _ _ _ _ _ _ _ _ _ _ _ _ _ _ _ (h c)
  have rd : ∀ i : S4x256.Idx, (i 0).val < 3 → (iblk m c 1 t i).toNat ≤ 10000 := fun i hi => by
    have e : iblk m c 1 t i = (m ((c : Thread nD τ).loc main_arg1) (ix2 (i 0) (i 1)) : BitVec 32) := by
      blk_ext [iblk, idx_words]
    rw [e]; exact bound _ hi _
  refine ⟨fun kq hkq => ?_, fun kq hkq => ?_, fun kq hkq => ?_⟩ <;>
  · simp only [View.readAt_apply, Memref.IsWhole.read_unread]
    intro a
    fin_cases a
    · refine le_trans (Nat.add_le_add_right (rd _ ?_) _) (by decide)
      first
        | exact lt_of_eq_of_lt (rfl : _ = 0) (by decide)
        | exact lt_of_eq_of_lt (rfl : _ = 1) (by decide)
        | exact lt_of_eq_of_lt (rfl : _ = 2) (by decide)
    · exact (by decide : 0 + 256 ≤ 256)

end Cert.Kernel2.Gen

namespace Cert.Kernel2Ideal.Gen

open Idealize.ShloMosaic Idealize.ShloMosaic.TcCoe

/-- The row numbers' block is the whole array. -/
theorem idx_words : ∀ t : Fin cfg0.N, win0_1.index t = ![0, 0] := by decide +kernel

/-- The side conditions follow wherever every word of the index argument's first three rows is at most 10000. -/
theorem hyps_of_bound {F : FTy → Type} [FloatOps F] (m : (ℓ : Loc nD τ sig) → Buf (Elt F) ℓ)
    (bound : ∀ (c : Dev nD) (k : Fin 4), k.val < 3 → ∀ b : Fin 256,
      (m ((c : Thread nD τ).loc main_arg1) (ix2 k b) : BitVec 32).toNat ≤ 10000) : Hyps m := by
  intro c t
  have rd : ∀ i : S4x256.Idx, (i 0).val < 3 → (iblk m c 1 t i).toNat ≤ 10000 := fun i hi => by
    have e : iblk m c 1 t i = (m ((c : Thread nD τ).loc main_arg1) (ix2 (i 0) (i 1)) : BitVec 32) := by
      blk_ext [iblk, idx_words]
    rw [e]; exact bound c _ hi _
  refine ⟨fun kq hkq => ?_, fun kq hkq => ?_, fun kq hkq => ?_⟩ <;>
  · simp only [View.readAt_apply, Memref.IsWhole.read_unread]
    intro a
    fin_cases a
    · refine le_trans (Nat.add_le_add_right (rd _ ?_) _) (by decide)
      first
        | exact lt_of_eq_of_lt (rfl : _ = 0) (by decide)
        | exact lt_of_eq_of_lt (rfl : _ = 1) (by decide)
        | exact lt_of_eq_of_lt (rfl : _ = 2) (by decide)
    · exact (by decide : 0 + 256 ≤ 256)

/-- The side conditions follow from the precondition. -/
theorem hyps_of_pre (m : (ℓ : Loc nD τ sig) → Buf (Elt Ideal) ℓ) (h : Cert.Pre_Kernel2Ideal m) : Hyps m :=
  hyps_of_bound m fun c => Cert.Hyps2.bound_of_pre _ _ _ _ _ _ _ _ _ _ _ _ _ _ _ _ (h c)

end Cert.Kernel2Ideal.Gen

end
-- ==== Proof.Seg.lean ====
module

public import Idealize.ShloMosaic.Lib.Pointwise

@[expose] public section

/-! Sums, maxima and running maxima over the rows of one segment: the mathematics of the first
phase, with no program in it. `s n` is the segment of row `n`. -/

namespace Cert.Seg

/-- The value is a real number. -/
def IsR (x : EReal) : Prop := ∃ r : ℝ, x = (r : EReal)

/-- A coerced real is real. -/
theorem IsR.coe (r : ℝ) : IsR (r : EReal) := ⟨r, rfl⟩

/-- Zero is real. -/
theorem IsR.zero : IsR 0 := ⟨0, rfl⟩

/-- One is real. -/
theorem IsR.one : IsR 1 := ⟨1, rfl⟩

/-- A sum of two reals is real. -/
theorem IsR.add {x y : EReal} (hx : IsR x) (hy : IsR y) : IsR (x + y) := by
  obtain ⟨a, rfl⟩ := hx; obtain ⟨b, rfl⟩ := hy; exact ⟨a + b, (EReal.coe_add a b).symm⟩

/-- A product of two reals is real. -/
theorem IsR.mul {x y : EReal} (hx : IsR x) (hy : IsR y) : IsR (x * y) := by
  obtain ⟨a, rfl⟩ := hx; obtain ⟨b, rfl⟩ := hy; exact ⟨a * b, (EReal.coe_mul a b).symm⟩

/-- The larger of two reals is real. -/
theorem IsR.max {x y : EReal} (hx : IsR x) (hy : IsR y) : IsR (max x y) := by
  rcases max_choice x y with h | h <;> rw [h] <;> assumption

/-- A choice between two reals is real. -/
theorem IsR.ite {p : Prop} [Decidable p] {x y : EReal} (hx : IsR x) (hy : IsR y) :
    IsR (if p then x else y) := by
  split_ifs <;> assumption

/-- A finite sum of reals is real. -/
theorem IsR.sum {ι : Type*} (t : Finset ι) {f : ι → EReal} (h : ∀ i ∈ t, IsR (f i)) :
    IsR (∑ i ∈ t, f i) :=
  Finset.sum_induction f IsR (fun _ _ => IsR.add) IsR.zero h

/-- A real minus itself is zero. -/
theorem IsR.sub_self {x : EReal} (hx : IsR x) : x - x = 0 := by
  obtain ⟨a, rfl⟩ := hx
  rw [← EReal.coe_sub, _root_.sub_self]; rfl

/-- A finite value is real. -/
theorem IsR.of_ne {x : EReal} (h₁ : x ≠ ⊤) (h₂ : x ≠ ⊥) : IsR x :=
  ⟨x.toReal, (EReal.coe_toReal h₁ h₂).symm⟩

/-- A real is not `⊥`. -/
theorem IsR.ne_bot {x : EReal} (hx : IsR x) : x ≠ ⊥ := by
  obtain ⟨a, rfl⟩ := hx; exact EReal.coe_ne_bot a

/-- A real is not `⊤`. -/
theorem IsR.ne_top {x : EReal} (hx : IsR x) : x ≠ ⊤ := by
  obtain ⟨a, rfl⟩ := hx; exact EReal.coe_ne_top a

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => rfl
  | insert i t hi ih => rw [Finset.sum_insert hi, Finset.sum_insert hi, EReal.coe_add, ih]

/-- The largest value `I k` over the rows `k ≤ n` of the segment of row `n`. -/
noncomputable def runMax (s : ℕ → ℕ) (I : ℕ → EReal) (n : ℕ) : EReal :=
  (Finset.range (n + 1)).sup fun k => if s k = s n then I k else ⊥

/-- The running maximum at row 0. -/
theorem runMax_zero (s : ℕ → ℕ) (I : ℕ → EReal) : runMax s I 0 = I 0 := by
  simp [runMax]

/-- One step of the running maximum: it restarts where the segment changes. -/
theorem runMax_succ {s : ℕ → ℕ} (hs : Monotone s) (I : ℕ → EReal) (n : ℕ) :
    runMax s I (n + 1) = if s (n + 1) = s n then max (runMax s I n) (I (n + 1)) else I (n + 1) := by
  unfold runMax
  rw [Finset.range_add_one (n := n + 1), Finset.sup_insert, if_pos rfl]
  split_ifs with h
  · rw [h, sup_comm]
  · have hlt : s n < s (n + 1) := lt_of_le_of_ne (hs n.le_succ) (Ne.symm h)
    have : ((Finset.range (n + 1)).sup fun k => if s k = s (n + 1) then I k else ⊥) = ⊥ := by
      rw [Finset.sup_eq_bot_iff]
      intro k hk
      rw [if_neg (ne_of_lt (lt_of_le_of_lt (hs (Nat.lt_succ_iff.1 (Finset.mem_range.1 hk))) hlt))]
    rw [this, sup_bot_eq]

/-- The running maximum of reals is real. -/
theorem runMax_real {s : ℕ → ℕ} (hs : Monotone s) {I : ℕ → EReal} (hI : ∀ n, IsR (I n)) (n : ℕ) :
    IsR (runMax s I n) := by
  induction n with
  | zero => rw [runMax_zero]; exact hI 0
  | succ n ih => rw [runMax_succ hs]; exact (ih.max (hI _)).ite (hI _)

/-- Starting from the running maximum of row `n₀`, the running maximum of the following rows is that
    of the whole. -/
theorem runMax_shift {s : ℕ → ℕ} (hs : Monotone s) {I J : ℕ → EReal} (n₀ K : ℕ)
    (h0 : J 0 = runMax s I n₀) (hJ : ∀ k, k + 1 < K → J (k + 1) = I (n₀ + (k + 1))) :
    ∀ r, r < K → runMax (fun k => s (n₀ + k)) J r = runMax s I (n₀ + r) := by
  intro r
  induction r with
  | zero => intro _; rw [runMax_zero, h0, Nat.add_zero]
  | succ r ih =>
    intro hr
    have hs' : Monotone fun k => s (n₀ + k) := fun a b h => hs (Nat.add_le_add_left h n₀)
    rw [runMax_succ hs', ih (Nat.lt_of_succ_lt hr), hJ r hr, ← Nat.add_assoc, runMax_succ hs]

/-- The largest value over the last `d` rows up to `r` that lie in the segment of row `r`. -/
noncomputable def win (s : ℕ → ℕ) (I : ℕ → EReal) (d r : ℕ) : EReal :=
  (Finset.range d).sup fun j => if j ≤ r ∧ s (r - j) = s r then I (r - j) else ⊥

/-- The window of one row. -/
theorem win_one (s : ℕ → ℕ) (I : ℕ → EReal) (r : ℕ) : win s I 1 r = I r := by
  simp [win]

/-- The window doubles by one look `d` rows back. -/
theorem win_double {s : ℕ → ℕ} (hs : Monotone s) (I : ℕ → EReal) (d r : ℕ) :
    win s I (d + d) r =
      if d ≤ r ∧ s r = s (r - d) then max (win s I d r) (win s I d (r - d)) else win s I d r := by
  have hd : win s I d r ≤ win s I (d + d) r :=
    Finset.sup_mono (Finset.range_mono (Nat.le_add_right d d))
  split_ifs with h
  · obtain ⟨h1, h2⟩ := h
    apply le_antisymm
    · refine Finset.sup_le fun j hj => ?_
      by_cases hjd : j < d
      · exact le_max_of_le_left (Finset.le_sup (f := fun j => if j ≤ r ∧ s (r - j) = s r then I (r - j) else ⊥)
          (Finset.mem_range.2 hjd))
      · by_cases hc : j ≤ r ∧ s (r - j) = s r
        · have hj2 := Finset.mem_range.1 hj
          refine le_max_of_le_right ?_
          have := Finset.le_sup (f := fun k => if k ≤ r - d ∧ s (r - d - k) = s (r - d) then I (r - d - k) else ⊥)
            (Finset.mem_range.2 (by omega : j - d < d))
          refine le_trans (le_of_eq ?_) this
          have e : r - d - (j - d) = r - j := by omega
          simp only [e]
          rw [if_pos hc, if_pos ⟨by omega, by rw [hc.2, h2]⟩]
        · rw [if_neg hc]; exact bot_le
    · refine max_le hd (Finset.sup_le fun k hk => ?_)
      by_cases hc : k ≤ r - d ∧ s (r - d - k) = s (r - d)
      · have hk2 := Finset.mem_range.1 hk
        have := Finset.le_sup (f := fun j => if j ≤ r ∧ s (r - j) = s r then I (r - j) else ⊥)
          (Finset.mem_range.2 (by omega : k + d < d + d))
        refine le_trans (le_of_eq ?_) this
        have e : r - (k + d) = r - d - k := by omega
        simp only [e]
        rw [if_pos hc, if_pos ⟨by omega, by rw [hc.2, h2]⟩]
      · rw [if_neg hc]; exact bot_le
  · refine le_antisymm (Finset.sup_le fun j hj => ?_) hd
    by_cases hjd : j < d
    · exact Finset.le_sup (f := fun j => if j ≤ r ∧ s (r - j) = s r then I (r - j) else ⊥)
          (Finset.mem_range.2 hjd)
    · rw [if_neg]
      · exact bot_le
      · rintro ⟨h1, h2⟩
        refine h ⟨by omega, le_antisymm ?_ (hs (Nat.sub_le _ _))⟩
        rw [← h2]; exact hs (by omega)

/-- A window that reaches back to row 0 is the running maximum. -/
theorem win_full (s : ℕ → ℕ) (I : ℕ → EReal) {d r : ℕ} (h : r < d) : win s I d r = runMax s I r := by
  apply le_antisymm
  · refine Finset.sup_le fun j _ => ?_
    by_cases hc : j ≤ r ∧ s (r - j) = s r
    · rw [if_pos hc]
      have := Finset.le_sup (f := fun k => if s k = s r then I k else ⊥)
        (Finset.mem_range.2 (by omega : r - j < r + 1))
      rwa [if_pos hc.2] at this
    · rw [if_neg hc]; exact bot_le
  · refine Finset.sup_le fun k hk => ?_
    by_cases hc : s k = s r
    · rw [if_pos hc]
      have hk2 := Finset.mem_range.1 hk
      have := Finset.le_sup (f := fun j => if j ≤ r ∧ s (r - j) = s r then I (r - j) else ⊥)
        (Finset.mem_range.2 (by omega : r - k < d))
      have e : r - (r - k) = k := by omega
      simp only [e] at this
      rwa [if_pos ⟨by omega, hc⟩] at this
    · rw [if_neg hc]; exact bot_le

/-- The largest value `I n` over the first `N` rows that lie in segment `b`; `⊥` where there is none. -/
noncomputable def segMax (s : ℕ → ℕ) (I : ℕ → EReal) (N b : ℕ) : EReal :=
  (Finset.range N).sup fun n => if s n = b then I n else ⊥

/-- The sum of `I n` over the first `N` rows that lie in segment `b`. -/
noncomputable def segSum (s : ℕ → ℕ) (I : ℕ → EReal) (N b : ℕ) : EReal :=
  ∑ n ∈ Finset.range N, if s n = b then I n else 0

/-- The maximum over the first `N + K` rows, split after row `N`. -/
theorem segMax_add (s : ℕ → ℕ) (I : ℕ → EReal) (N K b : ℕ) :
    segMax s I (N + K) b = max (segMax s I N b)
      ((Finset.univ : Finset (Fin K)).sup fun r => if s (N + r) = b then I (N + r) else ⊥) := by
  apply le_antisymm
  · refine Finset.sup_le fun n hn => ?_
    by_cases h : n < N
    · exact le_max_of_le_left (Finset.le_sup (f := fun n => if s n = b then I n else ⊥) (Finset.mem_range.2 h))
    · have hn2 := Finset.mem_range.1 hn
      have := Finset.le_sup (f := fun r : Fin K => if s (N + r) = b then I (N + r) else ⊥)
        (Finset.mem_univ (⟨n - N, by omega⟩ : Fin K))
      have e : N + (n - N) = n := by omega
      simp only [e] at this
      exact le_max_of_le_right this
  · refine max_le (Finset.sup_mono (Finset.range_mono (Nat.le_add_right N K))) (Finset.sup_le fun r _ => ?_)
    exact Finset.le_sup (f := fun n => if s n = b then I n else ⊥) (Finset.mem_range.2 (by omega : N + r < N + K))

/-- The sum over the first `N + K` rows, split after row `N`. -/
theorem segSum_add (s : ℕ → ℕ) (I : ℕ → EReal) (N K b : ℕ) :
    segSum s I (N + K) b = segSum s I N b + ∑ r : Fin K, if s (N + r) = b then I (N + r) else 0 := by
  unfold segSum
  rw [Finset.sum_range_add, Finset.sum_range (fun x => if s (N + x) = b then I (N + x) else 0)]

/-- The maximum of a segment of reals is real or `⊥`; it is `⊥` only where no row lies in the segment. -/
theorem segMax_cases {s : ℕ → ℕ} {I : ℕ → EReal} (hI : ∀ n, IsR (I n)) (N b : ℕ) :
    (segMax s I N b = ⊥ ∧ ∀ n < N, s n ≠ b) ∨ (IsR (segMax s I N b) ∧ ∃ n < N, s n = b) := by
  induction N with
  | zero => left; exact ⟨by simp [segMax], by omega⟩
  | succ N ih =>
    have e : segMax s I (N + 1) b = max (if s N = b then I N else ⊥) (segMax s I N b) := by
      unfold segMax; rw [Finset.range_add_one, Finset.sup_insert]
    rw [e]
    by_cases h : s N = b
    · right
      rw [if_pos h]
      refine ⟨?_, N, by omega, h⟩
      rcases ih with ⟨h1, _⟩ | ⟨h1, _⟩
      · rw [h1, max_bot_right]; exact hI N
      · exact (hI N).max h1
    · rw [if_neg h, max_bot_left]
      rcases ih with ⟨h1, h2⟩ | ⟨h1, n, hn, h2⟩
      · left; refine ⟨h1, fun n hn => ?_⟩
        rcases Nat.lt_succ_iff_lt_or_eq.1 hn with h3 | rfl
        · exact h2 n h3
        · exact h
      · right; exact ⟨h1, n, by omega, h2⟩

/-- The running maxima taken at the last rows of the segments: for a nonempty segment `b` their sum over
    the rows of `b` is its maximum, for an empty one zero. -/
theorem sum_last {s : ℕ → ℕ} (hs : Monotone s) {I : ℕ → EReal} (hI : ∀ n, IsR (I n)) (N b : ℕ)
    (s' : ℕ → ℕ) (hs' : ∀ n, n + 1 < N → s' n = s (n + 1)) (hlast : ∀ n, n + 1 = N → s' n ≠ s n) :
    (∑ n ∈ Finset.range N, if s n = b ∧ s n ≠ s' n then runMax s I n else 0)
      = if segMax s I N b = ⊥ then 0 else segMax s I N b := by
  rcases segMax_cases (s := s) hI N b with ⟨h1, h2⟩ | ⟨h1, n, hn, h2⟩
  · rw [if_pos h1]
    refine Finset.sum_eq_zero fun n hn => ?_
    rw [if_neg]; rintro ⟨h, _⟩; exact h2 n (Finset.mem_range.1 hn) h
  · rw [if_neg h1.ne_bot]
    obtain ⟨L, hL, hmax⟩ : ∃ L, (L < N ∧ s L = b) ∧ ∀ k, k < N → s k = b → k ≤ L := by
      have hne : ((Finset.range N).filter fun k => s k = b).Nonempty :=
        ⟨n, Finset.mem_filter.2 ⟨Finset.mem_range.2 hn, h2⟩⟩
      have hm := Finset.max'_mem _ hne
      rw [Finset.mem_filter, Finset.mem_range] at hm
      exact ⟨_, hm, fun k hk hb => Finset.le_max' _ k (Finset.mem_filter.2 ⟨Finset.mem_range.2 hk, hb⟩)⟩
    rw [Finset.sum_eq_single L]
    · have hne : s L ≠ s' L := by
        by_cases h : L + 1 < N
        · rw [hs' L h]
          intro he
          have := hmax (L + 1) h (by rw [← he]; exact hL.2)
          omega
        · exact (hlast L (by omega)).symm
      rw [if_pos ⟨hL.2, hne⟩]
      unfold runMax segMax
      rw [hL.2]
      refine le_antisymm (Finset.sup_mono (Finset.range_mono (by omega))) (Finset.sup_le fun k hk => ?_)
      by_cases hb : s k = b
      · exact Finset.le_sup (f := fun k => if s k = b then I k else ⊥)
          (Finset.mem_range.2 (Nat.lt_succ_of_le (hmax k (Finset.mem_range.1 hk) hb)))
      · rw [if_neg hb]; exact bot_le
    · intro k hk hkL
      rw [if_neg]
      rintro ⟨hb, hne⟩
      have hkN := Finset.mem_range.1 hk
      have hle := hmax k hkN hb
      have hlt : k < L := lt_of_le_of_ne hle hkL
      apply hne
      rw [hs' k (by omega)]
      refine le_antisymm (hs k.le_succ) ?_
      rw [hb, ← hL.2]; exact hs (by omega)
    · intro h; exact absurd (Finset.mem_range.2 hL.1) h

end Cert.Seg
-- ==== Proof.Words.lean ====
module

public import proofs.«01_k».proof.Proof.Seg

@[expose] public section

/-! Small facts about the scalars the two programs compute with, and the layer both apply to a row. -/

namespace Cert.Seg

open Idealize.ShloMosaic

/-- A choice on the equality of two words. -/
theorem select_eq {α : Type} (a b : BitVec 32) (x y : α) :
    Scalar.select (IntOp.cmpi CmpIPredicate.eq a b) x y = if a = b then x else y := by
  by_cases h : a = b
  · simp [IntOp.cmpi, Scalar.select, h]
  · have h' : (a == b) = false := beq_eq_false_iff_ne.2 h
    simp [IntOp.cmpi, Scalar.select, h, h']

/-- The one-hot entry of two words: one where they are equal, zero elsewhere. -/
theorem hot_eq (a b : BitVec 32) :
    FloatOps.sitofp (F := Ideal) FTy.f32 (BitVec.setWidth 32 (IntOp.cmpi CmpIPredicate.eq a b))
      = if a = b then (1 : EReal) else 0 := by
  by_cases h : a = b
  · simp [IntOp.cmpi, h, FloatOps.sitofp]
  · have h' : (a == b) = false := beq_eq_false_iff_ne.2 h
    simp [IntOp.cmpi, h, h', FloatOps.sitofp]

/-- The entry that is one where two words differ. -/
theorem hot_ne (a b : BitVec 32) :
    FloatOps.sitofp (F := Ideal) FTy.f32 (BitVec.setWidth 32 (IntOp.cmpi CmpIPredicate.ne a b))
      = if a = b then (0 : EReal) else 1 := by
  by_cases h : a = b
  · simp [IntOp.cmpi, h, FloatOps.sitofp]
  · have h' : (a != b) = true := bne_iff_ne.2 h
    simp [IntOp.cmpi, h, h', FloatOps.sitofp]

/-- Two small numbers are equal when their words are. -/
theorem ofNat_inj {a b : ℕ} (ha : a < 2 ^ 32) (hb : b < 2 ^ 32) :
    BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The slope of the leaky activation. -/
noncomputable def slope : EReal := Ideal.ofBits FTy.f32 1008981770#32

/-- The leaky activation. -/
noncomputable def leaky (t : EReal) : EReal := if 0 ≤ t then t else slope * t

/-- One layer on one row. -/
noncomputable def layer (W : Fin 256 → Fin 256 → EReal) (b h : Fin 256 → EReal) (j : Fin 256) : EReal :=
  leaky (∑ k, h k * W k j + b j)

/-- The last, one-column layer on one row. -/
noncomputable def gateOut (w : Fin 256 → EReal) (b : EReal) (h : Fin 256 → EReal) : EReal :=
  ∑ k, h k * w k + b

/-- The slope is real. -/
theorem slope_real : IsR slope := by
  unfold slope; exact ⟨_, rfl⟩

/-- The activation of a real is real. -/
theorem leaky_real {t : EReal} (h : IsR t) : IsR (leaky t) := h.ite (slope_real.mul h)

/-- A layer of reals is real. -/
theorem layer_real {W : Fin 256 → Fin 256 → EReal} {b h : Fin 256 → EReal} (hW : ∀ k j, IsR (W k j))
    (hb : ∀ j, IsR (b j)) (hh : ∀ k, IsR (h k)) (j : Fin 256) : IsR (layer W b h j) :=
  leaky_real ((IsR.sum _ fun k _ => (hh k).mul (hW k j)).add (hb j))

/-- The gate of reals is real. -/
theorem gateOut_real {w : Fin 256 → EReal} {b : EReal} {h : Fin 256 → EReal} (hw : ∀ k, IsR (w k))
    (hb : IsR b) (hh : ∀ k, IsR (h k)) : IsR (gateOut w b h) :=
  (IsR.sum _ fun k _ => (hh k).mul (hw k)).add hb

/-- The exponentials of the rows of segment `b` among the first `N`, each relative to the segment's maximum and
    weighted by `x`, summed. -/
noncomputable def expSum (s : ℕ → ℕ) (g x : ℕ → ℝ) (N b : ℕ) : ℝ :=
  ∑ n ∈ Finset.range N, if s n = b then
    Real.exp (g n - (segMax s (fun n => (g n : EReal)) N b).toReal) * x n else 0

/-- Where no row lies in the segment the sum is zero. -/
theorem expSum_empty {s : ℕ → ℕ} (g x : ℕ → ℝ) {N b : ℕ} (h : ∀ n < N, s n ≠ b) : expSum s g x N b = 0 :=
  Finset.sum_eq_zero fun n hn => if_neg (h n (Finset.mem_range.1 hn))

/-- The exponential of a difference of reals. -/
theorem exp_sub (a b : ℝ) : Ideal.exp ((a : EReal) - (b : EReal)) = ((Real.exp (a - b) : ℝ) : EReal) := by
  rw [← EReal.coe_sub]; rfl

/-- The sum after `K` more rows: the old one rescaled to the new maximum, plus the new rows' terms. -/
theorem expSum_add (s : ℕ → ℕ) (g x : ℕ → ℝ) (N K b : ℕ) :
    (expSum s g x N b : EReal) *
        (if segMax s (fun n => (g n : EReal)) N b ≤ ⊥ then 0 else
          Ideal.exp (segMax s (fun n => (g n : EReal)) N b - segMax s (fun n => (g n : EReal)) (N + K) b))
      + ∑ r : Fin K, (if s (N + r) = b then
          Ideal.exp ((g (N + r) : EReal) - segMax s (fun n => (g n : EReal)) (N + K) b) * (x (N + r) : EReal) else 0)
      = (expSum s g x (N + K) b : EReal) := by
  rcases segMax_cases (s := s) (fun n => IsR.coe (g n)) (N + K) b with ⟨_, h2⟩ | ⟨⟨m', h1⟩, _⟩
  · rw [expSum_empty g x h2, expSum_empty g x (N := N) (fun n hn => h2 n (by omega)), EReal.coe_zero, zero_mul, zero_add]
    exact Finset.sum_eq_zero fun r _ => if_neg (h2 _ (by omega))
  · have hterm : ∀ r : Fin K, (if s (N + r) = b then
          Ideal.exp ((g (N + r) : EReal) - (m' : EReal)) * (x (N + r) : EReal) else 0)
        = (((if s (N + r) = b then Real.exp (g (N + r) - m') * x (N + r) else 0 : ℝ)) : EReal) := by
      intro r
      split_ifs
      · rw [exp_sub, ← EReal.coe_mul]
      · rfl
    rw [h1, Finset.sum_congr rfl (fun r _ => hterm r), ← coe_sum]
    have hnew : expSum s g x (N + K) b
        = (∑ n ∈ Finset.range N, if s n = b then Real.exp (g n - m') * x n else 0)
          + ∑ r : Fin K, if s (N + r) = b then Real.exp (g (N + r) - m') * x (N + r) else 0 := by
      unfold expSum
      rw [h1, EReal.toReal_coe, Finset.sum_range_add,
        Finset.sum_range (fun k => if s (N + k) = b then Real.exp (g (N + k) - m') * x (N + k) else 0)]
    rw [hnew, EReal.coe_add]
    congr 1
    rcases segMax_cases (s := s) (fun n => IsR.coe (g n)) N b with ⟨h3, h4⟩ | ⟨⟨m, h3⟩, _⟩
    · rw [expSum_empty g x h4, EReal.coe_zero, zero_mul, Finset.sum_eq_zero, EReal.coe_zero]
      exact fun n hn => if_neg (h4 n (Finset.mem_range.1 hn))
    · rw [h3, if_neg (by simp), exp_sub, ← EReal.coe_mul]
      congr 1
      unfold expSum
      rw [h3, EReal.toReal_coe, Finset.sum_mul]
      refine Finset.sum_congr rfl fun n _ => ?_
      split_ifs
      · rw [mul_right_comm, ← Real.exp_add]; congr 2; ring
      · exact zero_mul _

/-- The constant that keeps the quotient's divisor positive. -/
noncomputable def eps : EReal := Ideal.ofBits FTy.f32 619091349#32

/-- It is a positive real. -/
theorem eps_pos : ∃ e : ℝ, 0 < e ∧ eps = (e : EReal) := by
  refine ⟨_, ?_, rfl⟩
  simp [Ideal.ieee]

/-- A quotient of reals whose divisor is not zero. -/
theorem div_coe (a : ℝ) {d : ℝ} (hd : d ≠ 0) : Ideal.div (a : EReal) (d : EReal) = ((a / d : ℝ) : EReal) := by
  unfold Ideal.div
  rw [if_neg (by rw [← EReal.coe_zero, EReal.coe_eq_coe_iff]; exact hd), ← EReal.coe_inv, ← EReal.coe_mul, div_eq_mul_inv]

/-- The sum of a segment's exponentials is not negative. -/
theorem expSum_nonneg (s : ℕ → ℕ) (g : ℕ → ℝ) (N b : ℕ) : 0 ≤ expSum s g (fun _ => 1) N b :=
  Finset.sum_nonneg fun n _ => by split_ifs <;> positivity

/-- The weighted sum of a segment's exponentials over their sum, which is kept positive, is a real. -/
theorem quot_real (s : ℕ → ℕ) (g x : ℕ → ℝ) (N b : ℕ) :
    IsR (Ideal.div (expSum s g x N b : EReal) ((expSum s g (fun _ => 1) N b : EReal) + eps)) := by
  obtain ⟨e, he, h⟩ := eps_pos
  rw [h, ← EReal.coe_add, div_coe _ (by have := expSum_nonneg s g N b; positivity)]
  exact IsR.coe _

/-- Each exponential over the sum, weighted and then summed, is the weighted sum over the sum. -/
theorem quot_sum {s : ℕ → ℕ} (g x : ℕ → ℝ) (N b : ℕ) {m d : ℕ → EReal}
    (hm : ∀ n < N, s n = b → m n = segMax s (fun n => (g n : EReal)) N b)
    (hd : ∀ n < N, s n = b → d n = (expSum s g (fun _ => 1) N b : EReal) + eps) :
    (∑ n : Fin N, if s n = b then Ideal.div (Ideal.exp ((g n : EReal) - m n)) (d n) * (x n : EReal) else 0)
      = Ideal.div (expSum s g x N b : EReal) ((expSum s g (fun _ => 1) N b : EReal) + eps) := by
  obtain ⟨e, he, h⟩ := eps_pos
  have hp : expSum s g (fun _ => 1) N b + e ≠ 0 := by have := expSum_nonneg s g N b; positivity
  rw [h, ← EReal.coe_add, div_coe _ hp]
  have hterm : ∀ n : Fin N, (if s n = b then Ideal.div (Ideal.exp ((g n : EReal) - m n)) (d n) * (x n : EReal) else 0)
      = (((if s n = b then Real.exp (g n - (segMax s (fun n => (g n : EReal)) N b).toReal) * x n else 0)
          / (expSum s g (fun _ => 1) N b + e) : ℝ) : EReal) := by
    intro n
    by_cases hn : s n = b
    · rw [if_pos hn, if_pos hn, hm n n.isLt hn, hd n n.isLt hn]
      rcases segMax_cases (s := s) (fun n => IsR.coe (g n)) N b with ⟨_, h2⟩ | ⟨⟨m', h1⟩, _⟩
      · exact absurd hn (h2 n n.isLt)
      · rw [h1, exp_sub, EReal.toReal_coe, h, ← EReal.coe_add, div_coe _ hp, ← EReal.coe_mul]
        congr 1; ring
    · rw [if_neg hn, if_neg hn, zero_div]; rfl
  rw [Finset.sum_congr rfl (fun n _ => hterm n), ← coe_sum, ← Finset.sum_div]
  congr 2
  unfold expSum
  rw [Finset.sum_range (fun n => if s n = b then Real.exp (g n - (segMax s (fun n => (g n : EReal)) N b).toReal) * x n else 0)]

/-- The exponentials of a segment's rows, summed over all the rows. -/
theorem exp_sum {s : ℕ → ℕ} (g : ℕ → ℝ) (N b : ℕ) {m : ℕ → EReal}
    (hm : ∀ n < N, s n = b → m n = segMax s (fun n => (g n : EReal)) N b) :
    (∑ n : Fin N, if s n = b then Ideal.exp ((g n : EReal) - m n) else 0) = (expSum s g (fun _ => 1) N b : EReal) := by
  unfold expSum
  rw [Finset.sum_range (fun n => if s n = b then Real.exp (g n - (segMax s (fun n => (g n : EReal)) N b).toReal) * 1 else 0),
    coe_sum]
  refine Finset.sum_congr rfl fun n _ => ?_
  by_cases hn : s n = b
  · rw [if_pos hn, if_pos hn, hm n n.isLt hn, mul_one]
    rcases segMax_cases (s := s) (fun n => IsR.coe (g n)) N b with ⟨_, h2⟩ | ⟨⟨m', h1⟩, _⟩
    · exact absurd hn (h2 n n.isLt)
    · rw [h1, exp_sub, EReal.toReal_coe]
  · rw [if_neg hn, if_neg hn]; rfl

/-- The four layers and the last one on one row. -/
noncomputable def gateRow (W₁ : Fin 256 → Fin 256 → EReal) (b₁ : Fin 256 → EReal) (W₂ : Fin 256 → Fin 256 → EReal)
    (b₂ : Fin 256 → EReal) (W₃ : Fin 256 → Fin 256 → EReal) (b₃ : Fin 256 → EReal) (W₄ : Fin 256 → Fin 256 → EReal)
    (b₄ w : Fin 256 → EReal) (c : EReal) (h : Fin 256 → EReal) : EReal :=
  gateOut w c (layer W₄ b₄ (layer W₃ b₃ (layer W₂ b₂ (layer W₁ b₁ h))))

end Cert.Seg
-- ==== Proof.KRead.lean ====
module

public import proofs.«01_k».proof.Proof.Words
public import proofs.«01_k».proof.Proof.Gen.KernelIdeal.Skeleton

@[expose] public section

/-! What the first phase's stores hold, read at one index, in terms of the rows seen so far. `n₀` is the
first row of the block, `s n` the segment of row `n`, `X n f` its entries. -/

namespace Cert.KernelIdeal.Gen

open Idealize.ShloMosaic Idealize.ShloMosaic.TcCoe Cert.Seg

/-- The named constant is `⊥`. -/
theorem neg_eq (w : BitVec 32) : Named.named (F := Ideal) κ "neg" (φ := .f32) w = ⊥ := rfl

/-- The block's segment words. -/
def SegWords (s : ℕ → ℕ) (n₀ : ℕ) (v : IVec S256x1 32) : Prop :=
  ∀ r : Fin 256, v (ix2 r 0) = BitVec.ofNat 32 (s (n₀ + r.val))

/-- The one-hot segment matrix's entry at a row and a segment. -/
theorem word_iff {s : ℕ → ℕ} (hs : ∀ n, s n ≤ 256) (n : ℕ) (b : Fin 256) :
    BitVec.ofNat 32 b.val = BitVec.ofNat 32 (s n) ↔ s n = b.val := by
  rw [ofNat_inj (by omega) (by have := hs n; omega)]; exact eq_comm

/-- The segment words as loaded, reshaped. -/
theorem pay23_apply (v5 : Vec Ideal S1x256x1 .i32) (r : Fin 256) :
    k0_pay23 v5 (ix2 r 0) = v5 (ix3 0 r 0) := by
  pointwise [k0_pay23]

/-- The following rows' segment words as loaded, reshaped. -/
theorem pay24_apply (v5 : Vec Ideal S1x256x1 .i32) (r : Fin 256) :
    k0_pay24 v5 (ix2 r 0) = v5 (ix3 0 r 0) := by
  pointwise [k0_pay24]

/-- The one-hot choice: the row's segment is `b`. -/
theorem pay27_select {α : Type} {s : ℕ → ℕ} (hs : ∀ n, s n ≤ 256) {n₀ : ℕ} {v5 : Vec Ideal S1x256x1 .i32}
    (h5 : SegWords s n₀ (k0_pay23 v5)) (r b : Fin 256) (x y : α) :
    Scalar.select (k0_pay27 v5 (ix2 r b)) x y = if s (n₀ + r.val) = b.val then x else y := by
  have h := h5 r
  rw [pay23_apply] at h
  pointwise [k0_pay27, k0_pay23]
  rw [select_eq, h]
  simp only [word_iff hs]

/-- The one-hot matrix's entry. -/
theorem pay28_apply {s : ℕ → ℕ} (hs : ∀ n, s n ≤ 256) {n₀ : ℕ} {v5 : Vec Ideal S1x256x1 .i32}
    (h5 : SegWords s n₀ (k0_pay23 v5)) (r b : Fin 256) :
    k0_pay28 v5 (ix2 r b) = if s (n₀ + r.val) = b.val then (1 : EReal) else 0 := by
  have h := h5 r
  rw [pay23_apply] at h
  pointwise [k0_pay28, k0_pay27, k0_pay23]
  rw [hot_eq, h]
  simp only [word_iff hs]

/-- The counts after the block. -/
theorem pay29_apply {s : ℕ → ℕ} (hs : ∀ n, s n ≤ 256) {n₀ : ℕ} {v5 : Vec Ideal S1x256x1 .i32}
    (h5 : SegWords s n₀ (k0_pay23 v5)) {v19 : Vec Ideal S1x256 .f32} {b : Fin 256}
    (h19 : v19 (ix2 0 b) = segSum s (fun _ => 1) n₀ b.val) :
    k0_pay29 v5 v19 (ix2 0 b) = segSum s (fun _ => 1) (n₀ + 256) b.val := by
  have h : ∀ r : Fin 256, v5 (ix3 0 r 0) = BitVec.ofNat 32 (s (n₀ + r.val)) := fun r => (pay23_apply v5 r).symm.trans (h5 r)
  pointwise [k0_pay29, k0_pay27, k0_pay23]
  simp only [hot_eq, h, word_iff hs]
  rw [segSum_add, h19]

/-- The sums after the block. -/
theorem pay30_apply {s : ℕ → ℕ} (hs : ∀ n, s n ≤ 256) {X : ℕ → Fin 256 → EReal} (hX : ∀ n f, IsR (X n f))
    {n₀ : ℕ} {v5 : Vec Ideal S1x256x1 .i32} (h5 : SegWords s n₀ (k0_pay23 v5))
    {v3 : Vec Ideal S256x256 .f32} (h3 : ∀ r f : Fin 256, v3 (ix2 r f) = X (n₀ + r.val) f)
    {v28 : Vec Ideal S256x256 .f32} {b f : Fin 256}
    (h28 : v28 (ix2 b f) = segSum s (fun n => X n f) n₀ b.val) :
    k0_pay30 v3 v5 v28 (ix2 b f) = segSum s (fun n => X n f) (n₀ + 256) b.val := by
  have h : ∀ r : Fin 256, v5 (ix3 0 r 0) = BitVec.ofNat 32 (s (n₀ + r.val)) := fun r => (pay23_apply v5 r).symm.trans (h5 r)
  pointwise [k0_pay30, k0_pay28, k0_pay27, k0_pay23, k0_pay25, k0_pay26, k0_pay22]
  simp only [hot_eq, h, h3, word_iff hs, (hX _ _).sub_self, mul_zero, Finset.sum_const_zero, add_zero,
    ite_mul, one_mul, zero_mul]
  rw [segSum_add, h28]

/-- One step of the segmented maximum scan: look `d` rows back. -/
noncomputable def scanStep (d e : ℕ)
    (hf : Shape.Concatenates [⟨2, ![d, 256]⟩, ⟨2, ![e, 256]⟩] S256x256 0)
    (hg : Shape.Concatenates [⟨2, ![d, 1]⟩, ⟨2, ![e, 1]⟩] S256x1 0)
    (sf : Shape.Slices S256x256 ![0, 0] ⟨2, ![e, 256]⟩)
    (sg : Shape.Slices S256x1 ![0, 0] ⟨2, ![e, 1]⟩)
    (v6 : IVec S256x1 32) (v : FVec Ideal S256x256 .f32) : FVec Ideal S256x256 .f32 :=
  select (broadcastTo S256x256 (shapeCast S256x1 (cmpi .eq v6
      (concatenate S256x1 0 [⟨⟨2, ![d, 1]⟩, broadcast ⟨2, ![d, 1]⟩ 4294967289#32⟩,
        ⟨⟨2, ![e, 1]⟩, extractStridedSlice ⟨2, ![e, 1]⟩ ![0, 0] v6 sg⟩] hg))
      shapeCasts_S256x1_S256x1) broadcasts_S256x1_S256x256)
    (maximumf v (concatenate S256x256 0 [⟨⟨2, ![d, 256]⟩, broadcast ⟨2, ![d, 256]⟩
          (Named.named (F := Ideal) κ "neg" (φ := .f32) 0xFF61B1E6#32)⟩,
        ⟨⟨2, ![e, 256]⟩, extractStridedSlice ⟨2, ![e, 256]⟩ ![0, 0] v sf⟩] hf)) v

/-- One scan step at one index. -/
theorem scanStep_apply (d e : ℕ) (hf hg sf sg)
    (v6 : IVec S256x1 32) (v : FVec Ideal S256x256 .f32) (r f : Fin 256) :
    scanStep d e hf hg sf sg v6 v (ix2 r f) =
      if h : r.val < d then
        if v6 (ix2 r 0) = 4294967289#32 then max (v (ix2 r f)) ⊥ else v (ix2 r f)
      else if v6 (ix2 r 0) = v6 (ix2 ⟨r.val - d, by omega⟩ 0) then
        max (v (ix2 r f)) (v (ix2 ⟨r.val - d, by omega⟩ f)) else v (ix2 r f) := by
  pointwise [scanStep]
  by_cases h : r.val < d
  · simp only [dif_pos h, select_eq, neg_eq]
  · simp only [dif_neg h, select_eq]
    rfl

/-- A scan step doubles the window. -/
theorem scanStep_win {s : ℕ → ℕ} (hm : Monotone s) (hs : ∀ n, s n ≤ 256) {v6 : IVec S256x1 32} {n₀ : ℕ}
    (h6 : SegWords s n₀ v6) {I : Fin 256 → ℕ → EReal} (d e : ℕ) (hf hg sf sg)
    {v : FVec Ideal S256x256 .f32}
    (hv : ∀ r f : Fin 256, v (ix2 r f) = win (fun k => s (n₀ + k)) (I f) d r.val) (r f : Fin 256) :
    scanStep d e hf hg sf sg v6 v (ix2 r f) = win (fun k => s (n₀ + k)) (I f) (d + d) r.val := by
  have hm' : Monotone fun k => s (n₀ + k) := fun a b h => hm (Nat.add_le_add_left h n₀)
  rw [scanStep_apply, win_double hm']
  by_cases h : r.val < d
  · have hne : v6 (ix2 r 0) ≠ 4294967289#32 := by
      rw [h6 r]
      intro hc
      have h1 := congrArg BitVec.toNat hc
      rw [BitVec.toNat_ofNat, Nat.mod_eq_of_lt (by have := hs (n₀ + r.val); omega)] at h1
      have h2 := hs (n₀ + r.val)
      rw [h1] at h2
      exact absurd h2 (by decide)
    rw [dif_pos h, if_neg hne, if_neg (fun hc => absurd hc.1 (by omega)), hv]
  · rw [dif_neg h]
    have e : (v6 (ix2 r 0) = v6 (ix2 ⟨r.val - d, by omega⟩ 0)) ↔ s (n₀ + r.val) = s (n₀ + (r.val - d)) := by
      rw [h6, h6, ofNat_inj (by have := hs (n₀ + r.val); omega)
        (by have := hs (n₀ + (r.val - d)); simp only; omega)]
    by_cases hc : s (n₀ + r.val) = s (n₀ + (r.val - d))
    · rw [if_pos (e.2 hc), if_pos ⟨by omega, hc⟩, hv, hv]
    · rw [if_neg (fun h' => hc (e.1 h')), if_neg (fun h' => hc h'.2), hv]

/-- The scan's first value: the block's rows, the carried maximum joined to row 0 where the segment goes on. -/
noncomputable def scanInit (v4 : FVec Ideal S256x256 .f32) (v6 : IVec S256x1 32) (v36 : Vec Ideal S1x1 .i32)
    (v40 : Vec Ideal S1x256 .f32) : FVec Ideal S256x256 .f32 :=
  concatenate S256x256 0 [⟨S1x256, select (broadcastTo S1x256 (shapeCast S1x1 (cmpi .eq v36
      (extractStridedSlice S1x1 ![0, 0] v6 slices_S256x1_o0_0_S1x1)) shapeCasts_S1x1_S1x1) broadcasts_S1x1_S1x256)
      (maximumf (extractStridedSlice S1x256 ![0, 0] v4 slices_S256x256_o0_0_S1x256) v40)
      (extractStridedSlice S1x256 ![0, 0] v4 slices_S256x256_o0_0_S1x256)⟩,
    ⟨S255x256, extractStridedSlice S255x256 ![1, 0] v4 slices_S256x256_o1_0_S255x256⟩]
    concatenates_S1x256_S255x256_S256x256_d0

/-- The first value at one index. -/
theorem scanInit_apply (v4 : FVec Ideal S256x256 .f32) (v6 : IVec S256x1 32) (v36 : Vec Ideal S1x1 .i32)
    (v40 : Vec Ideal S1x256 .f32) (r f : Fin 256) :
    scanInit v4 v6 v36 v40 (ix2 r f) =
      if r.val = 0 then if v36 (ix2 0 0) = v6 (ix2 0 0) then max (v4 (ix2 0 f)) (v40 (ix2 0 f)) else v4 (ix2 0 f)
      else v4 (ix2 r f) := by
  pointwise [scanInit]
  by_cases h : r.val = 0
  · obtain rfl : r = 0 := Fin.ext h
    simp only [h, Nat.lt_one_iff, dite_true, if_true, select_eq]
    rfl
  · simp only [h, Nat.lt_one_iff, dite_false, if_false]
    congr 2
    apply Fin.ext
    simp only
    omega

/-- The whole scan of a block: its eight steps, as the steps' composition. -/
theorem scan_eq (v4 : FVec Ideal S256x256 .f32) (v6 : IVec S256x1 32) (v36 : Vec Ideal S1x1 .i32)
    (v40 : Vec Ideal S1x256 .f32) :
    k0_pay36 (k0_pay33 v6 (k0_pay31 v4 v6 v36 v40) (k0_pay32 v4 v6 v36 v40))
      (k0_pay34 v6 (k0_pay31 v4 v6 v36 v40) (k0_pay32 v4 v6 v36 v40)) (k0_pay35 v6)
    = scanStep 128 128 concatenates_S128x256_S128x256_S256x256_d0 concatenates_S128x1_S128x1_S256x1_d0
        slices_S256x256_o0_0_S128x256 slices_S256x1_o0_0_S128x1 v6
      (scanStep 64 192 concatenates_S64x256_S192x256_S256x256_d0 concatenates_S64x1_S192x1_S256x1_d0
        slices_S256x256_o0_0_S192x256 slices_S256x1_o0_0_S192x1 v6
      (scanStep 32 224 concatenates_S32x256_S224x256_S256x256_d0 concatenates_S32x1_S224x1_S256x1_d0
        slices_S256x256_o0_0_S224x256 slices_S256x1_o0_0_S224x1 v6
      (scanStep 16 240 concatenates_S16x256_S240x256_S256x256_d0 concatenates_S16x1_S240x1_S256x1_d0
        slices_S256x256_o0_0_S240x256 slices_S256x1_o0_0_S240x1 v6
      (scanStep 8 248 concatenates_S8x256_S248x256_S256x256_d0 concatenates_S8x1_S248x1_S256x1_d0
        slices_S256x256_o0_0_S248x256 slices_S256x1_o0_0_S248x1 v6
      (scanStep 4 252 concatenates_S4x256_S252x256_S256x256_d0 concatenates_S4x1_S252x1_S256x1_d0
        slices_S256x256_o0_0_S252x256 slices_S256x1_o0_0_S252x1 v6
      (scanStep 2 254 concatenates_S2x256_S254x256_S256x256_d0 concatenates_S2x1_S254x1_S256x1_d0
        slices_S256x256_o0_0_S254x256 slices_S256x1_o0_0_S254x1 v6
      (scanStep 1 255 concatenates_S1x256_S255x256_S256x256_d0 concatenates_S1x1_S255x1_S256x1_d0
        slices_S256x256_o0_0_S255x256 slices_S256x1_o0_0_S255x1 v6
      (scanInit v4 v6 v36 v40)))))))) := rfl

/-- The whole scan of a block at one index: the running maximum over all rows seen. The carried value is
    the running maximum of the row before the block, with that row's segment word (any word that is no
    segment for the first block). -/
theorem scan_apply {s : ℕ → ℕ} (hm : Monotone s) (hs : ∀ n, s n ≤ 256) {X : ℕ → Fin 256 → EReal}
    {v4 : FVec Ideal S256x256 .f32} {v6 : IVec S256x1 32} {v36 : Vec Ideal S1x1 .i32}
    {v40 : Vec Ideal S1x256 .f32} {n₀ : ℕ} (h4 : ∀ r f : Fin 256, v4 (ix2 r f) = X (n₀ + r.val) f)
    (h6 : SegWords s n₀ v6)
    (hc : (n₀ = 0 ∧ v36 (ix2 0 0) = 4294967295#32) ∨ ∃ n, n₀ = n + 1 ∧ v36 (ix2 0 0) = BitVec.ofNat 32 (s n)
      ∧ ∀ f : Fin 256, v40 (ix2 0 f) = runMax s (fun n => X n f) n) (r f : Fin 256) :
    k0_pay36 (k0_pay33 v6 (k0_pay31 v4 v6 v36 v40) (k0_pay32 v4 v6 v36 v40))
      (k0_pay34 v6 (k0_pay31 v4 v6 v36 v40) (k0_pay32 v4 v6 v36 v40)) (k0_pay35 v6) (ix2 r f)
    = runMax s (fun n => X n f) (n₀ + r.val) := by
  have h0 : ∀ f : Fin 256, scanInit v4 v6 v36 v40 (ix2 0 f) = runMax s (fun n => X n f) n₀ := by
    intro f
    rw [scanInit_apply, if_pos (show (0 : Fin 256).val = 0 from rfl), h4]
    have h60 := h6 0
    rcases hc with ⟨rfl, hw⟩ | ⟨n, rfl, hw, h40⟩
    · have hne : v36 (ix2 0 0) ≠ v6 (ix2 0 0) := by
        rw [hw, h60]; intro he
        have h1 := congrArg BitVec.toNat he
        rw [BitVec.toNat_ofNat (s _), Nat.mod_eq_of_lt (by have := hs (0 + (0 : Fin 256).val); omega)] at h1
        have h2 := hs (0 + (0 : Fin 256).val)
        rw [← h1] at h2
        exact absurd h2 (by decide)
      rw [if_neg hne, runMax_zero]; rfl
    · have e : (v36 (ix2 0 0) = v6 (ix2 0 0)) ↔ s (n + 1) = s n := by
        rw [hw, h60, ofNat_inj (by have := hs n; omega) (by have := hs (n + 1 + (0 : Fin 256).val); omega)]
        exact eq_comm
      rw [runMax_succ hm, h40]
      by_cases hc : s (n + 1) = s n
      · rw [if_pos (e.2 hc), if_pos hc, max_comm]; rfl
      · rw [if_neg (fun h' => hc (e.1 h')), if_neg hc]; rfl
  let J : Fin 256 → ℕ → EReal := fun f k => if h : k < 256 then scanInit v4 v6 v36 v40 (ix2 ⟨k, h⟩ f) else 0
  have hJ : ∀ r f : Fin 256, scanInit v4 v6 v36 v40 (ix2 r f) = win (fun k => s (n₀ + k)) (J f) 1 r.val := by
    intro r f
    rw [win_one]
    simp only [J, dif_pos r.isLt]
  rw [scan_eq, scanStep_win hm hs h6 (I := J) 128, win_full _ _ (by omega), runMax_shift hm n₀ 256 (I := fun n => X n f)]
  · exact (dif_pos (by omega)).trans (h0 f)
  · intro k hk
    rw [← h4 ⟨k + 1, hk⟩ f]
    refine (dif_pos hk).trans ?_
    rw [scanInit_apply, if_neg (Nat.succ_ne_zero k)]
  · exact r.isLt
  · refine scanStep_win hm hs h6 64 _ _ _ _ _ (scanStep_win hm hs h6 32 _ _ _ _ _ (scanStep_win hm hs h6 16 _ _ _ _ _
      (scanStep_win hm hs h6 8 _ _ _ _ _ (scanStep_win hm hs h6 4 _ _ _ _ _ (scanStep_win hm hs h6 2 _ _ _ _ _
      (scanStep_win hm hs h6 1 _ _ _ _ _ hJ))))))

/-- The carried maximum: the scan's last row. -/
theorem pay37_apply (v124 v132 : FVec Ideal S256x256 .f32) (v134 : IVec S256x256 1) (f : Fin 256) :
    k0_pay37 v124 v132 v134 (ix2 0 f) = k0_pay36 v124 v132 v134 (ix2 255 f) := by
  pointwise [k0_pay37]

/-- The carried segment word: the last row's. -/
theorem pay38_apply (v6 : IVec S256x1 32) : k0_pay38 v6 (ix2 0 0) = v6 (ix2 255 0) := by
  pointwise [k0_pay38]

/-- The maxima after the block: the running maxima at the last rows of the segments, summed. -/
theorem pay39_apply {s s' : ℕ → ℕ} (hs : ∀ n, s n ≤ 256) (hs' : ∀ n, s' n ≤ 257) {n₀ : ℕ}
    {R : ℕ → Fin 256 → EReal} (hR : ∀ n f, IsR (R n f)) {v5 : Vec Ideal S1x256x1 .i32}
    (h5 : SegWords s n₀ (k0_pay23 v5)) {v8 : IVec S256x1 32} (h8 : SegWords s' n₀ v8)
    {v124 v132 : FVec Ideal S256x256 .f32} {v134 : IVec S256x256 1}
    (hsc : ∀ r f : Fin 256, k0_pay36 v124 v132 v134 (ix2 r f) = R (n₀ + r.val) f)
    {v154 : Vec Ideal S256x256 .f32} {b f : Fin 256}
    (h154 : v154 (ix2 b f) = ∑ n ∈ Finset.range n₀, if s n = b.val ∧ s n ≠ s' n then R n f else 0) :
    k0_pay39 (k0_pay23 v5) v8 (k0_pay28 v5) v124 v132 v134 v154 (ix2 b f)
      = ∑ n ∈ Finset.range (n₀ + 256), if s n = b.val ∧ s n ≠ s' n then R n f else 0 := by
  have h58 : ∀ r, (k0_pay23 v5 (ix2 r 0) = v8 (ix2 r 0)) = (s (n₀ + r.val) = s' (n₀ + r.val)) := by
    intro r
    rw [h5 r, h8 r, ofNat_inj (by have := hs (n₀ + r.val); omega) (by have := hs' (n₀ + r.val); omega)]
  pointwise [k0_pay39]
  simp only [hsc, (hR _ _).sub_self, mul_zero, Finset.sum_const_zero, add_zero, hot_ne,
    pay28_apply hs h5, h154, h58]
  rw [Finset.sum_range_add, Finset.sum_range (fun x => if s (n₀ + x) = b.val ∧ s (n₀ + x) ≠ s' (n₀ + x) then R (n₀ + x) f else 0)]
  congr 1
  refine Finset.sum_congr rfl fun r _ => ?_
  by_cases h1 : s (n₀ + r.val) = b.val <;> by_cases h2 : s (n₀ + r.val) = s' (n₀ + r.val) <;> simp [h1, h2]

end Cert.KernelIdeal.Gen
-- ==== Proof.KGate.lean ====
module

public import proofs.«01_k».proof.Proof.KRead

@[expose] public section

/-! The gate layers of the first phase and the softmax-weighted sums, read at one index. -/

namespace Cert.KernelIdeal.Gen

open Idealize.ShloMosaic Idealize.ShloMosaic.TcCoe Cert.Seg

/-- The activation as the kernel writes it. -/
theorem leaky_fold (t : EReal) :
    (if 0 ≤ t then t else Ideal.ofBits FTy.f32 1008981770#32 * t) = leaky t := rfl

/-- The split of a real row: the high part is the row, the low part zero. -/
theorem pay41_apply {v4 : FVec Ideal S256x256 .f32} (h4 : ∀ r f : Fin 256, IsR (v4 (ix2 r f))) (r f : Fin 256) :
    k0_pay41 v4 (ix2 r f) = (0 : EReal) := by
  pointwise [k0_pay41, k0_pay40]
  exact (h4 r f).sub_self

/-- The first product. -/
theorem pay42_apply (v4 : FVec Ideal S256x256 .f32) {W : Fin 256 → Fin 256 → EReal}
    {v166 v169 : Vec Ideal S256x256 .bf16} (hh : ∀ k j : Fin 256, v166 (ix2 k j) = W k j)
    (hl : ∀ k j : Fin 256, v169 (ix2 k j) = (0 : EReal)) (r j : Fin 256) :
    k0_pay42 v4 v166 v169 (ix2 r j) = ∑ k : Fin 256, v4 (ix2 r k) * W k j := by
  pointwise [k0_pay42, k0_pay40]
  simp only [hh, hl, mul_zero, Finset.sum_const_zero, add_zero]

/-- The second layer's result on a row. -/
theorem pay43_apply {v165 : FVec Ideal S256x256 .bf16} {v172 : FVec Ideal S256x256 .f32}
    {v173 v190 v193 v197 : Vec Ideal S256x256 .bf16} {v177 v201 : Vec Ideal S1x256 .f32}
    {W₁ W₂ : Fin 256 → Fin 256 → EReal} {b₁ b₂ : Fin 256 → EReal} {h : Fin 256 → Fin 256 → EReal}
    (hW₁ : ∀ k j, IsR (W₁ k j)) (hb₁ : ∀ j, IsR (b₁ j)) (hh : ∀ r k, IsR (h r k))
    (h165 : ∀ r k : Fin 256, v165 (ix2 r k) = (0 : EReal))
    (h172 : ∀ r j : Fin 256, v172 (ix2 r j) = ∑ k : Fin 256, h r k * W₁ k j)
    (h177 : ∀ j : Fin 256, v177 (ix2 0 j) = b₁ j)
    (h190 : ∀ k j : Fin 256, v190 (ix2 k j) = W₂ k j) (h193 : ∀ k j : Fin 256, v193 (ix2 k j) = (0 : EReal))
    (h201 : ∀ j : Fin 256, v201 (ix2 0 j) = b₂ j) (r j : Fin 256) :
    k0_pay43 v165 v172 v173 v177 v190 v193 v197 v201 (ix2 r j) = layer W₂ b₂ (layer W₁ b₁ (h r)) j := by
  have hl : ∀ k, leaky (∑ x, h r x * W₁ x k + b₁ k) - leaky (∑ x, h r x * W₁ x k + b₁ k) = 0 := fun k =>
    (layer_real hW₁ hb₁ (hh r) k).sub_self
  pointwise [k0_pay43]
  simp only [h165, h172, h177, h190, h193, h201, mul_zero, zero_mul, Finset.sum_const_zero, add_zero]
  simp only [leaky_fold]
  simp only [hl, zero_mul, Finset.sum_const_zero, add_zero]
  rfl

/-- The fourth layer's product on a row. -/
theorem pay46_apply {v210 v213 : FVec Ideal S256x256 .bf16}
    {v214 v217 v221 v238 v241 v245 : Vec Ideal S256x256 .bf16} {v225 : Vec Ideal S1x256 .f32}
    {W₃ W₄ : Fin 256 → Fin 256 → EReal} {b₃ : Fin 256 → EReal} {h : Fin 256 → Fin 256 → EReal}
    (hW₃ : ∀ k j, IsR (W₃ k j)) (hb₃ : ∀ j, IsR (b₃ j)) (hh : ∀ r k, IsR (h r k))
    (h210 : ∀ r k : Fin 256, v210 (ix2 r k) = h r k) (h213 : ∀ r k : Fin 256, v213 (ix2 r k) = (0 : EReal))
    (h214 : ∀ k j : Fin 256, v214 (ix2 k j) = W₃ k j) (h217 : ∀ k j : Fin 256, v217 (ix2 k j) = (0 : EReal))
    (h225 : ∀ j : Fin 256, v225 (ix2 0 j) = b₃ j)
    (h238 : ∀ k j : Fin 256, v238 (ix2 k j) = W₄ k j) (h241 : ∀ k j : Fin 256, v241 (ix2 k j) = (0 : EReal))
    (r j : Fin 256) :
    k0_pay46 v210 v213 v214 v217 v221 v225 v238 v241 v245 (ix2 r j)
      = ∑ k : Fin 256, layer W₃ b₃ (h r) k * W₄ k j := by
  have hl : ∀ k, leaky (∑ x, h r x * W₃ x k + b₃ k) - leaky (∑ x, h r x * W₃ x k + b₃ k) = 0 := fun k =>
    (layer_real hW₃ hb₃ (hh r) k).sub_self
  pointwise [k0_pay46]
  simp only [h210, h213, h214, h217, h225, h238, h241, mul_zero, zero_mul, Finset.sum_const_zero, add_zero]
  simp only [leaky_fold]
  simp only [hl, zero_mul, Finset.sum_const_zero, add_zero]
  rfl

/-- The gate of a row. -/
theorem pay48_apply {v248 : FVec Ideal S256x256 .f32} {v249 v258 : Vec Ideal S1x256 .f32}
    {v264 : Vec Ideal S1x1 .f32} {W₄ : Fin 256 → Fin 256 → EReal} {b₄ w : Fin 256 → EReal} {c : EReal}
    {h : Fin 256 → Fin 256 → EReal} (h248 : ∀ r j : Fin 256, v248 (ix2 r j) = ∑ k : Fin 256, h r k * W₄ k j)
    (h249 : ∀ j : Fin 256, v249 (ix2 0 j) = b₄ j) (h258 : ∀ j : Fin 256, v258 (ix2 0 j) = w j)
    (h264 : v264 (ix2 0 0) = c) (r : Fin 256) :
    k0_pay48 v248 (k0_pay47 v249) v258 v264 (ix2 r 0) = gateOut w c (layer W₄ b₄ (h r)) := by
  pointwise [k0_pay48, k0_pay47]
  simp only [h248, h249, h258, h264]
  simp only [leaky_fold]
  rfl

end Cert.KernelIdeal.Gen
-- ==== Proof.KSoft.lean ====
module

public import proofs.«01_k».proof.Proof.KGate

@[expose] public section

/-! The softmax over the rows of each segment, as the first phase keeps it: the maximum of the gates, the sum
of the exponentials, and the weighted sums of the rows; and the last point's quotients. -/

namespace Cert.KernelIdeal.Gen

open Idealize.ShloMosaic Idealize.ShloMosaic.TcCoe Cert.Seg

/-- The least value's pattern is `⊥`. -/
theorem negInf_eq : Ideal.ofBits FTy.f32 4286578688#32 = ⊥ := by
  simp [Ideal.ofBits, Ideal.ieee]

/-- A maximum over all rows as a supremum. -/
theorem fold_max_eq (f : Fin 256 → EReal) : Finset.fold max (⊥ : EReal) f Finset.univ = Finset.univ.sup f := rfl

/-- The gates' maxima after the block. -/
theorem pay49_apply {s : ℕ → ℕ} (hs : ∀ n, s n ≤ 256) {g : ℕ → ℝ} {n₀ : ℕ} {v5 : Vec Ideal S1x256x1 .i32}
    (h5 : SegWords s n₀ (k0_pay23 v5)) {v248 v251 : FVec Ideal S256x256 .f32} {v258 : Vec Ideal S1x256 .f32}
    {v264 : Vec Ideal S1x1 .f32}
    (hg : ∀ r : Fin 256, k0_pay48 v248 v251 v258 v264 (ix2 r 0) = (g (n₀ + r.val) : EReal))
    {v274 : Vec Ideal S1x256 .f32} {b : Fin 256}
    (hm : v274 (ix2 0 b) = segMax s (fun n => (g n : EReal)) n₀ b.val) :
    k0_pay49 (k0_pay27 v5) v248 v251 v258 v264 v274 (ix2 0 b)
      = segMax s (fun n => (g n : EReal)) (n₀ + 256) b.val := by
  pointwise [k0_pay49]
  simp only [pay27_select hs h5, hg, hm, neg_eq, negInf_eq, fold_max_eq]
  rw [segMax_add]

/-- The rescaling factor of the block. -/
theorem pay50_apply {v15 : IVec S256x256 1} {v248 v251 : FVec Ideal S256x256 .f32} {v258 : Vec Ideal S1x256 .f32}
    {v264 : Vec Ideal S1x1 .f32} {v274 v276 v279 : Vec Ideal S1x256 .f32} (b : Fin 256) :
    k0_pay50 v15 v248 v251 v258 v264 v274 v276 v279 (ix2 0 b)
      = if v276 (ix2 0 b) ≤ ⊥ then (0 : EReal) else
          Ideal.exp (v279 (ix2 0 b) - k0_pay49 v15 v248 v251 v258 v264 v274 (ix2 0 b)) := by
  pointwise [k0_pay50]
  rfl

/-- The block's exponentials. -/
theorem pay51_apply {s : ℕ → ℕ} (hs : ∀ n, s n ≤ 256) {n₀ : ℕ} {v5 : Vec Ideal S1x256x1 .i32}
    (h5 : SegWords s n₀ (k0_pay23 v5)) {v248 v251 : FVec Ideal S256x256 .f32} {v258 : Vec Ideal S1x256 .f32}
    {v264 : Vec Ideal S1x1 .f32} {v274 : Vec Ideal S1x256 .f32} (r b : Fin 256) :
    k0_pay51 (k0_pay27 v5) v248 v251 v258 v264 v274 (ix2 r b)
      = if s (n₀ + r.val) = b.val then
          Ideal.exp (k0_pay48 v248 v251 v258 v264 (ix2 r 0) - k0_pay49 (k0_pay27 v5) v248 v251 v258 v264 v274 (ix2 0 b))
        else (0 : EReal) := by
  pointwise [k0_pay51]
  simp only [pay27_select hs h5]

/-- The exponentials' sum after the block, from the rescaled one. -/
theorem pay53_apply (v289 : FVec Ideal S256x256 .f32) (v291 : FVec Ideal S1x256 .f32) (b : Fin 256) :
    k0_pay53 v289 v291 (ix2 0 b) = v291 (ix2 0 b) + ∑ r : Fin 256, v289 (ix2 r b) := by
  pointwise [k0_pay53]

/-- The sum of the exponentials after the block. -/
theorem soft_sum {s : ℕ → ℕ} (hs : ∀ n, s n ≤ 256) {g : ℕ → ℝ} {n₀ : ℕ} {v5 : Vec Ideal S1x256x1 .i32}
    (h5 : SegWords s n₀ (k0_pay23 v5)) {v248 v251 : FVec Ideal S256x256 .f32} {v258 : Vec Ideal S1x256 .f32}
    {v264 : Vec Ideal S1x1 .f32}
    (hg : ∀ r : Fin 256, k0_pay48 v248 v251 v258 v264 (ix2 r 0) = (g (n₀ + r.val) : EReal))
    {v274 v290 : Vec Ideal S1x256 .f32} {b : Fin 256}
    (hm : v274 (ix2 0 b) = segMax s (fun n => (g n : EReal)) n₀ b.val)
    (hsum : v290 (ix2 0 b) = (expSum s g (fun _ => 1) n₀ b.val : EReal)) :
    k0_pay53 (k0_pay51 (k0_pay27 v5) v248 v251 v258 v264 v274)
        (k0_pay52 (k0_pay27 v5) v248 v251 v258 v264 v274 v274 v274 v290) (ix2 0 b)
      = (expSum s g (fun _ => 1) (n₀ + 256) b.val : EReal) := by
  have h52 : k0_pay52 (k0_pay27 v5) v248 v251 v258 v264 v274 v274 v274 v290 (ix2 0 b)
      = v290 (ix2 0 b) * k0_pay50 (k0_pay27 v5) v248 v251 v258 v264 v274 v274 v274 (ix2 0 b) := rfl
  rw [pay53_apply, h52, pay50_apply]
  simp only [pay51_apply hs h5, pay49_apply hs h5 hg hm, hg, hm, hsum]
  rw [← expSum_add]
  simp only [EReal.coe_one, mul_one]

/-- The weighted sums after the block. -/
theorem soft_weighted {s : ℕ → ℕ} (hs : ∀ n, s n ≤ 256) {g : ℕ → ℝ} {X : ℕ → Fin 256 → ℝ} {n₀ : ℕ}
    {v5 : Vec Ideal S1x256x1 .i32}
    (h5 : SegWords s n₀ (k0_pay23 v5)) {v248 v251 : FVec Ideal S256x256 .f32} {v258 : Vec Ideal S1x256 .f32}
    {v264 : Vec Ideal S1x1 .f32}
    (hg : ∀ r : Fin 256, k0_pay48 v248 v251 v258 v264 (ix2 r 0) = (g (n₀ + r.val) : EReal))
    {v3 : Vec Ideal S256x256 .f32} (h3 : ∀ r f : Fin 256, v3 (ix2 r f) = (X (n₀ + r.val) f : EReal))
    {v274 : Vec Ideal S1x256 .f32} {v302 : Vec Ideal S256x256 .f32} {b f : Fin 256}
    (hm : v274 (ix2 0 b) = segMax s (fun n => (g n : EReal)) n₀ b.val)
    (hsum : v302 (ix2 f b) = (expSum s g (fun n => X n f) n₀ b.val : EReal)) :
    k0_pay54 (k0_pay25 v3) (k0_pay26 v3) (k0_pay50 (k0_pay27 v5) v248 v251 v258 v264 v274 v274 v274)
        (k0_pay51 (k0_pay27 v5) v248 v251 v258 v264 v274) v302 (ix2 f b)
      = (expSum s g (fun n => X n f) (n₀ + 256) b.val : EReal) := by
  have hW : ∀ r : Fin 256, IsR (k0_pay51 (k0_pay27 v5) v248 v251 v258 v264 v274 (ix2 r b)) := by
    intro r
    rw [pay51_apply hs h5, pay49_apply hs h5 hg hm, hg]
    by_cases h : s (n₀ + r.val) = b.val
    · rw [if_pos h]
      rcases segMax_cases (s := s) (fun n => IsR.coe (g n)) (n₀ + 256) b.val with ⟨_, h2⟩ | ⟨⟨m', h1⟩, _⟩
      · exact absurd h (h2 _ (by omega))
      · rw [h1, exp_sub]; exact IsR.coe _
    · rw [if_neg h]; exact IsR.zero
  have h9 : ∀ r : Fin 256, k0_pay25 v3 (ix2 r f) = (X (n₀ + r.val) f : EReal) := by
    intro r; pointwise [k0_pay25, k0_pay22]; exact h3 r f
  have h12 : ∀ r : Fin 256, k0_pay26 v3 (ix2 r f) = (0 : EReal) := by
    intro r; pointwise [k0_pay26, k0_pay25, k0_pay22]; rw [h3]; exact (IsR.coe _).sub_self
  pointwise [k0_pay54]
  simp only [h9, h12, fun r => (hW r).sub_self, mul_zero, zero_mul, Finset.sum_const_zero, add_zero]
  rw [pay50_apply, ← expSum_add]
  simp only [pay51_apply hs h5, pay49_apply hs h5 hg hm, hg, hm, hsum, mul_ite, mul_zero, mul_comm (Ideal.exp _)]

/-- The stored maxima. -/
theorem pay55_apply (v275 : FVec Ideal S1x256 .f32) (b : Fin 256) : k0_pay55 v275 (ix2 0 b) = v275 (ix2 0 b) := by
  pointwise [k0_pay55]

/-- The means, from the counts and the sums. -/
theorem pay17_apply (v407 : Vec Ideal S1x256 .f32) (v420 : Vec Ideal S256x256 .f32) (b f : Fin 256) :
    k0_pay17 v407 v420 (ix2 b f) = Ideal.div (v420 (ix2 b f)) (max (v407 (ix2 0 b)) 1) := by
  pointwise [k0_pay17, k0_pay16]
  simp only [select_eq]
  congr 2
  rw [Finset.sum_eq_single b]
  · rw [if_pos rfl]
  · intro c _ hc
    rw [if_neg]
    intro h
    exact hc (Fin.ext ((ofNat_inj (by omega) (by omega)).1 h).symm)
  · intro h; exact absurd (Finset.mem_univ b) h

/-- The attention sums, from the weighted sums and the sums of exponentials. -/
theorem pay18_apply (v429 : Vec Ideal S256x256 .f32) (v430 : Vec Ideal S1x256 .f32)
    (h : ∀ b f : Fin 256, IsR (Ideal.div (v429 (ix2 f b)) (v430 (ix2 0 b) + eps))) (b f : Fin 256) :
    k0_pay18 v429 v430 (ix2 b f) = Ideal.div (v429 (ix2 f b)) (v430 (ix2 0 b) + eps) := by
  have h' : ∀ x : Fin 256, Ideal.div (v429 (ix2 x b)) (v430 (ix2 0 b) + Ideal.ofBits FTy.f32 619091349#32)
      - Ideal.div (v429 (ix2 x b)) (v430 (ix2 0 b) + Ideal.ofBits FTy.f32 619091349#32) = 0 :=
    fun x => (h b x).sub_self
  pointwise [k0_pay18, k0_pay16]
  simp only [hot_eq, h', zero_mul, Finset.sum_const_zero, add_zero]
  rw [Finset.sum_eq_single f]
  · rw [if_pos rfl, mul_one]; rfl
  · intro c _ hc
    rw [if_neg, mul_zero]
    intro h
    exact hc (Fin.ext ((ofNat_inj (by omega) (by omega)).1 h))
  · intro h; exact absurd (Finset.mem_univ f) h

end Cert.KernelIdeal.Gen
-- ==== Proof.Steps.lean ====
module
public import proofs.«01_k».proof.Proof.Gen.Own.KernelIdeal.Value
public import Idealize.ShloMosaic.Lib.Pipeline.Value
public import Idealize.ShloMosaic.Lib.Pipeline.ReadBack
public import Idealize.ShloMosaic.Lib.Tactic

/-!
# One step of the first call's grid, as the payload terms it stores

Each step reads the same blocks and the eight accumulators the value claim needs. Its new accumulators are the same
terms of them at every step; only the first step reads the initial values it has just stored.
-/

@[expose] public section
set_option maxHeartbeats 1000000

namespace Cert.KernelIdeal.Value
open Cert.KernelIdeal Cert.KernelIdeal.Gen Idealize.ShloMosaic Idealize.ShloMosaic.TcCoe Idealize.SL.Sem

variable {F : FTy → Type} [FloatOps F] [Named F]

/-- The accumulators the value claim follows: sum, maximum, weighted sum, weight sum, running maximum of the gate, row
    count, carried row and carried segment word. -/
structure Accs (F : FTy → Type) [FloatOps F] [Named F] where
  sm : Vec F S256x256 .f32
  mx : Vec F S256x256 .f32
  wx : Vec F S256x256 .f32
  ws : Vec F S1x256 .f32
  gm : Vec F S1x256 .f32
  ct : Vec F S1x256 .f32
  cr : Vec F S1x256 .f32
  cb : Vec F S1x1 .i32

/-- What the first step stores before it reads. -/
noncomputable def accs₀ : Accs F :=
  ⟨k0_pay8, k0_pay9, k0_pay10, k0_pay11, k0_pay13, k0_pay12, k0_pay20, k0_pay21⟩

section
variable (m : (ℓ : Loc nD τ sig) → Buf (Elt F) ℓ) (c : Dev nD) (t : Fin cfg0.N)

/-- The gate network's third product at one step's rows. -/
noncomputable def hid : FVec F S256x256 .f32 :=
  k0_pay46
    (k0_pay44 (k0_pay41 (k0_pay22 (iblk m c 0 t))) (k0_pay42 (k0_pay22 (iblk m c 0 t)) (iblk m c 3 t) (iblk m c 4 t))
      (iblk m c 3 t) (iblk m c 5 t) (iblk m c 6 t) (iblk m c 7 t) (iblk m c 6 t) (iblk m c 8 t))
    (k0_pay45 (k0_pay41 (k0_pay22 (iblk m c 0 t))) (k0_pay42 (k0_pay22 (iblk m c 0 t)) (iblk m c 3 t) (iblk m c 4 t))
      (iblk m c 3 t) (iblk m c 5 t) (iblk m c 6 t) (iblk m c 7 t) (iblk m c 6 t) (iblk m c 8 t))
    (iblk m c 9 t) (iblk m c 10 t) (iblk m c 9 t) (iblk m c 11 t) (iblk m c 12 t) (iblk m c 13 t) (iblk m c 12 t)

/-- The first half of the scan of the rows for the running maximum. -/
noncomputable def scanL (cr : Vec F S1x256 .f32) (cb : Vec F S1x1 .i32) : FVec F S256x256 .f32 :=
  k0_pay33 (k0_pay23 (iblk m c 1 t)) (k0_pay31 (k0_pay22 (iblk m c 0 t)) (k0_pay23 (iblk m c 1 t)) cb cr)
    (k0_pay32 (k0_pay22 (iblk m c 0 t)) (k0_pay23 (iblk m c 1 t)) cb cr)

/-- The scan's last shifted maximum. -/
noncomputable def scanR (cr : Vec F S1x256 .f32) (cb : Vec F S1x1 .i32) : FVec F S256x256 .f32 :=
  k0_pay34 (k0_pay23 (iblk m c 1 t)) (k0_pay31 (k0_pay22 (iblk m c 0 t)) (k0_pay23 (iblk m c 1 t)) cb cr)
    (k0_pay32 (k0_pay22 (iblk m c 0 t)) (k0_pay23 (iblk m c 1 t)) cb cr)

/-- The accumulators after a step, from those before it. -/
noncomputable def accStep (a : Accs F) : Accs F where
  sm := k0_pay30 (iblk m c 0 t) (iblk m c 1 t) a.sm
  mx := k0_pay39 (k0_pay23 (iblk m c 1 t)) (k0_pay24 (iblk m c 2 t)) (k0_pay28 (iblk m c 1 t))
    (scanL m c t a.cr a.cb) (scanR m c t a.cr a.cb) (k0_pay35 (k0_pay23 (iblk m c 1 t))) a.mx
  wx := k0_pay54 (k0_pay25 (iblk m c 0 t)) (k0_pay26 (iblk m c 0 t))
    (k0_pay50 (k0_pay27 (iblk m c 1 t)) (hid m c t) (k0_pay47 (iblk m c 14 t)) (iblk m c 15 t) (iblk m c 16 t)
      a.gm a.gm a.gm)
    (k0_pay51 (k0_pay27 (iblk m c 1 t)) (hid m c t) (k0_pay47 (iblk m c 14 t)) (iblk m c 15 t) (iblk m c 16 t) a.gm)
    a.wx
  ws := k0_pay53
    (k0_pay51 (k0_pay27 (iblk m c 1 t)) (hid m c t) (k0_pay47 (iblk m c 14 t)) (iblk m c 15 t) (iblk m c 16 t) a.gm)
    (k0_pay52 (k0_pay27 (iblk m c 1 t)) (hid m c t) (k0_pay47 (iblk m c 14 t)) (iblk m c 15 t) (iblk m c 16 t)
      a.gm a.gm a.gm a.ws)
  gm := k0_pay55
    (k0_pay49 (k0_pay27 (iblk m c 1 t)) (hid m c t) (k0_pay47 (iblk m c 14 t)) (iblk m c 15 t) (iblk m c 16 t) a.gm)
  ct := k0_pay29 (iblk m c 1 t) a.ct
  cr := k0_pay37 (scanL m c t a.cr a.cb) (scanR m c t a.cr a.cb) (k0_pay35 (k0_pay23 (iblk m c 1 t)))
  cb := k0_pay38 (k0_pay23 (iblk m c 1 t))

end

/-- The zero corner of a two-axis block. -/
theorem hz : (![0, 0] : Fin 2 → Nat) = fun _ => 0 := funext fun a => by fin_cases a <;> rfl
/-- The zero corner of a three-axis block. -/
theorem hz3 : (![0, 0, 0] : Fin 3 → Nat) = fun _ => 0 := funext fun a => by fin_cases a <;> rfl

/-- The followed accumulators of a state of the grid. -/
abbrev accsOf (a : Vec F S256x256 .f32 × Vec F S256x256 .f32 × Vec F S256x256 .f32 × Vec F S256x256 .f32 ×
    Vec F S4x256 .i32 × Vec F S256x256 .f32 × Vec F S256x256 .f32 × Vec F S256x256 .f32 × Vec F S1x256 .f32 ×
    Vec F S1x256 .f32 × Vec F S1x256 .f32 × Vec F S4x256 .f32 × Vec F S4x256 .i32 × Vec F S1x256 .f32 ×
    Vec F S1x1 .i32) : Accs F :=
  ⟨a.2.2.2.2.2.1, a.2.2.2.2.2.2.1, a.2.2.2.2.2.2.2.1, a.2.2.2.2.2.2.2.2.1, a.2.2.2.2.2.2.2.2.2.1,
    a.2.2.2.2.2.2.2.2.2.2.1, a.2.2.2.2.2.2.2.2.2.2.2.2.2.1, a.2.2.2.2.2.2.2.2.2.2.2.2.2.2⟩

variable (m : (ℓ : Loc nD τ sig) → Buf (Elt F) ℓ) (c : Dev nD) (t : Fin cfg0.N)

/-- A middle step. -/
theorem step_mid (acc) (h0 : ¬t.val % 40 = 0) (h1 : ¬t.val % 40 = 39) :
    accsOf (stAt0 m c t.val t.isLt acc) = accStep m c t (accsOf acc) := by
  rw [stAt0_B m c t acc h0 h1]
  unfold accStep
  dsimp only
  rw [Accs.mk.injEq]
  refine ⟨?_, ?_, ?_, ?_, ?_, ?_, ?_, ?_⟩
  all_goals
    dsimp only
    first | unfold sout0_B_0 | unfold sout0_B_1 | unfold sout0_B_2 | unfold sout0_B_3 | unfold sout0_B_4
          | unfold sout0_B_5 | unfold sout0_B_8 | unfold sout0_B_9
    refine (View.read_writes_eq_canon _ _ _ fun y => ?_).trans ?_
    · with_reducible
        first | apply scover0_B_0 | apply scover0_B_1 | apply scover0_B_2 | apply scover0_B_3 | apply scover0_B_4
              | apply scover0_B_5 | apply scover0_B_8 | apply scover0_B_9
    unfold kernelRun0_B
    dsimp only
    sl_unfold_words
    rw [View.canon_unit_zero hz]
    simp only [View.readAt_eq_ld, Memref.IsWhole.read_unread, View.ld_unit_zero (S := S256x256) hz,
      View.ld_unit_zero (S := S1x256) hz, View.ld_unit_zero (S := S1x1) hz, View.ld_unit_zero (S := S1x256x1) hz3,
      View.readCov_unit_zero (S := S256x256) _ hz, View.readCov_unit_zero (S := S1x256) _ hz,
      View.readCov_unit_zero (S := S1x1) _ hz, read_unread_whole]
    try rfl
end Cert.KernelIdeal.Value
-- ==== Proof.Blocks.lean ====
module
public import proofs.«01_k».proof.Proof.Steps
public import Idealize.ShloMosaic.Lib.Pointwise
public import Idealize.ShloMosaic.Lib.Claim
public import Idealize.ShloMosaic.Lib.Pipeline.ValueKit.Point
public import Idealize.ShloMosaic.Lib.StableHlo.ReadAt

/-!
# The blocks of the first call's input windows, in terms of the arguments
-/

@[expose] public section
set_option maxHeartbeats 1000000

namespace Cert.KernelIdeal.Value
open Cert.KernelIdeal Cert.KernelIdeal.Gen Idealize.ShloMosaic Idealize.ShloMosaic.TcCoe Idealize.SL.Sem

variable (m : (ℓ : Loc nD τ sig) → Buf (Elt Ideal) ℓ) (c : Dev nD)

/-- The rows, as launched. -/
abbrev arg0 : Vec Ideal S10000x256 .f32 := m ((c : Thread nD τ).loc main_arg0)
/-- The rows' segments, as launched. -/
abbrev arg1 : Vec Ideal S10000 .i32 := m ((c : Thread nD τ).loc main_arg1)
/-- Argument 2, as launched. -/
abbrev arg2 : Vec Ideal S256x256 .f32 := m ((c : Thread nD τ).loc main_arg2)
/-- Argument 3, as launched. -/
abbrev arg3 : Vec Ideal S256 .f32 := m ((c : Thread nD τ).loc main_arg3)
/-- Argument 4, as launched. -/
abbrev arg4 : Vec Ideal S256x256 .f32 := m ((c : Thread nD τ).loc main_arg4)
/-- Argument 5, as launched. -/
abbrev arg5 : Vec Ideal S256 .f32 := m ((c : Thread nD τ).loc main_arg5)
/-- Argument 6, as launched. -/
abbrev arg6 : Vec Ideal S256x256 .f32 := m ((c : Thread nD τ).loc main_arg6)
/-- Argument 7, as launched. -/
abbrev arg7 : Vec Ideal S256 .f32 := m ((c : Thread nD τ).loc main_arg7)
/-- Argument 8, as launched. -/
abbrev arg8 : Vec Ideal S256x256 .f32 := m ((c : Thread nD τ).loc main_arg8)
/-- Argument 9, as launched. -/
abbrev arg9 : Vec Ideal S256 .f32 := m ((c : Thread nD τ).loc main_arg9)
/-- Argument 10, as launched. -/
abbrev arg10 : Vec Ideal S256x1 .f32 := m ((c : Thread nD τ).loc main_arg10)
/-- Argument 11, as launched. -/
abbrev arg11 : Vec Ideal S1 .f32 := m ((c : Thread nD τ).loc main_arg11)

/-- Row `n` of the padded input. -/
noncomputable def rowX (n : ℕ) (f : Fin 256) : EReal := if h : n < 10000 then arg0 m c (ix2 ⟨n, h⟩ f) else 0
/-- The segment word of row `n` of the padded input. -/
noncomputable def rowS (n : ℕ) : BitVec 32 := if h : n < 10000 then arg1 m c (ix1 ⟨n, h⟩) else 256#32

/-- The padded rows as the call finds them. -/
theorem V_v0 (n : Fin 10240) (f : Fin 256) : V m c main_v0 (ix2 n f) = rowX m c n.val f := by
  unfold V rowX
  after_reads_at
  have : (FloatOps.sitofp FTy.f32 0#32 : Ideal .f32) = (0 : EReal) := by simp [FloatOps.sitofp]
  simp only [this]

/-- The padded segment words as the call finds them. -/
theorem V_v5 (t : Fin 40) (r : Fin 256) : V m c main_v5 (ix3 t r 0) = rowS m c (256 * t.val + r.val) := by
  unfold V rowS
  after_reads_at
  simp only [Nat.mul_comm 256]
  rfl

/-- The following rows' segment words as the call finds them. -/
theorem V_v6 (t : Fin 40) (r : Fin 256) :
    V m c main_v6 (ix3 t r 0) =
      if 256 * t.val + r.val < 10239 then rowS m c (256 * t.val + r.val + 1) else 257#32 := by
  unfold V rowS
  after_reads_at
  simp only [Nat.mul_comm 256]
  split
  · after_reads_at
    simp only [Nat.add_comm 1]
    rfl
  · after_reads_at

/-- A step's block of rows, of segment words and of following words is the step's. -/
theorem idx_row : ∀ t : Fin cfg0.N, win0_0.index t = ![t.val, 0] ∧ win0_1.index t = ![t.val, 0, 0] ∧
    win0_2.index t = ![t.val, 0, 0] := by decide +kernel
/-- Every other input window's block is its whole array. -/
theorem idx_whole : ∀ t : Fin cfg0.N, win0_3.index t = ![0, 0] ∧ win0_4.index t = ![0, 0] ∧ win0_5.index t = ![0, 0] ∧
    win0_6.index t = ![0, 0] ∧ win0_7.index t = ![0, 0] ∧ win0_8.index t = ![0, 0] ∧ win0_9.index t = ![0, 0] ∧
    win0_10.index t = ![0, 0] ∧ win0_11.index t = ![0, 0] ∧ win0_12.index t = ![0, 0] ∧ win0_13.index t = ![0, 0] ∧
    win0_14.index t = ![0, 0] ∧ win0_15.index t = ![0, 0] ∧ win0_16.index t = ![0, 0] := by decide +kernel

variable (t : Fin cfg0.N)

/-- The rows of a step. -/
theorem blk0 (r f : Fin 256) : iblk m c 0 t (ix2 r f) = rowX m c (256 * t.val + r.val) f := by
  refine Eq.trans ?_ (V_v0 m c ⟨256 * t.val + r.val, by have := t.isLt; have : cfg0.N = 40 := rfl; omega⟩ f)
  blk_ext [iblk, idx_row]

/-- The segment words of a step's rows. -/
theorem blk1 (r : Fin 256) : iblk m c 1 t (ix3 0 r 0) = rowS m c (256 * t.val + r.val) := by
  refine Eq.trans ?_ (V_v5 m c t r)
  blk_ext [iblk, idx_row]

/-- The segment words of the rows after a step's rows. -/
theorem blk2 (r : Fin 256) : iblk m c 2 t (ix3 0 r 0) =
    if 256 * t.val + r.val < 10239 then rowS m c (256 * t.val + r.val + 1) else 257#32 := by
  refine Eq.trans ?_ (V_v6 m c t r)
  blk_ext [iblk, idx_row]

/-- The first layer's weights, the high part. -/
theorem blk3 (r f : Fin 256) : iblk m c 3 t (ix2 r f) = arg2 m c (ix2 r f) := by
  refine Eq.trans (b := V m c main_v7 (ix2 r f)) ?_ ?_
  · blk_ext [iblk, idx_whole]
  · unfold V
    after_reads_at

/-- The first layer's weights, the low part. -/
theorem blk4 (r f : Fin 256) : iblk m c 4 t (ix2 r f) = (arg2 m c (ix2 r f) : EReal) - arg2 m c (ix2 r f) := by
  refine Eq.trans (b := V m c main_v10 (ix2 r f)) ?_ ?_
  · blk_ext [iblk, idx_whole]
  · unfold V
    after_reads_at

/-- The first layer's bias. -/
theorem blk5 (f : Fin 256) : iblk m c 5 t (ix2 0 f) = arg3 m c (ix1 f) := by
  refine Eq.trans (b := V m c main_v23 (ix2 0 f)) ?_ ?_
  · blk_ext [iblk, idx_whole]
  · unfold V
    after_reads_at

/-- The second layer's weights, the high part. -/
theorem blk6 (r f : Fin 256) : iblk m c 6 t (ix2 r f) = arg4 m c (ix2 r f) := by
  refine Eq.trans (b := V m c main_v11 (ix2 r f)) ?_ ?_
  · blk_ext [iblk, idx_whole]
  · unfold V
    after_reads_at

/-- The second layer's weights, the low part. -/
theorem blk7 (r f : Fin 256) : iblk m c 7 t (ix2 r f) = (arg4 m c (ix2 r f) : EReal) - arg4 m c (ix2 r f) := by
  refine Eq.trans (b := V m c main_v14 (ix2 r f)) ?_ ?_
  · blk_ext [iblk, idx_whole]
  · unfold V
    after_reads_at

/-- The second layer's bias. -/
theorem blk8 (f : Fin 256) : iblk m c 8 t (ix2 0 f) = arg5 m c (ix1 f) := by
  refine Eq.trans (b := V m c main_v24 (ix2 0 f)) ?_ ?_
  · blk_ext [iblk, idx_whole]
  · unfold V
    after_reads_at

/-- The third layer's weights, the high part. -/
theorem blk9 (r f : Fin 256) : iblk m c 9 t (ix2 r f) = arg6 m c (ix2 r f) := by
  refine Eq.trans (b := V m c main_v15 (ix2 r f)) ?_ ?_
  · blk_ext [iblk, idx_whole]
  · unfold V
    after_reads_at

/-- The third layer's weights, the low part. -/
theorem blk10 (r f : Fin 256) : iblk m c 10 t (ix2 r f) = (arg6 m c (ix2 r f) : EReal) - arg6 m c (ix2 r f) := by
  refine Eq.trans (b := V m c main_v18 (ix2 r f)) ?_ ?_
  · blk_ext [iblk, idx_whole]
  · unfold V
    after_reads_at

/-- The third layer's bias. -/
theorem blk11 (f : Fin 256) : iblk m c 11 t (ix2 0 f) = arg7 m c (ix1 f) := by
  refine Eq.trans (b := V m c main_v25 (ix2 0 f)) ?_ ?_
  · blk_ext [iblk, idx_whole]
  · unfold V
    after_reads_at

/-- The fourth layer's weights, the high part. -/
theorem blk12 (r f : Fin 256) : iblk m c 12 t (ix2 r f) = arg8 m c (ix2 r f) := by
  refine Eq.trans (b := V m c main_v19 (ix2 r f)) ?_ ?_
  · blk_ext [iblk, idx_whole]
  · unfold V
    after_reads_at

/-- The fourth layer's weights, the low part. -/
theorem blk13 (r f : Fin 256) : iblk m c 13 t (ix2 r f) = (arg8 m c (ix2 r f) : EReal) - arg8 m c (ix2 r f) := by
  refine Eq.trans (b := V m c main_v22 (ix2 r f)) ?_ ?_
  · blk_ext [iblk, idx_whole]
  · unfold V
    after_reads_at

/-- The fourth layer's bias. -/
theorem blk14 (f : Fin 256) : iblk m c 14 t (ix2 0 f) = arg9 m c (ix1 f) := by
  refine Eq.trans (b := V m c main_v26 (ix2 0 f)) ?_ ?_
  · blk_ext [iblk, idx_whole]
  · unfold V
    after_reads_at

/-- The last layer's weights. -/
theorem blk15 (f : Fin 256) : iblk m c 15 t (ix2 0 f) = arg10 m c (ix2 f 0) := by
  refine Eq.trans (b := V m c main_v27 (ix2 0 f)) ?_ ?_
  · blk_ext [iblk, idx_whole]
  · unfold V
    after_reads_at

/-- The last layer's bias. -/
theorem blk16 : iblk m c 16 t (ix2 0 0) = arg11 m c (ix1 0) := by
  refine Eq.trans (b := V m c main_v28 (ix2 0 0)) ?_ ?_
  · blk_ext [iblk, idx_whole]
  · unfold V
    after_reads_at

end Cert.KernelIdeal.Value
-- ==== Proof.StepFirst.lean ====
module
public import proofs.«01_k».proof.Proof.Steps

/-!
# The first step of the first call's grid
-/

@[expose] public section
set_option maxHeartbeats 1000000

namespace Cert.KernelIdeal.Value
open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (c : Dev nD) (t : Fin cfg0.N)

/-- The first step: whatever the accumulators held, the step goes from the initial values. -/
theorem step_first (acc) (h0 : t.val % 40 = 0) (h1 : ¬t.val % 40 = 39) :
    accsOf (stAt0 m c t.val t.isLt acc) = accStep m c t accs₀ := by
  rw [stAt0_A m c t acc h0 h1]
  unfold accStep accs₀
  dsimp only
  rw [Accs.mk.injEq]
  refine ⟨?_, ?_, ?_, ?_, ?_, ?_, ?_, ?_⟩
  all_goals
    dsimp only
    first | unfold sout0_A_0 | unfold sout0_A_1 | unfold sout0_A_2 | unfold sout0_A_3 | unfold sout0_A_4
          | unfold sout0_A_5 | unfold sout0_A_8 | unfold sout0_A_9
    refine (View.read_writes_eq_canon _ _ _ fun y => ?_).trans ?_
    · with_reducible
        first | apply scover0_A_0 | apply scover0_A_1 | apply scover0_A_2 | apply scover0_A_3 | apply scover0_A_4
              | apply scover0_A_5 | apply scover0_A_8 | apply scover0_A_9
    unfold kernelRun0_A
    dsimp only
    sl_unfold_words
    first | rw [View.canon_cons_unit_zero (S := S256x256) hz] | rw [View.canon_cons_unit_zero (S := S1x256) hz]
          | rw [View.canon_cons_unit_zero (S := S1x1) hz]
    simp only [View.readAt_eq_ld, Memref.IsWhole.read_unread, View.ld_unit_zero (S := S256x256) hz,
      View.ld_unit_zero (S := S1x256) hz, View.ld_unit_zero (S := S1x1) hz, View.ld_unit_zero (S := S1x256x1) hz3,
      View.readCov_unit_zero (S := S256x256) _ hz, View.readCov_unit_zero (S := S1x256) _ hz,
      View.readCov_unit_zero (S := S1x1) _ hz, read_unread_whole]
    try rfl

end Cert.KernelIdeal.Value
-- ==== Proof.StepLast.lean ====
module
public import proofs.«01_k».proof.Proof.Steps

/-!
# The last step of the first call's grid
-/

@[expose] public section
set_option maxHeartbeats 1000000

namespace Cert.KernelIdeal.Value
open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (c : Dev nD) (t : Fin cfg0.N)

/-- The last step's stores to the outputs. -/
theorem step_last (acc) (h0 : ¬t.val % 40 = 0) (h1 : t.val % 40 = 39) :
    (stAt0 m c t.val t.isLt acc).1 = (accStep m c t (accsOf acc)).mx ∧
    (stAt0 m c t.val t.isLt acc).2.1 = k0_pay17 (accStep m c t (accsOf acc)).ct (accStep m c t (accsOf acc)).sm ∧
    (stAt0 m c t.val t.isLt acc).2.2.1 = (accStep m c t (accsOf acc)).sm ∧
    (stAt0 m c t.val t.isLt acc).2.2.2.1 =
      k0_pay18 (accStep m c t (accsOf acc)).wx (accStep m c t (accsOf acc)).ws := by
  rw [stAt0_C m c t acc h0 h1]
  unfold accStep
  dsimp only
  refine ⟨?_, ?_, ?_, ?_⟩
  all_goals
    first | unfold out0_C_17 | unfold out0_C_18 | unfold out0_C_19 | unfold out0_C_20
    refine (View.read_writes_eq_canon _ _ _ fun y => ?_).trans ?_
    · with_reducible
        first | apply cover0_C_17 | apply cover0_C_18 | apply cover0_C_19 | apply cover0_C_20
    unfold kernelRun0_C
    dsimp only
    sl_unfold_words
    rw [View.canon_unit_zero hz]
    simp only [View.readAt_eq_ld, Memref.IsWhole.read_unread, View.ld_unit_zero (S := S256x256) hz,
      View.ld_unit_zero (S := S1x256) hz, View.ld_unit_zero (S := S1x1) hz, View.ld_unit_zero (S := S1x256x1) hz3,
      View.readCov_unit_zero (S := S256x256) _ hz, View.readCov_unit_zero (S := S1x256) _ hz,
      View.readCov_unit_zero (S := S1x1) _ hz, read_unread_whole]
    try rfl

end Cert.KernelIdeal.Value
-- ==== Proof.Accum.lean ====
module
public import proofs.«01_k».proof.Proof.KGate
public import proofs.«01_k».proof.Proof.KSoft
public import proofs.«01_k».proof.Proof.Blocks
public import proofs.«01_k».proof.Proof.StepFirst
public import proofs.«01_k».proof.Proof.StepLast

/-!
# The first call's accumulators after any number of steps

With real inputs and sorted segments, the accumulators after a number of rows are the segments' sums, counts, maxima
and exponential sums over those rows.
-/

@[expose] public section
set_option maxHeartbeats 1000000

namespace Cert.KernelIdeal.Value
open Cert.KernelIdeal Cert.KernelIdeal.Gen Cert.Seg Idealize.ShloMosaic Idealize.ShloMosaic.TcCoe Idealize.SL.Sem

variable (m : (ℓ : Loc nD τ sig) → Buf (Elt Ideal) ℓ) (c : Dev nD)

/-- The segment after row `n`'s, past the last row a number no segment has. -/
def next (s : ℕ → ℕ) (n : ℕ) : ℕ := if n < 10239 then s (n + 1) else 257

/-- The gate network at the launched weights. -/
noncomputable def gateAt (h : Fin 256 → EReal) : EReal :=
  gateRow (fun k j => arg2 m c (ix2 k j)) (fun j => arg3 m c (ix1 j)) (fun k j => arg4 m c (ix2 k j))
    (fun j => arg5 m c (ix1 j)) (fun k j => arg6 m c (ix2 k j)) (fun j => arg7 m c (ix1 j))
    (fun k j => arg8 m c (ix2 k j)) (fun j => arg9 m c (ix1 j)) (fun k => arg10 m c (ix2 k 0)) (arg11 m c (ix1 0)) h

/-- The launched arguments as numbers: `s` the padded rows' segments, `X` their entries, `g` their gates. -/
structure Reads (s : ℕ → ℕ) (X : ℕ → Fin 256 → ℝ) (g : ℕ → ℝ) : Prop where
  mono : Monotone s
  le : ∀ n, s n ≤ 256
  word : ∀ n < 10240, rowS m c n = BitVec.ofNat 32 (s n)
  row : ∀ n f, rowX m c n f = (X n f : EReal)
  gate : ∀ n, gateAt m c (rowX m c n) = (g n : EReal)
  w₁ : ∀ k j, IsR (arg2 m c (ix2 k j))
  b₁ : ∀ j, IsR (arg3 m c (ix1 j))
  w₂ : ∀ k j, IsR (arg4 m c (ix2 k j))
  b₂ : ∀ j, IsR (arg5 m c (ix1 j))
  w₃ : ∀ k j, IsR (arg6 m c (ix2 k j))
  b₃ : ∀ j, IsR (arg7 m c (ix1 j))
  w₄ : ∀ k j, IsR (arg8 m c (ix2 k j))

/-- What the accumulators hold after `N` rows. -/
structure Holds (s : ℕ → ℕ) (X : ℕ → Fin 256 → ℝ) (g : ℕ → ℝ) (N : ℕ) (a : Accs Ideal) : Prop where
  sm : ∀ b f : Fin 256, a.sm (ix2 b f) = segSum s (fun n => (X n f : EReal)) N b.val
  mx : ∀ b f : Fin 256, a.mx (ix2 b f) =
    ∑ n ∈ Finset.range N, if s n = b.val ∧ s n ≠ next s n then runMax s (fun n => (X n f : EReal)) n else 0
  wx : ∀ b f : Fin 256, a.wx (ix2 f b) = (expSum s g (fun n => X n f) N b.val : EReal)
  ws : ∀ b : Fin 256, a.ws (ix2 0 b) = (expSum s g (fun _ => 1) N b.val : EReal)
  gm : ∀ b : Fin 256, a.gm (ix2 0 b) = segMax s (fun n => (g n : EReal)) N b.val
  ct : ∀ b : Fin 256, a.ct (ix2 0 b) = segSum s (fun _ => 1) N b.val
  carry : (N = 0 ∧ a.cb (ix2 0 0) = 4294967295#32) ∨ ∃ n, N = n + 1 ∧ a.cb (ix2 0 0) = BitVec.ofNat 32 (s n)
      ∧ ∀ f : Fin 256, a.cr (ix2 0 f) = runMax s (fun n => (X n f : EReal)) n

/-- Before any row. -/
theorem holds_zero (s : ℕ → ℕ) (X : ℕ → Fin 256 → ℝ) (g : ℕ → ℝ) : Holds s X g 0 accs₀ := by
  refine ⟨fun b f => ?_, fun b f => ?_, fun b f => ?_, fun b => ?_, fun b => ?_, fun b => ?_, Or.inl ⟨rfl, ?_⟩⟩
  · unfold accs₀; pointwise [k0_pay8]; simp [segSum]
  · unfold accs₀; pointwise [k0_pay9]; simp
  · unfold accs₀; pointwise [k0_pay10]; simp [expSum]
  · unfold accs₀; pointwise [k0_pay11]; simp [expSum]
  · unfold accs₀; pointwise [k0_pay13]; simp [segMax, neg_eq]
  · unfold accs₀; pointwise [k0_pay12]; simp [segSum]
  · unfold accs₀; pointwise [k0_pay21]

variable {m c} {s : ℕ → ℕ} {X : ℕ → Fin 256 → ℝ} {g : ℕ → ℝ}

/-- The gates of a step's rows. -/
theorem gate_step (R : Reads m c s X g) (t : Fin cfg0.N) (r : Fin 256) :
    k0_pay48 (hid m c t) (k0_pay47 (iblk m c 14 t)) (iblk m c 15 t) (iblk m c 16 t) (ix2 r 0)
      = (g (256 * t.val + r.val) : EReal) := by
  rw [← R.gate]
  have hx : ∀ n f, IsR (rowX m c n f) := fun n f => ⟨_, R.row n f⟩
  have h22 : ∀ r f : Fin 256, k0_pay22 (iblk m c 0 t) (ix2 r f) = rowX m c (256 * t.val + r.val) f := by
    intro r f; pointwise [k0_pay22]; exact blk0 m c t r f
  have h42 := pay42_apply (k0_pay22 (iblk m c 0 t)) (fun k j => blk3 m c t k j)
    (fun k j => (blk4 m c t k j).trans (R.w₁ k j).sub_self)
  have h43 := pay43_apply (h := fun r => rowX m c (256 * t.val + r.val)) (v197 := iblk m c 6 t) (v173 := iblk m c 3 t)
    R.w₁ R.b₁ (fun r k => hx _ k)
    (fun r k => pay41_apply (v4 := k0_pay22 (iblk m c 0 t)) (fun r f => by rw [h22]; exact hx _ _) r k)
    (fun r j => (h42 r j).trans (Finset.sum_congr rfl fun k _ => by rw [h22]))
    (fun j => blk5 m c t j) (fun k j => blk6 m c t k j) (fun k j => (blk7 m c t k j).trans (R.w₂ k j).sub_self)
    (fun j => blk8 m c t j)
  have hh : ∀ (r : Fin 256) k, IsR (layer (fun k j => arg4 m c (ix2 k j)) (fun j => arg5 m c (ix1 j))
      (layer (fun k j => arg2 m c (ix2 k j)) (fun j => arg3 m c (ix1 j)) (rowX m c (256 * t.val + r.val))) k) :=
    fun r k => layer_real R.w₂ R.b₂ (layer_real R.w₁ R.b₁ (hx _)) k
  have h46 := pay46_apply (v245 := iblk m c 12 t) (v221 := iblk m c 9 t) R.w₃ R.b₃ hh
    (v210 := k0_pay44 (k0_pay41 (k0_pay22 (iblk m c 0 t)))
      (k0_pay42 (k0_pay22 (iblk m c 0 t)) (iblk m c 3 t) (iblk m c 4 t))
      (iblk m c 3 t) (iblk m c 5 t) (iblk m c 6 t) (iblk m c 7 t) (iblk m c 6 t) (iblk m c 8 t))
    (v213 := k0_pay45 (k0_pay41 (k0_pay22 (iblk m c 0 t)))
      (k0_pay42 (k0_pay22 (iblk m c 0 t)) (iblk m c 3 t) (iblk m c 4 t))
      (iblk m c 3 t) (iblk m c 5 t) (iblk m c 6 t) (iblk m c 7 t) (iblk m c 6 t) (iblk m c 8 t))
    (fun r k => by pointwise [k0_pay44]; exact h43 r k)
    (fun r k => by pointwise [k0_pay45, k0_pay44]; rw [h43 r k]; exact (hh r k).sub_self)
    (fun k j => blk9 m c t k j) (fun k j => (blk10 m c t k j).trans (R.w₃ k j).sub_self)
    (fun j => blk11 m c t j) (fun k j => blk12 m c t k j) (fun k j => (blk13 m c t k j).trans (R.w₄ k j).sub_self)
  exact pay48_apply h46 (fun j => blk14 m c t j) (fun j => blk15 m c t j) (blk16 m c t) r

/-- A step adds its rows. -/
theorem holds_step (R : Reads m c s X g) (t : Fin cfg0.N) {a : Accs Ideal} (h : Holds s X g (256 * t.val) a) :
    Holds s X g (256 * t.val + 256) (accStep m c t a) := by
  have ht : t.val < 40 := t.isLt
  have hI : ∀ f n, IsR ((X n f : ℝ) : EReal) := fun f n => IsR.coe _
  have h5 : SegWords s (256 * t.val) (k0_pay23 (iblk m c 1 t)) := fun r =>
    (pay23_apply _ r).trans ((blk1 m c t r).trans (R.word _ (by omega)))
  have h8 : SegWords (next s) (256 * t.val) (k0_pay24 (iblk m c 2 t)) := by
    intro r
    refine (pay24_apply _ r).trans ((blk2 m c t r).trans ?_)
    unfold next
    split
    · exact R.word _ (by omega)
    · rfl
  have hn : ∀ n, next s n ≤ 257 := fun n => by
    unfold next; split
    · exact (R.le _).trans (by norm_num)
    · exact le_rfl
  have h3 : ∀ r f : Fin 256, iblk m c 0 t (ix2 r f) = ((X (256 * t.val + r.val) f : ℝ) : EReal) := fun r f =>
    (blk0 m c t r f).trans (R.row _ f)
  have h4 : ∀ r f : Fin 256, k0_pay22 (iblk m c 0 t) (ix2 r f) = ((X (256 * t.val + r.val) f : ℝ) : EReal) := by
    intro r f; pointwise [k0_pay22]; exact h3 r f
  have hg := gate_step R t
  have hsc : ∀ r f : Fin 256, k0_pay36 (scanL m c t a.cr a.cb) (scanR m c t a.cr a.cb)
      (k0_pay35 (k0_pay23 (iblk m c 1 t))) (ix2 r f)
      = runMax s (fun n => ((X n f : ℝ) : EReal)) (256 * t.val + r.val) := fun r f =>
    scan_apply (X := fun n f => ((X n f : ℝ) : EReal)) R.mono R.le h4 h5 h.carry r f
  have hcr : ∀ f : Fin 256, (accStep m c t a).cr (ix2 0 f)
      = k0_pay36 (scanL m c t a.cr a.cb) (scanR m c t a.cr a.cb) (k0_pay35 (k0_pay23 (iblk m c 1 t))) (ix2 255 f) :=
    fun f => pay37_apply _ _ _ f
  refine ⟨fun b f => ?_, fun b f => ?_, fun b f => ?_, fun b => ?_, fun b => ?_, fun b => ?_,
    Or.inr ⟨256 * t.val + 255, rfl, ?_, fun f => ?_⟩⟩
  · exact pay30_apply R.le (X := fun n f => ((X n f : ℝ) : EReal)) (fun n f => hI f n) h5 h3 (h.sm b f)
  · exact pay39_apply R.le hn (R := fun n f => runMax s (fun n => ((X n f : ℝ) : EReal)) n)
      (fun n f => runMax_real R.mono (hI f) n) h5 h8 hsc (h.mx b f)
  · exact soft_weighted R.le h5 hg h3 (h.gm b) (h.wx b f)
  · exact soft_sum R.le h5 hg (h.gm b) (h.ws b)
  · exact (pay55_apply _ b).trans (pay49_apply R.le h5 hg (h.gm b))
  · exact pay29_apply R.le h5 (h.ct b)
  · exact (pay38_apply _).trans (h5 255)
  · have h255 : ((255 : Fin 256) : ℕ) = 255 := rfl
    rw [hcr, hsc, h255]

/-- The accumulators after step `n`, the last excepted. -/
theorem holds_after (R : Reads m c s X g) (n : ℕ) (hn : n < cfg0.N) (h39 : n < 39) :
    Holds s X g (256 * n + 256) (accsOf (outsAt0 m c n hn)) := by
  induction n with
  | zero =>
    rw [outsAt0_zero, step_first m c ⟨0, hn⟩ junk0 rfl (by norm_num)]
    exact holds_step R ⟨0, hn⟩ (holds_zero s X g)
  | succ n ih =>
    rw [outsAt0_succ, step_mid m c ⟨n + 1, hn⟩ _ (by simp only; omega) (by simp only; omega)]
    exact holds_step R ⟨n + 1, hn⟩ (ih _ (by omega))

/-- The four results of the last step. -/
theorem results (R : Reads m c s X g) (b f : Fin 256) :
    G17 m c (ix2 b f) = (if segMax s (fun n => (X n f : EReal)) 10240 b.val = ⊥ then 0
        else segMax s (fun n => (X n f : EReal)) 10240 b.val)
    ∧ G18 m c (ix2 b f) = Ideal.div (segSum s (fun n => (X n f : EReal)) 10240 b.val)
        (max (segSum s (fun _ => 1) 10240 b.val) 1)
    ∧ G19 m c (ix2 b f) = segSum s (fun n => (X n f : EReal)) 10240 b.val
    ∧ G20 m c (ix2 b f) = Ideal.div (expSum s g (fun n => X n f) 10240 b.val : EReal)
        ((expSum s g (fun _ => 1) 10240 b.val : EReal) + eps) := by
  have h39 : 39 < cfg0.N := lt_of_lt_of_eq (by decide) N_0.symm
  have hH := holds_step R ⟨39, h39⟩ (holds_after R 38 (lt_trans (by decide) h39) (by decide))
  have e40 : 256 * (⟨39, h39⟩ : Fin cfg0.N).val + 256 = 10240 := by norm_num
  rw [e40] at hH
  obtain ⟨e17, e18, e19, e20⟩ := step_last m c ⟨39, h39⟩ (outsAt0 m c 38 (lt_trans (by decide) h39)) (by norm_num) (by norm_num)
  have e39 : outsAt0 m c 39 h39 = stAt0 m c (⟨39, h39⟩ : Fin cfg0.N).val (⟨39, h39⟩ : Fin cfg0.N).isLt
    (outsAt0 m c 38 (lt_trans (by decide) h39)) := outsAt0_succ m c 38 h39
  rw [G17_last, G18_last, G19_last, G20_last, ← outsAt0_sweep m c 39 h39, e39, e17, e18, e19, e20, pay17_apply,
    pay18_apply _ _ (fun b f => by rw [hH.wx, hH.ws]; exact quot_real s g _ _ _), hH.mx, hH.sm, hH.ct, hH.wx, hH.ws,
    sum_last R.mono (fun n => IsR.coe _) 10240 b.val (next s) (fun n hn => by unfold next; rw [if_pos (by omega)])
      (fun n hn => by unfold next; rw [if_neg (by omega)]; have := R.le n; omega)]
  exact ⟨rfl, rfl, rfl, rfl⟩
end Cert.KernelIdeal.Value
-- ==== Proof.Scatter.lean ====
module

public import proofs.«01_k».proof.Proof.Words
public import Idealize.ShloMosaic.Lib.Routing.OpsPair
public import Idealize.ShloMosaic.Lib.Routing.Ops

@[expose] public section

/-! A scatter that adds each row to the row of its segment, read at one element: the sum over the rows of
that segment. And the same for a vector of counts. -/

namespace Cert.Seg

open Idealize.ShloMosaic

/-- The dimension numbers of a scatter of `N` rows of length `C` into a table of `R` rows, one index each. -/
def rowDims (R C N : ℕ) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

/-- Row `n` lands in the row its index names, at its own column. -/
theorem row_lands {R C N : ℕ} (wf) (idx : IVec ⟨2, ![N, 1]⟩ 32) (n : Fin N) (f c : Fin C) (b : Fin R) :
    (rowDims R C N wf).resultIdx? (ix2 n f) idx = some (ix2 b c)
      ↔ (idx (ix2 n 0)).toInt = (b.val : ℤ) ∧ f = c := by
  rw [Routing.resultIdx?_eq_some]
  have h0 : (rowDims R C N wf).start (ix2 n f) idx 0 = (idx (ix2 n 0)).toInt := by
    unfold ScatterDims.start
    rw [dif_pos (show (0 : Fin 2) ∈ (rowDims R C N wf).scatterDimsToOperandDims from List.mem_singleton.mpr rfl)]
    congr 2
    funext a
    refine Fin.ext ?_
    match a with
    | ⟨0, _⟩ => rfl
    | ⟨1, _⟩ => rfl
  have h1 : (rowDims R C N wf).start (ix2 n f) idx 1 = 0 := by
    unfold ScatterDims.start
    rw [dif_neg (show (1 : Fin 2) ∉ (rowDims R C N wf).scatterDimsToOperandDims from
      fun h => by cases List.mem_singleton.1 h)]
  have w0 : (rowDims R C N wf).window (ix2 n f) 0 = 0 := rfl
  have w1 : (rowDims R C N wf).window (ix2 n f) 1 = f.val := rfl
  constructor
  · intro h
    have a0 := h 0
    have a1 := h 1
    rw [h0, w0] at a0
    rw [h1, w1] at a1
    refine ⟨?_, Fin.ext ?_⟩
    · simpa using a0
    · have : ((f.val : ℤ)) = (c.val : ℤ) := by simpa using a1
      exact_mod_cast this
  · rintro ⟨e0, rfl⟩ a
    match a with
    | ⟨0, _⟩ => exact (congrArg₂ (· + ·) (h0.trans e0) (congrArg Nat.cast w0)).trans (add_zero _)
    | ⟨1, _⟩ => exact (congrArg₂ (· + ·) h1 (congrArg Nat.cast w1)).trans (zero_add _)

/-- A small word read signed. -/
theorem toInt_small {a : ℕ} (h : a < 2 ^ 31) : (BitVec.ofNat 32 a).toInt = (a : ℤ) := by
  rw [BitVec.toInt_eq_toNat_of_lt] <;> rw [BitVec.toNat_ofNat, Nat.mod_eq_of_lt (by omega)]
  omega

/-- The scatter of rows at one element: the table's entry plus the entries of the rows of that segment. -/
theorem scatter_rows {R C N : ℕ} (wf) (x : FVec Ideal ⟨2, ![R, C]⟩ .f32) (idx : IVec ⟨2, ![N, 1]⟩ 32)
    (upd : FVec Ideal ⟨2, ![N, C]⟩ .f32) {s : ℕ → ℕ} (hs : ∀ n : Fin N, idx (ix2 n 0) = BitVec.ofNat 32 (s n.val))
    (hb : ∀ n, s n < 2 ^ 31) (b : Fin R) (f : Fin C) :
    Host.scatterAdd (rowDims R C N wf) x idx upd (ix2 b f)
      = x (ix2 b f) + ∑ n : Fin N, if s n.val = b.val then upd (ix2 n f) else 0 := by
  show x (ix2 b f) + ∑ j ∈ Finset.univ.filter (fun j => (rowDims R C N wf).resultIdx? j idx = some (ix2 b f)), upd j = _
  rw [Finset.sum_filter, sum_idx2]
  congr 1
  refine Finset.sum_congr rfl fun n _ => ?_
  rw [Finset.sum_eq_single f]
  · refine if_congr ?_ rfl rfl
    rw [row_lands, hs, toInt_small (hb _)]
    constructor
    · rintro ⟨h, _⟩; exact_mod_cast h
    · intro h; exact ⟨by exact_mod_cast h, rfl⟩
  · intro c _ hc
    rw [if_neg]
    rw [row_lands]
    exact fun h => hc h.2
  · intro h; exact absurd (Finset.mem_univ f) h

/-- The dimension numbers of a scatter of `N` numbers into a vector of `R`, one index each. -/
def vecDims (R N : ℕ) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- Number `n` lands at the entry its index names. -/
theorem vec_lands {R N : ℕ} (wf) (idx : IVec ⟨2, ![N, 1]⟩ 32) (n : Fin N) (b : Fin R) :
    (vecDims R N wf).resultIdx? (ix1 n) idx = some (ix1 b) ↔ (idx (ix2 n 0)).toInt = (b.val : ℤ) := by
  rw [Routing.resultIdx?_eq_some]
  have h0 : (vecDims R N wf).start (ix1 n) idx 0 = (idx (ix2 n 0)).toInt := by
    unfold ScatterDims.start
    rw [dif_pos (show (0 : Fin 1) ∈ (vecDims R N wf).scatterDimsToOperandDims from List.mem_singleton.mpr rfl)]
    congr 2
    funext a
    refine Fin.ext ?_
    match a with
    | ⟨0, _⟩ => rfl
    | ⟨1, _⟩ => rfl
  have w0 : (vecDims R N wf).window (ix1 n) 0 = 0 := rfl
  constructor
  · intro h
    have a0 := h 0
    rw [h0, w0] at a0
    simpa using a0
  · intro e0 a
    match a with
    | ⟨0, _⟩ => exact (congrArg₂ (· + ·) (h0.trans e0) (congrArg Nat.cast w0)).trans (add_zero _)

/-- Adding one at each of a list's entries that satisfy `p`, from a word: the number of them is added. -/
theorem foldl_ones {ι : Type} (p : ι → Prop) [DecidablePred p] (l : List ι) (a : BitVec 32) :
    l.foldl (fun a n => if p n then IntOp.addi a 1#32 else a) a = a + BitVec.ofNat 32 (l.countP p) := by
  induction l generalizing a with
  | nil => simp
  | cons x l ih =>
    rw [List.foldl_cons, ih]
    by_cases h : p x
    · rw [if_pos h, List.countP_cons_of_pos (by simpa using h)]
      show a + 1#32 + _ = _
      rw [Nat.add_comm, BitVec.ofNat_add, BitVec.add_assoc]
    · rw [if_neg h, List.countP_cons_of_neg (by simpa using h)]

/-- How many of the first `N` rows lie in segment `b`. -/
def segCount (s : ℕ → ℕ) (N b : ℕ) : ℕ := ((Finset.univ : Finset (Fin N)).filter fun n => s n.val = b).card

/-- There are at most `N` of them. -/
theorem segCount_le (s : ℕ → ℕ) (N b : ℕ) : segCount s N b ≤ N := by
  unfold segCount
  exact (Finset.card_le_univ _).trans (by rw [Fintype.card_fin])

/-- The scatter of ones into a vector of zeros at one entry: the number of rows of that segment. -/
theorem scatter_count {R N : ℕ} (wf) (x : IVec ⟨1, ![R]⟩ 32) (hx : ∀ i, x i = 0#32) (idx : IVec ⟨2, ![N, 1]⟩ 32)
    (upd : IVec ⟨1, ![N]⟩ 32) (hu : ∀ i, upd i = 1#32) {s : ℕ → ℕ}
    (hs : ∀ n : Fin N, idx (ix2 n 0) = BitVec.ofNat 32 (s n.val)) (hb : ∀ n, s n < 2 ^ 31) (b : Fin R) :
    Host.scatter (vecDims R N wf) IntOp.addi x idx upd (ix1 b) = BitVec.ofNat 32 (segCount s N b.val) := by
  rw [Routing.scatter_at, hx]
  simp only [hu]
  rw [foldl_ones, BitVec.zero_add]
  congr 1
  rw [List.countP_eq_length_filter, ← List.toFinset_card_of_nodup ((List.nodup_finRange _).filter _)]
  unfold segCount
  refine Finset.card_bij (fun k _ => ((⟨1, ![N]⟩ : Shape).rowMajor.symm k) 0) ?_ ?_ ?_
  · intro k hk
    rw [List.mem_toFinset, List.mem_filter] at hk
    have hk := of_decide_eq_true hk.2
    rw [← ix1_eta ((⟨1, ![N]⟩ : Shape).rowMajor.symm k)] at hk
    have hk := (vec_lands wf idx (((⟨1, ![N]⟩ : Shape).rowMajor.symm k) 0 : Fin N) b).1 hk
    refine Finset.mem_filter.2 ⟨Finset.mem_univ _, ?_⟩
    have h2 := (hs _).symm ▸ hk
    rw [toInt_small (hb _)] at h2
    exact_mod_cast h2
  · intro k₁ _ k₂ _ h
    apply (⟨1, ![N]⟩ : Shape).rowMajor.symm.injective
    rw [← ix1_eta ((⟨1, ![N]⟩ : Shape).rowMajor.symm k₁), ← ix1_eta ((⟨1, ![N]⟩ : Shape).rowMajor.symm k₂), h]
  · intro n hn
    refine ⟨(⟨1, ![N]⟩ : Shape).rowMajor (ix1 n), ?_, ?_⟩
    · rw [List.mem_toFinset, List.mem_filter]
      refine ⟨List.mem_finRange _, decide_eq_true ?_⟩
      rw [Equiv.symm_apply_apply, vec_lands, hs, toInt_small (hb _)]
      exact_mod_cast (Finset.mem_filter.1 hn).2
    · rw [Equiv.symm_apply_apply]; rfl

/-- The count as a sum of ones. -/
theorem segSum_one (s : ℕ → ℕ) (N b : ℕ) : segSum s (fun _ => 1) N b = ((segCount s N b : ℝ) : EReal) := by
  unfold segSum segCount
  rw [Finset.sum_range (fun n => if s n = b then (1 : EReal) else 0), Finset.card_filter]
  push_cast
  rw [coe_sum]
  refine Finset.sum_congr rfl fun n _ => ?_
  split_ifs <;> rfl

end Cert.Seg
-- ==== Proof.RRead.lean ====
module

public import proofs.«01_k».proof.Proof.Scatter
public import proofs.«01_k».proof.Proof.Gen.ReferenceIdeal.Read
public import proofs.«01_k».proof.Proof.Gen.ReferenceIdeal
public import Idealize.ShloMosaic.Lib.Pointwise

@[expose] public section

/-! The reference's operations read at an element, as the segment sums and maxima the kernel is compared with. -/

namespace Cert.ReferenceIdeal.Read

open Cert.ReferenceIdeal Cert.ReferenceIdeal.Gen Idealize.ShloMosaic Cert.Seg

/-- The pattern of minus infinity is `⊥`. -/
theorem bot_eq : Ideal.ofBits FTy.f32 4286578688#32 = ⊥ := by
  simp [Ideal.ofBits, Ideal.ieee]

/-- The pattern of plus infinity is `⊤`. -/
theorem top_eq : Ideal.ofBits FTy.f32 2139095040#32 = ⊤ := by
  simp [Ideal.ofBits, Ideal.ieee]

/-- A maximum folded from `⊥` as a supremum. -/
theorem fold_sup (f : Fin 10000 → EReal) : Finset.fold max (⊥ : EReal) f Finset.univ = Finset.univ.sup f := rfl

/-- A real's absolute value is below `⊤`. -/
theorem abs_lt_top {x : EReal} (h : IsR x) : FloatOps.absf (F := Ideal) (φ := .f32) x < ⊤ := by
  obtain ⟨a, rfl⟩ := h
  show max (a : EReal) (-(a : EReal)) < ⊤
  exact max_lt (EReal.coe_lt_top a) (by rw [← EReal.coe_neg]; exact EReal.coe_lt_top _)

/-- `⊥`'s absolute value is not. -/
theorem abs_bot : ¬ FloatOps.absf (F := Ideal) (φ := .f32) (⊥ : EReal) < ⊤ := by
  show ¬ max (⊥ : EReal) (-(⊥ : EReal)) < ⊤
  simp

/-- A choice on a comparison of two values. -/
theorem select_lt (a b x y : EReal) :
    Scalar.select (FloatOps.cmpf (F := Ideal) (φ := .f32) .olt a b) x y = if a < b then x else y := by
  by_cases h : a < b
  · rw [if_pos h]
    have : FloatOps.cmpf (F := Ideal) (φ := .f32) .olt a b = 1#1 := by
      show BitVec.ofBool (decide (a < b)) = 1#1
      rw [decide_eq_true h]; rfl
    rw [this]; rfl
  · rw [if_neg h]
    have : FloatOps.cmpf (F := Ideal) (φ := .f32) .olt a b = 0#1 := by
      show BitVec.ofBool (decide (a < b)) = 0#1
      rw [decide_eq_false h]; rfl
    rw [this]; rfl

/-- A segment's maximum of reals, replaced by zero where no row lies in it. -/
theorem finite_select {x y : EReal} (h : x = ⊥ ∨ IsR x) :
    Scalar.select (FloatOps.cmpf (F := Ideal) (φ := .f32) .olt (FloatOps.absf (F := Ideal) (φ := .f32) x) (⊤ : EReal)) x y
      = if x = ⊥ then y else x := by
  rw [select_lt]
  rcases h with h | h
  · subst h; rw [if_neg abs_bot, if_pos rfl]
  · rw [if_pos (abs_lt_top h), if_neg h.ne_bot]

/-- The constant plus infinity. -/
theorem top_const : FloatOps.ofBits (F := Ideal) FTy.f32 0x7F800000#32 = (⊤ : EReal) := top_eq

/-- The constant zero. -/
theorem zero_const : FloatOps.ofBits (F := Ideal) FTy.f32 0x00000000#32 = (0 : EReal) := Ideal.ofBits_zero_f32

/-- A segment's maximum as a supremum over all the rows. -/
theorem segMax_univ (s : ℕ → ℕ) (I : ℕ → EReal) (N b : ℕ) :
    ((Finset.univ : Finset (Fin N)).sup fun n => if s n.val = b then I n.val else ⊥) = segMax s I N b := by
  have h := segMax_add s I 0 N b
  rw [Nat.zero_add] at h
  rw [h]
  have h0 : segMax s I 0 b = ⊥ := by simp [segMax]
  rw [h0, max_eq_right bot_le]
  simp only [Nat.zero_add]

/-- A segment's sum as a sum over all the rows. -/
theorem segSum_univ (s : ℕ → ℕ) (I : ℕ → EReal) (N b : ℕ) :
    (∑ n : Fin N, if s n.val = b then I n.val else 0) = segSum s I N b := by
  unfold segSum
  rw [Finset.sum_range (fun n => if s n = b then I n else 0)]

/-- The index of a row's entry in a vector, from the row's in a column. -/
theorem idx1_eta (n : Fin 10000) : (fun a => match a with
    | ⟨0, _⟩ => ⟨((ix2 n (0 : Fin 1) : S10000x1.Idx) 0).val, ((ix2 n (0 : Fin 1) : S10000x1.Idx) 0).isLt⟩ : S10000.Idx) = ix1 n := by
  funext a
  match a with
  | ⟨0, _⟩ => rfl

section
variable {x1 : IVec S10000 32} {s : ℕ → ℕ} (hs : ∀ n, s n ≤ 256)
  (h1 : ∀ n : Fin 10000, x1 (ix1 n) = BitVec.ofNat 32 (s n.val))
include hs h1

/-- A row's segment word is `b`'s exactly where its segment is `b`. -/
theorem word_eq (n : Fin 10000) (b : Fin 256) : x1 (ix1 n) = BitVec.ofNat 32 b.val ↔ s n.val = b.val := by
  rw [h1]; exact ofNat_inj (by have := hs n.val; omega) (by have := b.isLt; omega)

/-- The maxima of the segments, `⊥` where no row lies in one. -/
theorem v13_apply {x0 : FVec Ideal S10000x256 .f32} {X : ℕ → Fin 256 → EReal}
    (h0 : ∀ (n : Fin 10000) f, x0 (ix2 n f) = X n.val f) (b f : Fin 256) :
    val_main_v13 (F := Ideal) x0 x1 (ix2 b f) = segMax s (fun n => X n f) 10000 b.val := by
  pointwise [val_main_v13, val_main_v12, val_main_call0_v1, val_main_call0_v2, val_main_call0_v3, val_main_call0_v0,
    val_main_cst, val_main_v10, val_main_v9, val_main_v7, val_main_v8, val_main_v6, val_main_v5, val_main_v4, val_main_v11]
  have e1 : val_main_cst_1 (F := Ideal) (Shape.Idx.first h_S_) = (⊥ : EReal) := bot_eq
  have e2 : id (constant (F := Ideal) S_ FTy.f32 4286578688#32) ix0 = (⊥ : EReal) := bot_eq
  rw [e1]
  simp only [e2, select_eq, word_eq hs h1, h0]
  rw [fold_sup]
  exact segMax_univ s (fun n => X n f) 10000 b.val

/-- The segments' maxima, zero where no row lies in one. -/
theorem v17_apply {x0 : FVec Ideal S10000x256 .f32} {X : ℕ → Fin 256 → EReal}
    (h0 : ∀ (n : Fin 10000) f, x0 (ix2 n f) = X n.val f) (hX : ∀ n f, IsR (X n f)) (b f : Fin 256) :
    val_main_v17 (F := Ideal) x0 x1 (ix2 b f)
      = if segMax s (fun n => X n f) 10000 b.val = ⊥ then 0 else segMax s (fun n => X n f) 10000 b.val := by
  rw [val_main_v17_apply, val_main_v16_apply, val_main_v14_apply, val_main_v15_apply, val_main_cst_2_apply,
    val_main_call1_v1_apply, val_main_call1_v0_apply, val_main_cst_3_apply, v13_apply hs h1 h0 b f, top_const, zero_const,
    Ideal.hostAbsf_def]
  refine finite_select ?_
  rcases segMax_cases (s := s) (fun n => hX n f) 10000 b.val with h | h
  · exact Or.inl h.1
  · exact Or.inr h.1

/-- The segments' sums. -/
theorem v20_apply {x0 : FVec Ideal S10000x256 .f32} {X : ℕ → Fin 256 → EReal}
    (h0 : ∀ (n : Fin 10000) f, x0 (ix2 n f) = X n.val f) (b f : Fin 256) :
    val_main_v20 (F := Ideal) x0 x1 (ix2 b f) = segSum s (fun n => X n f) 10000 b.val := by
  have e := scatter_rows scatter_S256x256_S10000x1_S10000x256_1_0_0_1_wf (val_main_v18 (F := Ideal))
    (val_main_v19 (F := Ideal) x1) x0 (s := s) (fun n => (val_main_v19_apply x1 (ix2 n 0)).trans ((congrArg x1 (idx1_eta n)).trans (h1 n)))
    (fun n => by have := hs n; omega) b f
  refine Eq.trans e ?_
  pointwise [val_main_v18, val_main_cst_4]
  simp only [h0]
  exact segSum_univ s (fun n => X n f) 10000 b.val

/-- The segments' row counts. -/
theorem v3_apply (b : Fin 256) :
    val_main_v3 (F := Ideal) x1 (ix1 b) = BitVec.ofNat 32 (segCount s 10000 b.val) :=
  scatter_count scatter_S256_S10000x1_S10000_n_0_0_1_wf (val_main_v1 (F := Ideal)) (fun _ => rfl)
    (val_main_v2 (F := Ideal) x1) (val_main_v0 (F := Ideal)) (fun _ => rfl) (s := s)
    (fun n => (val_main_v2_apply x1 (ix2 n 0)).trans ((congrArg x1 (idx1_eta n)).trans (h1 n))) (fun n => by have := hs n; omega) b

/-- The segments' means: the sum over the count, or over one where no row lies in one. -/
theorem v26_apply {x0 : FVec Ideal S10000x256 .f32} {X : ℕ → Fin 256 → EReal}
    (h0 : ∀ (n : Fin 10000) f, x0 (ix2 n f) = X n.val f) (b f : Fin 256) :
    val_main_v26 (F := Ideal) x0 x1 (ix2 b f)
      = Ideal.div (segSum s (fun n => X n f) 10000 b.val) (max (segSum s (fun _ => 1) 10000 b.val) 1) := by
  pointwise [val_main_v26, val_main_v25, val_main_v24, val_main_v23, val_main_v22, val_main_v21, val_main_c_5]
  rw [v20_apply hs h1 h0, v3_apply hs h1, segSum_one]
  congr 1
  have hc := segCount_le s 10000 b.val
  generalize segCount s 10000 b.val = c at *
  show (((IntOp.maxsi (BitVec.ofNat 32 c) 1#32).toInt : ℝ) : EReal) = _
  have hm : IntOp.maxsi (BitVec.ofNat 32 c) 1#32 = BitVec.ofNat 32 (max c 1) := by
    unfold IntOp.maxsi BitVec.slt
    rw [toInt_small (a := c) (by omega), show (1#32 : BitVec 32).toInt = 1 from rfl]
    by_cases h : 1 < c
    · rw [if_pos (decide_eq_true (by omega)), max_eq_left h.le]
    · rw [if_neg (by rw [decide_eq_true_eq]; omega), max_eq_right (by omega)]
  rw [hm, toInt_small (by omega), ← EReal.coe_one, ← EReal.coe_strictMono.monotone.map_max]
  push_cast
  rfl

end

end Cert.ReferenceIdeal.Read
-- ==== Proof.RAttn.lean ====
module

public import proofs.«01_k».proof.Proof.RRead

@[expose] public section

/-! The reference's gate and its attention sums, read at an element. -/

namespace Cert.ReferenceIdeal.Read

open Cert.ReferenceIdeal Cert.ReferenceIdeal.Gen Idealize.ShloMosaic Cert.Seg

/-- The activation as the reference writes it. -/
theorem leaky_const (t : EReal) : (if 0 ≤ t then t else id (constant (F := Ideal) S_ FTy.f32 1008981770#32) ix0 * t) = leaky t := rfl

section
variable (x0 : FVec Ideal S10000x256 .f32) (x2 : FVec Ideal S256x256 .f32) (x3 : FVec Ideal S256 .f32)
  (x4 : FVec Ideal S256x256 .f32) (x5 : FVec Ideal S256 .f32) (x6 : FVec Ideal S256x256 .f32) (x7 : FVec Ideal S256 .f32)
  (x8 : FVec Ideal S256x256 .f32) (x9 : FVec Ideal S256 .f32) (x10 : FVec Ideal S256x1 .f32) (x11 : FVec Ideal S1 .f32)

/-- The first layer. -/
theorem v31_apply (n : Fin 10000) (j : Fin 256) : val_main_v31 (F := Ideal) x0 x2 x3 (ix2 n j)
    = layer (fun k j => x2 (ix2 k j)) (fun j => x3 (ix1 j)) (fun k => x0 (ix2 n k)) j := by
  pointwise [val_main_v31, val_main_call2_v4, val_main_call2_v3, val_main_call2_v2, val_main_call2_v1, val_main_call2_v0,
    val_main_call2_cst, val_main_cst_6, val_main_v30, val_main_v29, val_main_v28, val_main_v27]
  rw [leaky_const]; rfl

/-- The second layer. -/
theorem v36_apply (n : Fin 10000) (j : Fin 256) : val_main_v36 (F := Ideal) x0 x2 x3 x4 x5 (ix2 n j)
    = layer (fun k j => x4 (ix2 k j)) (fun j => x5 (ix1 j)) (fun k => val_main_v31 (F := Ideal) x0 x2 x3 (ix2 n k)) j := by
  pointwise [val_main_v36, val_main_call3_v4, val_main_call3_v3, val_main_call3_v2, val_main_call3_v1, val_main_call3_v0,
    val_main_call3_cst, val_main_cst_7, val_main_v35, val_main_v34, val_main_v33, val_main_v32]
  rw [leaky_const]; rfl

/-- The third layer. -/
theorem v41_apply (n : Fin 10000) (j : Fin 256) : val_main_v41 (F := Ideal) x0 x2 x3 x4 x5 x6 x7 (ix2 n j)
    = layer (fun k j => x6 (ix2 k j)) (fun j => x7 (ix1 j))
        (fun k => val_main_v36 (F := Ideal) x0 x2 x3 x4 x5 (ix2 n k)) j := by
  pointwise [val_main_v41, val_main_call4_v4, val_main_call4_v3, val_main_call4_v2, val_main_call4_v1, val_main_call4_v0,
    val_main_call4_cst, val_main_cst_8, val_main_v40, val_main_v39, val_main_v38, val_main_v37]
  rw [leaky_const]; rfl

/-- The fourth layer. -/
theorem v46_apply (n : Fin 10000) (j : Fin 256) : val_main_v46 (F := Ideal) x0 x2 x3 x4 x5 x6 x7 x8 x9 (ix2 n j)
    = layer (fun k j => x8 (ix2 k j)) (fun j => x9 (ix1 j))
        (fun k => val_main_v41 (F := Ideal) x0 x2 x3 x4 x5 x6 x7 (ix2 n k)) j := by
  pointwise [val_main_v46, val_main_call5_v4, val_main_call5_v3, val_main_call5_v2, val_main_call5_v1, val_main_call5_v0,
    val_main_call5_cst, val_main_cst_9, val_main_v45, val_main_v44, val_main_v43, val_main_v42]
  rw [leaky_const]; rfl

/-- The gate of a row. -/
theorem v50_apply (n : Fin 10000) : val_main_v50 (F := Ideal) x0 x2 x3 x4 x5 x6 x7 x8 x9 x10 x11 (ix2 n 0)
    = gateRow (fun k j => x2 (ix2 k j)) (fun j => x3 (ix1 j)) (fun k j => x4 (ix2 k j)) (fun j => x5 (ix1 j))
        (fun k j => x6 (ix2 k j)) (fun j => x7 (ix1 j)) (fun k j => x8 (ix2 k j)) (fun j => x9 (ix1 j))
        (fun k => x10 (ix2 k 0)) (x11 (ix1 0)) (fun k => x0 (ix2 n k)) := by
  pointwise [val_main_v50, val_main_v49, val_main_v48, val_main_v47]
  simp only [v46_apply, v41_apply, v36_apply, v31_apply]
  rfl

end

section
variable {x0 : FVec Ideal S10000x256 .f32} {x2 : FVec Ideal S256x256 .f32} {x3 : FVec Ideal S256 .f32}
  {x4 : FVec Ideal S256x256 .f32} {x5 : FVec Ideal S256 .f32} {x6 : FVec Ideal S256x256 .f32} {x7 : FVec Ideal S256 .f32}
  {x8 : FVec Ideal S256x256 .f32} {x9 : FVec Ideal S256 .f32} {x10 : FVec Ideal S256x1 .f32} {x11 : FVec Ideal S1 .f32}
  {x1 : IVec S10000 32} {s : ℕ → ℕ} (hs : ∀ n, s n ≤ 256)
  (h1 : ∀ n : Fin 10000, x1 (ix1 n) = BitVec.ofNat 32 (s n.val)) {g : ℕ → ℝ}
  (hg : ∀ n : Fin 10000, val_main_v50 (F := Ideal) x0 x2 x3 x4 x5 x6 x7 x8 x9 x10 x11 (ix2 n 0) = (g n.val : EReal))
include hs h1 hg

/-- The segments' largest gates, `⊥` where no row lies in one. -/
theorem v60_apply (b : Fin 256) : val_main_v60 (F := Ideal) x0 x1 x2 x3 x4 x5 x6 x7 x8 x9 x10 x11 (ix2 b 0)
    = segMax s (fun n => (g n : EReal)) 10000 b.val := by
  unfold val_main_v60 val_main_v59 val_main_call6_v1 val_main_v58
  generalize val_main_v50 (F := Ideal) x0 x2 x3 x4 x5 x6 x7 x8 x9 x10 x11 = v at *
  pointwise [val_main_call6_v2, val_main_call6_v0, val_main_cst_10, val_main_v57, val_main_v56, val_main_v54, val_main_v55,
    val_main_v53, val_main_v52, val_main_v51]
  have e1 : val_main_cst_11 (F := Ideal) (Shape.Idx.first h_S_) = (⊥ : EReal) := bot_eq
  have e2 : id (constant (F := Ideal) S_ FTy.f32 4286578688#32) ix0 = (⊥ : EReal) := bot_eq
  rw [e1]
  simp only [e2, select_eq, word_eq hs h1, hg]
  rw [fold_sup]
  exact segMax_univ s (fun n => (g n : EReal)) 10000 b.val

/-- The same, zero where no row lies in one. -/
theorem v64_apply (b : Fin 256) : val_main_v64 (F := Ideal) x0 x1 x2 x3 x4 x5 x6 x7 x8 x9 x10 x11 (ix2 b 0)
    = if segMax s (fun n => (g n : EReal)) 10000 b.val = ⊥ then 0 else segMax s (fun n => (g n : EReal)) 10000 b.val := by
  rw [val_main_v64_apply, val_main_v63_apply, val_main_v61_apply, val_main_v62_apply, val_main_cst_12_apply,
    val_main_call7_v1_apply, val_main_call7_v0_apply, val_main_cst_13_apply, v60_apply hs h1 hg b, top_const, zero_const,
    Ideal.hostAbsf_def]
  refine finite_select ?_
  rcases segMax_cases (s := s) (fun n => IsR.coe (g n)) 10000 b.val with h | h
  · exact Or.inl h.1
  · exact Or.inr h.1

/-- A segment's word read unsigned. -/
theorem word_toNat (n : Fin 10000) : (x1 (ix1 n)).toNat < 2 ^ (32 - 1) := by
  have := hs n.val
  rw [h1, BitVec.toNat_ofNat, Nat.mod_eq_of_lt (by omega)]
  omega

/-- The wrapped index of a row is its segment. -/
theorem v70_apply (n : Fin 10000) : val_main_v70 (F := Ideal) x1 (ix2 n 0) = BitVec.ofNat 32 (s n.val) := by
  pointwise [val_main_v70, val_main_v69, val_main_v66, val_main_v68, val_main_v67, val_main_v65, val_main_c_14, val_main_c_15]
  exact (Routing.wrap_of_lt _ _ (word_toNat hs h1 hg n)).trans (h1 n)

/-- The wrapped index of a row is its segment, the second time. -/
theorem v84_apply (n : Fin 10000) : val_main_v84 (F := Ideal) x1 (ix2 n 0) = BitVec.ofNat 32 (s n.val) := by
  pointwise [val_main_v84, val_main_v83, val_main_v80, val_main_v82, val_main_v81, val_main_v79, val_main_c_18, val_main_c_19]
  exact (Routing.wrap_of_lt _ _ (word_toNat hs h1 hg n)).trans (h1 n)

/-- A row's exponential, relative to its segment's largest gate. -/
theorem v73_apply (n : Fin 10000) (b : Fin 256) (hn : s n.val = b.val) :
    val_main_v73 (F := Ideal) x0 x1 x2 x3 x4 x5 x6 x7 x8 x9 x10 x11 (ix2 n 0)
      = Ideal.exp ((g n.val : EReal) - segMax s (fun n => (g n : EReal)) 10000 b.val) := by
  have e : val_main_v71 (F := Ideal) x0 x1 x2 x3 x4 x5 x6 x7 x8 x9 x10 x11 (ix2 n 0)
      = val_main_v64 (F := Ideal) x0 x1 x2 x3 x4 x5 x6 x7 x8 x9 x10 x11 (ix2 b 0) :=
    Routing.gather_row _ rfl rfl rfl rfl rfl _ _ n 0 b ((v70_apply hs h1 hg n).trans (by rw [hn])) (by norm_num)
  rw [val_main_v73_apply, val_main_v72_apply, e, v64_apply hs h1 hg, hg]
  rcases segMax_cases (s := s) (fun n => IsR.coe (g n)) 10000 b.val with ⟨_, h⟩ | h
  · exact absurd hn (h n.val n.isLt)
  · rw [if_neg h.1.ne_bot]
    generalize segMax s (fun n => (g n : EReal)) 10000 b.val = M
    rfl

/-- The segments' sums of exponentials. -/
theorem v76_apply (b : Fin 256) : val_main_v76 (F := Ideal) x0 x1 x2 x3 x4 x5 x6 x7 x8 x9 x10 x11 (ix2 b 0)
    = (expSum s g (fun _ => 1) 10000 b.val : EReal) := by
  have e := scatter_rows scatter_S256x1_S10000x1_S10000x1_1_0_0_1_wf (val_main_v74 (F := Ideal))
    (val_main_v75 (F := Ideal) x1) (val_main_v73 (F := Ideal) x0 x1 x2 x3 x4 x5 x6 x7 x8 x9 x10 x11) (s := s)
    (fun n => (val_main_v75_apply x1 (ix2 n 0)).trans ((congrArg x1 (idx1_eta n)).trans (h1 n)))
    (fun n => by have := hs n; omega) b 0
  refine Eq.trans e ?_
  have e0 : val_main_v74 (F := Ideal) (ix2 b 0) = (0 : EReal) := zero_const
  rw [e0, zero_add, ← exp_sum g 10000 b.val (m := fun _ => segMax s (fun n => (g n : EReal)) 10000 b.val) (fun _ _ _ => rfl)]
  refine Finset.sum_congr rfl fun n _ => ?_
  by_cases hn : s n.val = b.val
  · rw [if_pos hn, if_pos hn, v73_apply hs h1 hg n b hn]
  · rw [if_neg hn, if_neg hn]

/-- A row's divisor: its segment's sum of exponentials, kept positive. -/
theorem v85_apply (n : Fin 10000) (b : Fin 256) (hn : s n.val = b.val) :
    val_main_v85 (F := Ideal) x0 x1 x2 x3 x4 x5 x6 x7 x8 x9 x10 x11 (ix2 n 0)
      = (expSum s g (fun _ => 1) 10000 b.val : EReal) + eps := by
  have e : val_main_v85 (F := Ideal) x0 x1 x2 x3 x4 x5 x6 x7 x8 x9 x10 x11 (ix2 n 0)
      = val_main_v78 (F := Ideal) x0 x1 x2 x3 x4 x5 x6 x7 x8 x9 x10 x11 (ix2 b 0) :=
    Routing.gather_row _ rfl rfl rfl rfl rfl _ _ n 0 b ((v84_apply hs h1 hg n).trans (by rw [hn])) (by norm_num)
  rw [e, val_main_v78_apply, v76_apply hs h1 hg]
  rfl

/-- The attention sums: a segment's weighted sum of exponentials over its sum of exponentials. -/
theorem v91_apply {X : ℕ → Fin 256 → ℝ} (h0 : ∀ (n : Fin 10000) f, x0 (ix2 n f) = (X n.val f : EReal)) (b f : Fin 256) :
    val_main_v91 (F := Ideal) x0 x1 x2 x3 x4 x5 x6 x7 x8 x9 x10 x11 (ix2 b f)
      = Ideal.div (expSum s g (fun n => X n f) 10000 b.val : EReal) ((expSum s g (fun _ => 1) 10000 b.val : EReal) + eps) := by
  have e := scatter_rows scatter_S256x256_S10000x1_S10000x256_1_0_0_1_wf (val_main_v89 (F := Ideal))
    (val_main_v90 (F := Ideal) x1) (val_main_v88 (F := Ideal) x0 x1 x2 x3 x4 x5 x6 x7 x8 x9 x10 x11) (s := s)
    (fun n => (val_main_v90_apply x1 (ix2 n 0)).trans ((congrArg x1 (idx1_eta n)).trans (h1 n)))
    (fun n => by have := hs n; omega) b f
  refine Eq.trans e ?_
  have e0 : val_main_v89 (F := Ideal) (ix2 b f) = (0 : EReal) := zero_const
  rw [e0, zero_add, ← quot_sum g (fun n => X n f) 10000 b.val
    (m := fun _ => segMax s (fun n => (g n : EReal)) 10000 b.val)
    (d := fun _ => (expSum s g (fun _ => 1) 10000 b.val : EReal) + eps) (fun _ _ _ => rfl) (fun _ _ _ => rfl)]
  refine Finset.sum_congr rfl fun n _ => ?_
  by_cases hn : s n.val = b.val
  · rw [if_pos hn, if_pos hn, val_main_v88_apply, h0]
    have e87 : val_main_v87 (F := Ideal) x0 x1 x2 x3 x4 x5 x6 x7 x8 x9 x10 x11 (ix2 n f)
        = val_main_v86 (F := Ideal) x0 x1 x2 x3 x4 x5 x6 x7 x8 x9 x10 x11 (ix2 n 0) := by
      rw [val_main_v87_apply]
      refine congrArg (val_main_v86 (F := Ideal) x0 x1 x2 x3 x4 x5 x6 x7 x8 x9 x10 x11) (funext fun a => ?_)
      match a with
      | ⟨0, _⟩ => rfl
      | ⟨1, _⟩ => rfl
    rw [e87, val_main_v86_apply, v73_apply hs h1 hg n b hn, v85_apply hs h1 hg n b hn]
    rfl
  · rw [if_neg hn, if_neg hn]

end

end Cert.ReferenceIdeal.Read
-- ==== Proof.Top.lean ====
module
public import Idealize.ShloMosaic.Lib.Tactic
public import Mathlib.Data.EReal.Basic
public import Mathlib.Data.Prod.Lex

/-!
# The best rows of a set, by rank

A row beats another when its key is larger, or equal with a smaller number. A row's rank in a set is the number of rows
of the set beating it. Three picks of the best entry list the rows of rank 0, 1 and 2, and the lists of two sets
suffice for the list of their union.
-/

@[expose] public section

namespace Cert.Top

/-- A row's place in the order: larger keys first, then smaller numbers. -/
noncomputable def place (key : ℕ → ℝ) (n : ℕ) : ℝ ×ₗ ℕᵒᵈ := toLex (key n, OrderDual.toDual n)

/-- Which row is placed before which. -/
theorem place_lt (key : ℕ → ℝ) (n n' : ℕ) :
    place key n < place key n' ↔ key n < key n' ∨ (key n = key n' ∧ n' < n) := by
  unfold place
  rw [Prod.Lex.toLex_lt_toLex]
  rfl

/-- Different rows have different places. -/
theorem place_inj (key : ℕ → ℝ) : Function.Injective (place key) := by
  intro n n' h
  have h1 := congrArg (fun p => (ofLex p).2) h
  exact h1

variable {key : ℕ → ℝ}

/-- How many rows of a set beat a row. -/
noncomputable def rank (key : ℕ → ℝ) (A : Finset ℕ) (n : ℕ) : ℕ := (A.filter fun n' => place key n < place key n').card

/-- A larger set gives no smaller rank. -/
theorem rank_mono {A C : Finset ℕ} (h : A ⊆ C) (n : ℕ) : rank key A n ≤ rank key C n :=
  Finset.card_le_card (Finset.filter_subset_filter _ h)

/-- A beating row has the smaller rank. -/
theorem rank_lt {A : Finset ℕ} {n n' : ℕ} (h' : n' ∈ A) (h : place key n < place key n') :
    rank key A n' < rank key A n := by
  refine Finset.card_lt_card ⟨fun x hx => ?_, fun hs => ?_⟩
  · rw [Finset.mem_filter] at hx ⊢
    exact ⟨hx.1, h.trans hx.2⟩
  · have := hs (Finset.mem_filter.2 ⟨h', h⟩)
    exact lt_irrefl _ (Finset.mem_filter.1 this).2

/-- Rows of a set have different ranks. -/
theorem rank_inj {A : Finset ℕ} {n n' : ℕ} (h : n ∈ A) (h' : n' ∈ A) (e : rank key A n = rank key A n') : n = n' := by
  rcases lt_trichotomy (place key n) (place key n') with hl | he | hl
  · exact absurd e (rank_lt h' hl).ne'
  · exact place_inj key he
  · exact absurd e (rank_lt h hl).ne

/-- A rank in a set is below its size. -/
theorem rank_lt_card {A : Finset ℕ} {n : ℕ} (h : n ∈ A) : rank key A n < A.card := by
  refine Finset.card_lt_card ⟨Finset.filter_subset _ _, fun hs => ?_⟩
  exact lt_irrefl _ (Finset.mem_filter.1 (hs h)).2

/-- Every number below the size is a rank. -/
theorem exists_rank {A : Finset ℕ} {k : ℕ} (h : k < A.card) : ∃ n ∈ A, rank key A n = k := by
  have e : A.image (rank key A) = Finset.range A.card := by
    refine Finset.eq_of_subset_of_card_le (fun x hx => ?_) ?_
    · obtain ⟨n, hn, rfl⟩ := Finset.mem_image.1 hx
      exact Finset.mem_range.2 (rank_lt_card hn)
    · rw [Finset.card_range, Finset.card_image_of_injOn fun a ha b hb => rank_inj ha hb]
  have := (Finset.ext_iff.1 e k).2 (Finset.mem_range.2 h)
  exact Finset.mem_image.1 this

/-- The set without its best row. -/
noncomputable def rest (key : ℕ → ℝ) (A : Finset ℕ) : Finset ℕ := A.filter fun n => rank key A n ≠ 0

/-- Without the best row every rank is one less. -/
theorem rank_rest {A : Finset ℕ} {n : ℕ} (hn : n ∈ A) (h0 : rank key A n ≠ 0) :
    rank key (rest key A) n + 1 = rank key A n := by
  obtain ⟨n₀, h₀, e₀⟩ := exists_rank (key := key) (Finset.card_pos.2 ⟨n, hn⟩)
  have hb : place key n < place key n₀ := by
    rcases lt_trichotomy (place key n) (place key n₀) with hl | he | hl
    · exact hl
    · exact absurd (place_inj key he ▸ e₀) h0
    · have := rank_lt hn hl; omega
  have e : A.filter (fun n' => place key n < place key n')
      = insert n₀ ((rest key A).filter fun n' => place key n < place key n') := by
    ext x
    simp only [rest, Finset.mem_filter, Finset.mem_insert]
    constructor
    · rintro ⟨hx, hl⟩
      by_cases h : rank key A x = 0
      · exact Or.inl (rank_inj hx h₀ (h.trans e₀.symm))
      · exact Or.inr ⟨⟨hx, h⟩, hl⟩
    · rintro (rfl | ⟨⟨hx, -⟩, hl⟩)
      · exact ⟨h₀, hb⟩
      · exact ⟨hx, hl⟩
  unfold rank at e₀ ⊢
  rw [e, Finset.card_insert_of_notMem]
  simp only [rest, Finset.mem_filter, not_and]
  intro h
  exact absurd e₀ h.2

/-- The rows of rank below 3. -/
noncomputable def top (key : ℕ → ℝ) (A : Finset ℕ) : Finset ℕ := A.filter fun n => rank key A n < 3

/-- The best rows of two sets rank as in the union. -/
theorem rank_union {A B : Finset ℕ} {n : ℕ} (h : rank key (top key A ∪ top key B) n < 3) :
    rank key (A ∪ B) n = rank key (top key A ∪ top key B) n := by
  have hsub : top key A ∪ top key B ⊆ A ∪ B :=
    Finset.union_subset_union (Finset.filter_subset _ _) (Finset.filter_subset _ _)
  refine le_antisymm (Finset.card_le_card fun x hx => ?_) (rank_mono hsub n)
  by_contra hc
  have hne : (((A ∪ B).filter fun x => place key n < place key x) \ (top key A ∪ top key B)).Nonempty := by
    refine ⟨x, Finset.mem_sdiff.2 ⟨hx, fun hd => hc ?_⟩⟩
    exact Finset.mem_filter.2 ⟨hd, (Finset.mem_filter.1 hx).2⟩
  obtain ⟨y, hy, hmax⟩ := Finset.exists_max_image _ (place key) hne
  obtain ⟨hyC, hyD⟩ := Finset.mem_sdiff.1 hy
  obtain ⟨hyC, hyn⟩ := Finset.mem_filter.1 hyC
  have key3 : ∀ S, S ⊆ A ∪ B → (rank key S y < 3 → y ∈ top key A ∪ top key B) → False := by
    intro S hS hr
    have h3 : 3 ≤ rank key S y := by
      by_contra h; exact hyD (hr (by omega))
    refine absurd h (not_lt.2 (h3.trans (Finset.card_le_card fun z hz => ?_)))
    obtain ⟨hzS, hz⟩ := Finset.mem_filter.1 hz
    refine Finset.mem_filter.2 ⟨?_, hyn.trans hz⟩
    by_contra hzD
    exact absurd hz (not_lt.2 (hmax z (Finset.mem_sdiff.2 ⟨Finset.mem_filter.2 ⟨hS hzS, hyn.trans hz⟩, hzD⟩)))
  rcases Finset.mem_union.1 hyC with hA | hB
  · exact key3 A Finset.subset_union_left fun h => Finset.mem_union_left _ (Finset.mem_filter.2 ⟨hA, h⟩)
  · exact key3 B Finset.subset_union_right fun h => Finset.mem_union_right _ (Finset.mem_filter.2 ⟨hB, h⟩)

/-- The rows of one of the three ranks are the same. -/
theorem mem_union {A B : Finset ℕ} {n k : ℕ} (hk : k < 3) :
    (n ∈ top key A ∪ top key B ∧ rank key (top key A ∪ top key B) n = k)
      ↔ (n ∈ A ∪ B ∧ rank key (A ∪ B) n = k) := by
  have hsub : top key A ∪ top key B ⊆ A ∪ B :=
    Finset.union_subset_union (Finset.filter_subset _ _) (Finset.filter_subset _ _)
  constructor
  · rintro ⟨hn, rfl⟩
    exact ⟨hsub hn, rank_union hk⟩
  · rintro ⟨hn, rfl⟩
    refine ⟨?_, (rank_union ((rank_mono hsub n).trans_lt hk)).symm⟩
    rcases Finset.mem_union.1 hn with h | h
    · exact Finset.mem_union_left _ (Finset.mem_filter.2
        ⟨h, (rank_mono Finset.subset_union_left n).trans_lt hk⟩)
    · exact Finset.mem_union_right _ (Finset.mem_filter.2
        ⟨h, (rank_mono Finset.subset_union_right n).trans_lt hk⟩)

/-- A value and a row word hold the row of rank `k`, or no row. -/
def Slot (key : ℕ → ℝ) (A : Finset ℕ) (k : ℕ) (v : EReal) (w : BitVec 32) : Prop :=
  (∃ n ∈ A, rank key A n = k ∧ v = (key n : EReal) ∧ w = BitVec.ofNat 32 n) ∨ ((∀ n ∈ A, rank key A n ≠ k) ∧ v = ⊥)

/-- Values and row words list exactly the rows of a set, among entries holding no row. -/
structure Lists (key : ℕ → ℝ) {ι : Type} (A : Finset ℕ) (v : ι → EReal) (w : ι → BitVec 32) : Prop where
  entry : ∀ j, v j = ⊥ ∨ ∃ n ∈ A, v j = (key n : EReal) ∧ w j = BitVec.ofNat 32 n
  row : ∀ n ∈ A, ∃ j, v j = (key n : EReal) ∧ w j = BitVec.ofNat 32 n

/-- A slot of the set without its best row is the next slot of the set. -/
theorem slot_rest {A : Finset ℕ} {k : ℕ} {v : EReal} {w : BitVec 32} (h : Slot key (rest key A) k v w) :
    Slot key A (k + 1) v w := by
  rcases h with ⟨n, hn, hr, hv, hw⟩ | ⟨hn, hv⟩
  · obtain ⟨hA, h0⟩ := Finset.mem_filter.1 hn
    exact Or.inl ⟨n, hA, by rw [← rank_rest hA h0, hr], hv, hw⟩
  · refine Or.inr ⟨fun n hA hr => ?_, hv⟩
    have h0 : rank key A n ≠ 0 := by omega
    exact hn n (Finset.mem_filter.2 ⟨hA, h0⟩) (by have := rank_rest hA h0; omega)

/-- The slots of the best rows of two sets are the union's. -/
theorem slot_union {A B : Finset ℕ} {k : ℕ} (hk : k < 3) {v : EReal} {w : BitVec 32}
    (h : Slot key (top key A ∪ top key B) k v w) : Slot key (A ∪ B) k v w := by
  rcases h with ⟨n, hn, hr, hv, hw⟩ | ⟨hn, hv⟩
  · obtain ⟨h1, h2⟩ := (mem_union hk).1 ⟨hn, hr⟩
    exact Or.inl ⟨n, h1, h2, hv, hw⟩
  · refine Or.inr ⟨fun n h1 h2 => ?_, hv⟩
    obtain ⟨h3, h4⟩ := (mem_union hk).2 ⟨h1, h2⟩
    exact hn n h3 h4

/-- Two triples of slots list the best rows of two sets. -/
theorem lists_union {A B : Finset ℕ} {ι : Type} {v : ι → EReal} {w : ι → BitVec 32} (a b : Fin 3 → ι)
    (hab : ∀ j, (∃ k, j = a k) ∨ ∃ k, j = b k)
    (ha : ∀ k, Slot key A k.val (v (a k)) (w (a k))) (hb : ∀ k, Slot key B k.val (v (b k)) (w (b k))) :
    Lists key (top key A ∪ top key B) v w := by
  have sub : ∀ {S : Finset ℕ} {k : Fin 3} {j : ι}, Slot key S k.val (v j) (w j) →
      v j = ⊥ ∨ ∃ n ∈ top key S, v j = (key n : EReal) ∧ w j = BitVec.ofNat 32 n := by
    intro S k j h
    rcases h with ⟨n, hn, hr, hv, hw⟩ | ⟨-, hv⟩
    · exact Or.inr ⟨n, Finset.mem_filter.2 ⟨hn, hr ▸ k.isLt⟩, hv, hw⟩
    · exact Or.inl hv
  have sup : ∀ {S : Finset ℕ} {c : Fin 3 → ι}, (∀ k, Slot key S k.val (v (c k)) (w (c k))) →
      ∀ n ∈ top key S, ∃ j, v j = (key n : EReal) ∧ w j = BitVec.ofNat 32 n := by
    intro S c hc n hn
    obtain ⟨hS, h3⟩ := Finset.mem_filter.1 hn
    rcases hc ⟨_, h3⟩ with ⟨n', hn', hr, hv, hw⟩ | ⟨hno, -⟩
    · obtain rfl := rank_inj hn' hS hr
      exact ⟨_, hv, hw⟩
    · exact absurd rfl (hno n hS)
  refine ⟨fun j => ?_, fun n hn => ?_⟩
  · rcases hab j with ⟨k, rfl⟩ | ⟨k, rfl⟩
    · exact (sub (ha k)).imp id fun ⟨n, hn, h⟩ => ⟨n, Finset.mem_union_left _ hn, h⟩
    · exact (sub (hb k)).imp id fun ⟨n, hn, h⟩ => ⟨n, Finset.mem_union_right _ hn, h⟩
  · rcases Finset.mem_union.1 hn with h | h
    · exact sup ha n h
    · exact sup hb n h

/-- A value and a word as one pick finds them: the largest value, and the smallest word among its entries. -/
structure Pick {ι : Type} (v : ι → EReal) (w : ι → BitVec 32) (x : EReal) (y : BitVec 32) : Prop where
  le : ∀ j, v j ≤ x
  eq : ∃ j, v j = x
  least : ∀ j, y.toInt ≤ (if v j = x then w j else 1073741824#32).toInt
  word : ∃ j, y = if v j = x then w j else 1073741824#32

/-- A small number's word, read as a signed number. -/
theorem toInt_ofNat {n : ℕ} (h : n < 10240) : (BitVec.ofNat 32 n).toInt = n := by
  rw [BitVec.toInt_ofNat']
  apply Int.bmod_eq_of_le <;> omega

/-- One pick finds the best row, and clearing its word leaves the rest. -/
theorem pick {ι : Type} {A : Finset ℕ} (hA : ∀ n ∈ A, n < 10240) {v : ι → EReal} {w : ι → BitVec 32}
    (h : Lists key A v w) {x : EReal} {y : BitVec 32} (p : Pick v w x y) :
    Slot key A 0 x y ∧ Lists key (rest key A) (fun j => if w j = y then ⊥ else v j) w := by
  rcases A.eq_empty_or_nonempty with rfl | ⟨n₁, hn₁⟩
  · have hv : ∀ j, v j = ⊥ := fun j => (h.entry j).resolve_right (by simp)
    refine ⟨Or.inr ⟨by simp, ?_⟩, fun j => Or.inl (by simp only [hv, ite_self]), by simp [rest]⟩
    obtain ⟨j, e⟩ := p.eq
    rw [← e, hv]
  · obtain ⟨n₀, h₀, e₀⟩ := exists_rank (key := key) (Finset.card_pos.2 ⟨n₁, hn₁⟩)
    have hbest : ∀ n ∈ A, key n < key n₀ ∨ (key n = key n₀ ∧ n₀ ≤ n) := by
      intro n hn
      rcases lt_trichotomy (place key n) (place key n₀) with hl | he | hl
      · exact ((place_lt key n n₀).1 hl).imp id fun h => ⟨h.1, h.2.le⟩
      · obtain rfl := place_inj key he
        exact Or.inr ⟨rfl, le_rfl⟩
      · have := rank_lt hn hl; omega
    obtain ⟨j₀, hv₀, hw₀⟩ := h.row n₀ h₀
    have hx : x = (key n₀ : EReal) := by
      refine le_antisymm ?_ (hv₀ ▸ p.le j₀)
      obtain ⟨j, e⟩ := p.eq
      rw [← e]
      rcases h.entry j with hb | ⟨n, hn, hv, -⟩
      · rw [hb]; exact bot_le
      · rw [hv, EReal.coe_le_coe_iff]
        rcases hbest n hn with hl | ⟨he, -⟩
        · exact hl.le
        · exact he.le
    have hy0 : y.toInt ≤ n₀ := by
      have := p.least j₀
      rwa [hv₀, hx, if_pos rfl, hw₀, toInt_ofNat (hA n₀ h₀)] at this
    have hy : y = BitVec.ofNat 32 n₀ := by
      obtain ⟨j, e⟩ := p.word
      by_cases hj : v j = x
      · rw [if_pos hj] at e
        rcases h.entry j with hb | ⟨n, hn, hv, hw⟩
        · rw [hb, hx] at hj
          exact absurd hj (EReal.bot_ne_coe _)
        · rw [hv, hx, EReal.coe_eq_coe_iff] at hj
          rw [e, hw] at hy0 ⊢
          rw [toInt_ofNat (hA n hn)] at hy0
          rcases hbest n hn with hl | ⟨-, hle⟩
          · exact absurd hj hl.ne
          · rw [show n = n₀ by omega]
      · rw [if_neg hj] at e
        rw [e] at hy0
        have h1 := hA n₀ h₀
        have h2 : (1073741824#32 : BitVec 32).toInt = 1073741824 := by decide
        omega
    have hne : ∀ n ∈ A, BitVec.ofNat 32 n = y → n = n₀ := by
      intro n hn e
      have := congrArg BitVec.toInt (e.trans hy)
      rw [toInt_ofNat (hA n hn), toInt_ofNat (hA n₀ h₀)] at this
      omega
    refine ⟨Or.inl ⟨n₀, h₀, e₀, hx, hy⟩, fun j => ?_, fun n hn => ?_⟩
    · by_cases hj : w j = y
      · exact Or.inl (if_pos hj)
      · simp only [if_neg hj]
        refine (h.entry j).imp id fun ⟨n, hn, hv, hw⟩ => ⟨n, Finset.mem_filter.2 ⟨hn, fun hr => hj ?_⟩, hv, hw⟩
        rw [hw, rank_inj hn h₀ (hr.trans e₀.symm), hy]
    · obtain ⟨hnA, hr⟩ := Finset.mem_filter.1 hn
      obtain ⟨j, hv, hw⟩ := h.row n hnA
      refine ⟨j, ?_, hw⟩
      have : w j ≠ y := fun e => hr (hne n hnA (hw ▸ e) ▸ e₀)
      simp only [if_neg this, hv]

end Cert.Top
end
-- ==== Proof.TopRead.lean ====
module
public import proofs.«01_k».proof.Proof.Words
public import proofs.«01_k».proof.Proof.Top
public import proofs.«01_k».proof.Proof.KSoft

/-!
# The best rows of a step, read at one segment

Each pick takes the largest value of a column and the smallest row number among its entries, then clears that row.
-/

@[expose] public section

namespace Cert.KernelIdeal.Gen
open Idealize.ShloMosaic Idealize.ShloMosaic.TcCoe Cert.Top Cert.Seg

/-- The smallest of a list of words is one of them, or the start, and no more than any. -/
theorem fold_minsi {ι : Type} [DecidableEq ι] (S : Finset ι) (z : BitVec 32) (f : ι → BitVec 32) :
    (S.fold IntOp.minsi z f = z ∨ ∃ j ∈ S, S.fold IntOp.minsi z f = f j) ∧ (S.fold IntOp.minsi z f).toInt ≤ z.toInt
      ∧ ∀ j ∈ S, (S.fold IntOp.minsi z f).toInt ≤ (f j).toInt := by
  induction S using Finset.induction_on with
  | empty => exact ⟨Or.inl rfl, le_rfl, by simp⟩
  | insert a S ha ih =>
    rw [Finset.fold_insert ha]
    obtain ⟨h1, h2, h3⟩ := ih
    have hm : ∀ x y : BitVec 32, IntOp.minsi x y = if x.toInt < y.toInt then x else y := by
      intro x y
      unfold IntOp.minsi
      by_cases h : x.toInt < y.toInt
      · simp [h, BitVec.slt]
      · simp [h, BitVec.slt]
    rw [hm]
    split
    · rename_i h
      refine ⟨Or.inr ⟨a, Finset.mem_insert_self _ _, rfl⟩, by omega, fun j hj => ?_⟩
      rcases Finset.mem_insert.1 hj with rfl | hj
      · exact le_rfl
      · have := h3 j hj; omega
    · rename_i h
      refine ⟨h1.imp id fun ⟨j, hj, e⟩ => ⟨j, Finset.mem_insert_of_mem hj, e⟩, h2, fun j hj => ?_⟩
      rcases Finset.mem_insert.1 hj with rfl | hj
      · omega
      · exact h3 j hj

/-- The largest word. -/
theorem le_maxInt (x : BitVec 32) : x.toInt ≤ (2147483647#32 : BitVec 32).toInt := by
  have h : (2147483647#32 : BitVec 32).toInt = 2147483647 := by decide
  have := BitVec.toInt_lt (x := x)
  omega

/-- The largest value of a column and the smallest word among its entries make a pick. -/
theorem pick_of {n : ℕ} [NeZero n] {v : Fin n → EReal} {w : Fin n → BitVec 32} {x : EReal} {y : BitVec 32}
    (hx : x = Finset.fold max ⊥ v Finset.univ)
    (hy : y = Finset.fold IntOp.minsi 2147483647#32 (fun j => if v j = x then w j else 1073741824#32) Finset.univ) :
    Pick v w x y := by
  have hs : x = Finset.univ.sup v := hx
  obtain ⟨h1, -, h3⟩ := fold_minsi Finset.univ 2147483647#32 (fun j => if v j = x then w j else 1073741824#32)
  rw [← hy] at h1 h3
  refine ⟨fun j => hs ▸ Finset.le_sup (Finset.mem_univ j), ?_, fun j => h3 j (Finset.mem_univ j), ?_⟩
  · obtain ⟨j, -, e⟩ := Finset.exists_mem_eq_sup Finset.univ ⟨0, Finset.mem_univ _⟩ v
    exact ⟨j, e.symm.trans hs.symm⟩
  · rcases h1 with h | ⟨j, -, h⟩
    · have e0 := h3 0 (Finset.mem_univ _)
      refine ⟨0, BitVec.eq_of_toInt_eq (le_antisymm e0 ?_)⟩
      rw [h]; exact le_maxInt _
    · exact ⟨j, h⟩

section
variable (v321 : FVec Ideal S256x256 .f32) (v325 v331 : IVec S256x256 32) (v327 : FVec Ideal S1x256 .f32)
  (v358 : Vec Ideal S3x256 .f32) (v360 : IVec S3x256 32) (b : Fin 256)

/-- The block's first pick's word. -/
theorem pay60_apply : k0_pay60 v331 (ix2 0 b)
    = Finset.fold IntOp.minsi 2147483647#32 (fun r : Fin 256 => v331 (ix2 r b)) Finset.univ := by
  pointwise [k0_pay60]

/-- The block's keys after one pick. -/
theorem pay61_apply (r : Fin 256) : k0_pay61 v321 v325 v331 (ix2 r b)
    = if v325 (ix2 r b) = k0_pay60 v331 (ix2 0 b) then ⊥ else v321 (ix2 r b) := by
  pointwise [k0_pay61]; rw [select_eq, neg_eq]

/-- The block's second pick's value. -/
theorem pay62_apply : k0_pay62 v321 v325 v331 (ix2 0 b)
    = Finset.fold max ⊥ (fun r : Fin 256 => k0_pay61 v321 v325 v331 (ix2 r b)) Finset.univ := by
  pointwise [k0_pay62]; rw [negInf_eq]

/-- The block's second pick's word. -/
theorem pay63_apply : k0_pay63 v321 v325 v331 (ix2 0 b)
    = Finset.fold IntOp.minsi 2147483647#32 (fun r : Fin 256 => if k0_pay61 v321 v325 v331 (ix2 r b)
        = k0_pay62 v321 v325 v331 (ix2 0 b) then v325 (ix2 r b) else 1073741824#32) Finset.univ := by
  pointwise [k0_pay63]

/-- The block's keys after two picks. -/
theorem pay64_apply (r : Fin 256) : k0_pay64 v321 v325 v331 (ix2 r b)
    = if v325 (ix2 r b) = k0_pay63 v321 v325 v331 (ix2 0 b) then ⊥ else k0_pay61 v321 v325 v331 (ix2 r b) := by
  pointwise [k0_pay64]; rw [select_eq, neg_eq]

/-- The block's third pick's value. -/
theorem pay65_apply : k0_pay65 v321 v325 v331 (ix2 0 b)
    = Finset.fold max ⊥ (fun r : Fin 256 => k0_pay64 v321 v325 v331 (ix2 r b)) Finset.univ := by
  pointwise [k0_pay65]; rw [negInf_eq]

/-- The values before the merge: the former best rows', then the block's. -/
theorem pay66_old (k : Fin 3) : k0_pay66 v321 v325 v327 v331 v358 (ix2 (Fin.castAdd 3 k) b) = v358 (ix2 k b) := by
  pointwise [k0_pay66]
  fin_cases k <;> rfl

/-- The block's three values. -/
theorem pay66_new : k0_pay66 v321 v325 v327 v331 v358 (ix2 3 b) = v327 (ix2 0 b)
    ∧ k0_pay66 v321 v325 v327 v331 v358 (ix2 4 b) = k0_pay62 v321 v325 v331 (ix2 0 b)
    ∧ k0_pay66 v321 v325 v327 v331 v358 (ix2 5 b) = k0_pay65 v321 v325 v331 (ix2 0 b) := by
  refine ⟨?_, ?_, ?_⟩ <;> pointwise [k0_pay66]

/-- The words before the merge: the former best rows', then the block's. -/
theorem pay67_old (k : Fin 3) : k0_pay67 v321 v325 v331 v360 (ix2 (Fin.castAdd 3 k) b) = v360 (ix2 k b) := by
  pointwise [k0_pay67]
  fin_cases k <;> rfl

/-- The block's three words. -/
theorem pay67_new : k0_pay67 v321 v325 v331 v360 (ix2 3 b) = k0_pay60 v331 (ix2 0 b)
    ∧ k0_pay67 v321 v325 v331 v360 (ix2 4 b) = k0_pay63 v321 v325 v331 (ix2 0 b)
    ∧ k0_pay67 v321 v325 v331 v360 (ix2 5 b)
      = Finset.fold IntOp.minsi 2147483647#32 (fun r : Fin 256 => if k0_pay64 v321 v325 v331 (ix2 r b)
        = k0_pay65 v321 v325 v331 (ix2 0 b) then v325 (ix2 r b) else 1073741824#32) Finset.univ := by
  refine ⟨?_, ?_, ?_⟩ <;> pointwise [k0_pay67]

/-- The three picks of a block are its best rows. -/
theorem block_slots {key : ℕ → ℝ} {A : Finset ℕ} (hA : ∀ n ∈ A, n < 10240)
    (h : Lists key A (fun r : Fin 256 => v321 (ix2 r b)) (fun r => v325 (ix2 r b)))
    (h327 : v327 (ix2 0 b) = Finset.fold max ⊥ (fun r : Fin 256 => v321 (ix2 r b)) Finset.univ)
    (h331 : ∀ r : Fin 256, v331 (ix2 r b)
      = if v321 (ix2 r b) = v327 (ix2 0 b) then v325 (ix2 r b) else 1073741824#32) (k : Fin 3) :
    Slot key A k.val (k0_pay66 v321 v325 v327 v331 v358 (ix2 (Fin.natAdd 3 k) b))
      (k0_pay67 v321 v325 v331 v360 (ix2 (Fin.natAdd 3 k) b)) := by
  obtain ⟨f0, f1, f2⟩ := pay66_new v321 v325 v331 v327 v358 b
  obtain ⟨w0, w1, w2⟩ := pay67_new v321 v325 v331 v360 b
  have hrest : ∀ {S : Finset ℕ}, (∀ n ∈ S, n < 10240) → ∀ n ∈ rest key S, n < 10240 :=
    fun hS n hn => hS n (Finset.mem_filter.1 hn).1
  have h60 := pay60_apply v331 b
  simp only [h331] at h60
  obtain ⟨s0, l0⟩ := pick hA h (pick_of h327 h60)
  have e61 : (fun r : Fin 256 => k0_pay61 v321 v325 v331 (ix2 r b)) = _ := funext (pay61_apply v321 v325 v331 b)
  rw [← e61] at l0
  obtain ⟨s1, l1⟩ := pick (hrest hA) l0 (pick_of (pay62_apply v321 v325 v331 b) (pay63_apply v321 v325 v331 b))
  have e64 : (fun r : Fin 256 => k0_pay64 v321 v325 v331 (ix2 r b)) = _ := funext (pay64_apply v321 v325 v331 b)
  rw [← e64] at l1
  obtain ⟨s2, -⟩ := pick (hrest (hrest hA)) l1 (pick_of (pay65_apply v321 v325 v331 b) w2)
  fin_cases k
  · show Slot key A 0 (k0_pay66 v321 v325 v327 v331 v358 (ix2 3 b)) (k0_pay67 v321 v325 v331 v360 (ix2 3 b))
    rw [f0, w0]; exact s0
  · show Slot key A 1 (k0_pay66 v321 v325 v327 v331 v358 (ix2 4 b)) (k0_pay67 v321 v325 v331 v360 (ix2 4 b))
    rw [f1, w1]; exact slot_rest s1
  · show Slot key A 2 (k0_pay66 v321 v325 v327 v331 v358 (ix2 5 b)) (k0_pay67 v321 v325 v331 v360 (ix2 5 b))
    rw [f2]; exact slot_rest (slot_rest s2)

/-- The merge's first value. -/
theorem pay68_apply : k0_pay68 v321 v325 v327 v331 v358 (ix2 0 b)
    = Finset.fold max ⊥ (fun j : Fin 6 => k0_pay66 v321 v325 v327 v331 v358 (ix2 j b)) Finset.univ := by
  pointwise [k0_pay68]; rw [negInf_eq]

/-- The merge's first word. -/
theorem pay69_apply : k0_pay69 v321 v325 v327 v331 v358 v360 (ix2 0 b)
    = Finset.fold IntOp.minsi 2147483647#32 (fun j : Fin 6 => if k0_pay66 v321 v325 v327 v331 v358 (ix2 j b)
        = k0_pay68 v321 v325 v327 v331 v358 (ix2 0 b) then k0_pay67 v321 v325 v331 v360 (ix2 j b)
        else 1073741824#32) Finset.univ := by
  pointwise [k0_pay69]

/-- The merge's values after one pick. -/
theorem pay70_apply (j : Fin 6) : k0_pay70 v321 v325 v327 v331 v358 v360 (ix2 j b)
    = if k0_pay67 v321 v325 v331 v360 (ix2 j b) = k0_pay69 v321 v325 v327 v331 v358 v360 (ix2 0 b) then ⊥
      else k0_pay66 v321 v325 v327 v331 v358 (ix2 j b) := by
  pointwise [k0_pay70]; rw [select_eq, neg_eq]

/-- The merge's second value. -/
theorem pay71_apply : k0_pay71 v321 v325 v327 v331 v358 v360 (ix1 b)
    = Finset.fold max ⊥ (fun j : Fin 6 => k0_pay70 v321 v325 v327 v331 v358 v360 (ix2 j b)) Finset.univ := by
  pointwise [k0_pay71]; rw [negInf_eq]
end

section
variable (v361 : IVec S6x256 32) (v363 : FVec Ideal S1x256 .f32) (v369 : IVec S1x256 32)
  (v373 : FVec Ideal S6x256 .f32) (v374 : FVec Ideal S256 .f32) (b : Fin 256)

/-- The merge's second value, reshaped. -/
theorem pay1_apply : k0_pay1 v374 (ix2 0 b) = v374 (ix1 b) := by
  pointwise [k0_pay1]

/-- The merge's second word. -/
theorem pay2_apply : k0_pay2 v361 v373 v374 (ix2 0 b)
    = Finset.fold IntOp.minsi 2147483647#32 (fun j : Fin 6 => if v373 (ix2 j b) = v374 (ix1 b)
        then v361 (ix2 j b) else 1073741824#32) Finset.univ := by
  pointwise [k0_pay2, k0_pay1]

/-- The merge's values after two picks. -/
theorem pay3_apply (j : Fin 6) : k0_pay3 v361 v373 v374 (ix2 j b)
    = if v361 (ix2 j b) = k0_pay2 v361 v373 v374 (ix2 0 b) then ⊥ else v373 (ix2 j b) := by
  pointwise [k0_pay3]; rw [select_eq, neg_eq]

/-- The merge's third value. -/
theorem pay4_apply : k0_pay4 v361 v373 v374 (ix2 0 b)
    = Finset.fold max ⊥ (fun j : Fin 6 => k0_pay3 v361 v373 v374 (ix2 j b)) Finset.univ := by
  pointwise [k0_pay4]; rw [negInf_eq]

/-- The stored values. -/
theorem pay5_apply : k0_pay5 v361 v363 v373 v374 (ix2 0 b) = v363 (ix2 0 b)
    ∧ k0_pay5 v361 v363 v373 v374 (ix2 1 b) = v374 (ix1 b)
    ∧ k0_pay5 v361 v363 v373 v374 (ix2 2 b) = k0_pay4 v361 v373 v374 (ix2 0 b) := by
  refine ⟨?_, ?_, ?_⟩ <;> pointwise [k0_pay5, k0_pay1]

/-- The stored words. -/
theorem pay6_apply : k0_pay6 v361 v369 v373 v374 (ix2 0 b) = v369 (ix2 0 b)
    ∧ k0_pay6 v361 v369 v373 v374 (ix2 1 b) = k0_pay2 v361 v373 v374 (ix2 0 b)
    ∧ k0_pay6 v361 v369 v373 v374 (ix2 2 b)
      = Finset.fold IntOp.minsi 2147483647#32 (fun j : Fin 6 => if k0_pay3 v361 v373 v374 (ix2 j b)
        = k0_pay4 v361 v373 v374 (ix2 0 b) then v361 (ix2 j b) else 1073741824#32) Finset.univ
    ∧ k0_pay6 v361 v369 v373 v374 (ix2 3 b) = 4294967287#32 := by
  refine ⟨?_, ?_, ?_, ?_⟩ <;> pointwise [k0_pay6]
end

/-- A step's stored best rows are those of the rows before it and its own together. -/
theorem merge_slots {key : ℕ → ℝ} {A B : Finset ℕ} (hA : ∀ n ∈ A, n < 10240) (hB : ∀ n ∈ B, n < 10240)
    (v321 : FVec Ideal S256x256 .f32) (v325 v331 : IVec S256x256 32) (v327 : FVec Ideal S1x256 .f32)
    (v358 : Vec Ideal S3x256 .f32) (v360 : IVec S3x256 32) (b : Fin 256)
    (h : Lists key B (fun r : Fin 256 => v321 (ix2 r b)) (fun r => v325 (ix2 r b)))
    (h327 : v327 (ix2 0 b) = Finset.fold max ⊥ (fun r : Fin 256 => v321 (ix2 r b)) Finset.univ)
    (h331 : ∀ r : Fin 256, v331 (ix2 r b)
      = if v321 (ix2 r b) = v327 (ix2 0 b) then v325 (ix2 r b) else 1073741824#32)
    (h3 : ∀ k : Fin 3, Slot key A k.val (v358 (ix2 k b)) (v360 (ix2 k b))) (k : Fin 3) :
    Slot key (A ∪ B) k.val
      (k0_pay5 (k0_pay67 v321 v325 v331 v360) (k0_pay68 v321 v325 v327 v331 v358)
        (k0_pay70 v321 v325 v327 v331 v358 v360) (k0_pay71 v321 v325 v327 v331 v358 v360) (ix2 (Fin.castSucc k) b))
      (k0_pay6 (k0_pay67 v321 v325 v331 v360) (k0_pay69 v321 v325 v327 v331 v358 v360)
        (k0_pay70 v321 v325 v327 v331 v358 v360) (k0_pay71 v321 v325 v327 v331 v358 v360) (ix2 (Fin.castSucc k) b)) := by
  have hD : ∀ n ∈ top key A ∪ top key B, n < 10240 := fun n hn => by
    rcases Finset.mem_union.1 hn with hn | hn
    · exact hA n (Finset.mem_filter.1 hn).1
    · exact hB n (Finset.mem_filter.1 hn).1
  have hrest : ∀ {S : Finset ℕ}, (∀ n ∈ S, n < 10240) → ∀ n ∈ rest key S, n < 10240 :=
    fun hS n hn => hS n (Finset.mem_filter.1 hn).1
  have hl : Lists key (top key A ∪ top key B)
      (fun j : Fin 6 => k0_pay66 v321 v325 v327 v331 v358 (ix2 j b))
      (fun j : Fin 6 => k0_pay67 v321 v325 v331 v360 (ix2 j b)) := by
    refine lists_union (fun k => (Fin.castAdd 3 k : Fin 6)) (fun k => (Fin.natAdd 3 k : Fin 6)) (fun j => ?_)
      (fun k => ?_) (block_slots v321 v325 v331 v327 v358 v360 b hB h h327 h331)
    · by_cases hj : j.val < 3
      · exact Or.inl ⟨⟨j.val, hj⟩, rfl⟩
      · exact Or.inr ⟨⟨j.val - 3, by omega⟩, Fin.ext (by show j.val = 3 + (j.val - 3); omega)⟩
    · simp only [pay66_old, pay67_old]
      exact h3 k
  refine slot_union k.isLt ?_
  obtain ⟨f0, f1, f2⟩ := pay5_apply (k0_pay67 v321 v325 v331 v360) (k0_pay68 v321 v325 v327 v331 v358)
    (k0_pay70 v321 v325 v327 v331 v358 v360) (k0_pay71 v321 v325 v327 v331 v358 v360) b
  obtain ⟨w0, w1, w2, -⟩ := pay6_apply (k0_pay67 v321 v325 v331 v360) (k0_pay69 v321 v325 v327 v331 v358 v360)
    (k0_pay70 v321 v325 v327 v331 v358 v360) (k0_pay71 v321 v325 v327 v331 v358 v360) b
  obtain ⟨s0, l0⟩ := pick hD hl (pick_of (pay68_apply v321 v325 v331 v327 v358 b)
    (pay69_apply v321 v325 v331 v327 v358 v360 b))
  have e70 : (fun j : Fin 6 => k0_pay70 v321 v325 v327 v331 v358 v360 (ix2 j b)) = _ :=
    funext (pay70_apply v321 v325 v331 v327 v358 v360 b)
  rw [← e70] at l0
  obtain ⟨s1, l1⟩ := pick (hrest hD) l0 (pick_of (pay71_apply v321 v325 v331 v327 v358 v360 b)
    (pay2_apply (k0_pay67 v321 v325 v331 v360) (k0_pay70 v321 v325 v327 v331 v358 v360)
      (k0_pay71 v321 v325 v327 v331 v358 v360) b))
  have e3 : (fun j : Fin 6 => k0_pay3 (k0_pay67 v321 v325 v331 v360) (k0_pay70 v321 v325 v327 v331 v358 v360)
      (k0_pay71 v321 v325 v327 v331 v358 v360) (ix2 j b)) = _ :=
    funext (pay3_apply (k0_pay67 v321 v325 v331 v360) (k0_pay70 v321 v325 v327 v331 v358 v360)
      (k0_pay71 v321 v325 v327 v331 v358 v360) b)
  rw [← e3] at l1
  obtain ⟨s2, -⟩ := pick (hrest (hrest hD)) l1 (pick_of (pay4_apply (k0_pay67 v321 v325 v331 v360)
    (k0_pay70 v321 v325 v327 v331 v358 v360) (k0_pay71 v321 v325 v327 v331 v358 v360) b) w2)
  fin_cases k
  · exact f0 ▸ w0 ▸ s0
  · exact f1 ▸ w1 ▸ slot_rest s1
  · exact f2 ▸ slot_rest (slot_rest s2)

end Cert.KernelIdeal.Gen
end
-- ==== Proof.TopSeg.lean ====
module
public import proofs.«01_k».proof.Proof.Seg
public import proofs.«01_k».proof.Proof.Scatter
public import proofs.«01_k».proof.Proof.Top

/-!
# The best rows of a segment
-/

@[expose] public section

namespace Cert.Top
open Cert.Seg

/-- The rows of a segment among the first `N`. -/
def seg (s : ℕ → ℕ) (N b : ℕ) : Finset ℕ := (Finset.range N).filter fun n => s n = b

/-- A row of a segment. -/
theorem mem_seg {s : ℕ → ℕ} {N b n : ℕ} : n ∈ seg s N b ↔ n < N ∧ s n = b := by
  unfold seg
  rw [Finset.mem_filter, Finset.mem_range]

/-- The segment's rows up to a block's end. -/
theorem seg_add (s : ℕ → ℕ) (N M b : ℕ) :
    seg s (N + M) b = seg s N b ∪ (Finset.range (N + M)).filter fun n => N ≤ n ∧ s n = b := by
  ext n
  rw [Finset.mem_union, mem_seg, mem_seg, Finset.mem_filter, Finset.mem_range]
  constructor
  · rintro ⟨h1, h2⟩
    by_cases h : n < N
    · exact Or.inl ⟨h, h2⟩
    · exact Or.inr ⟨h1, by omega, h2⟩
  · rintro (⟨h1, h2⟩ | ⟨h1, -, h2⟩)
    · exact ⟨by omega, h2⟩
    · exact ⟨h1, h2⟩

/-- Rows past the segment's last add none. -/
theorem seg_pad {s : ℕ → ℕ} {N M b : ℕ} (h : ∀ n, N ≤ n → s n ≠ b) : seg s (N + M) b = seg s N b := by
  ext n
  rw [mem_seg, mem_seg]
  constructor
  · rintro ⟨-, h2⟩
    exact ⟨by by_contra hn; exact h n (by omega) h2, h2⟩
  · rintro ⟨h1, h2⟩
    exact ⟨by omega, h2⟩

/-- The segment's size as counted. -/
theorem seg_card (s : ℕ → ℕ) (N b : ℕ) : segCount s N b = (seg s N b).card := by
  unfold segCount seg
  rw [Finset.card_filter, Finset.card_filter, Finset.sum_range (fun n => if s n = b then 1 else 0)]

/-- A word is the row of rank `k`, or 10000 where there is none. -/
def Answer (key : ℕ → ℝ) (A : Finset ℕ) (k : ℕ) (y : BitVec 32) : Prop :=
  (∃ n ∈ A, rank key A n = k ∧ y = BitVec.ofNat 32 n) ∨ ((∀ n ∈ A, rank key A n ≠ k) ∧ y = 10000#32)

/-- There is one answer. -/
theorem Answer.unique {key : ℕ → ℝ} {A : Finset ℕ} {k : ℕ} {y y' : BitVec 32} (h : Answer key A k y)
    (h' : Answer key A k y') : y = y' := by
  rcases h with ⟨n, hn, hr, e⟩ | ⟨hno, e⟩ <;> rcases h' with ⟨n', hn', hr', e'⟩ | ⟨hno', e'⟩
  · rw [e, e', rank_inj hn hn' (hr.trans hr'.symm)]
  · exact absurd hr (hno' n hn)
  · exact absurd hr' (hno n' hn')
  · rw [e, e']

/-- A slot's word, replaced by 10000 beyond the set's size, is the answer. -/
theorem Slot.answer {key : ℕ → ℝ} {A : Finset ℕ} {k : ℕ} {v : EReal} {w : BitVec 32} (h : Slot key A k v w) :
    Answer key A k (if k < A.card then w else 10000#32) := by
  rcases h with ⟨n, hn, hr, -, hw⟩ | ⟨hno, -⟩
  · rw [if_pos (hr ▸ rank_lt_card hn)]
    exact Or.inl ⟨n, hn, hr, hw⟩
  · rw [if_neg fun hk => by obtain ⟨n, hn, hr⟩ := exists_rank (key := key) hk; exact hno n hn hr]
    exact Or.inr ⟨hno, rfl⟩

/-- The rows of no set: an empty slot. -/
theorem slot_empty (key : ℕ → ℝ) (k : ℕ) (w : BitVec 32) : Slot key ∅ k ⊥ w :=
  Or.inr ⟨by simp, rfl⟩

end Cert.Top
end
-- ==== Proof.RTop.lean ====
module
public import proofs.«01_k».proof.Proof.RRead
public import proofs.«01_k».proof.Proof.TopRead
public import proofs.«01_k».proof.Proof.TopSeg

/-!
# The reference's best rows, read at one segment

A row's position is the number of rows of its segment that beat it. The k-th result is the smallest row number of
position k.
-/

@[expose] public section

namespace Cert.ReferenceIdeal.Read
open Cert.ReferenceIdeal Cert.ReferenceIdeal.Gen Idealize.ShloMosaic Cert.Seg Cert.Top

/-- A sum of bits counts them. -/
theorem fold_addi {ι : Type} [DecidableEq ι] (S : Finset ι) (P : ι → Prop) [DecidablePred P] :
    S.fold IntOp.addi 0#32 (fun j => if P j then 1#32 else 0#32) = BitVec.ofNat 32 (S.filter P).card := by
  induction S using Finset.induction_on with
  | empty => rfl
  | insert a S ha ih =>
    rw [Finset.fold_insert ha, ih, Finset.filter_insert]
    by_cases h : P a
    · rw [if_pos h, if_pos h, Finset.card_insert_of_notMem (fun hm => ha (Finset.mem_filter.1 hm).1),
        Nat.add_comm, BitVec.ofNat_add]
      rfl
    · rw [if_neg h, if_neg h]
      exact BitVec.zero_add _

/-- A widened bit. -/
theorem widen_bit (x : BitVec 1) : BitVec.setWidth 32 x = if x = 1#1 then 1#32 else 0#32 := by
  revert x; decide

/-- Both bits are set. -/
theorem andi_one (x y : BitVec 1) : IntOp.andi x y = 1#1 ↔ x = 1#1 ∧ y = 1#1 := by
  revert x y; decide

/-- One of the bits is set. -/
theorem ori_one (x y : BitVec 1) : IntOp.ori x y = 1#1 ↔ x = 1#1 ∨ y = 1#1 := by
  revert x y; decide

/-- The bit of a decision. -/
theorem bool_one (p : Prop) [Decidable p] : BitVec.ofBool (decide p) = 1#1 ↔ p := by
  by_cases h : p <;> simp [h]

/-- The bit of two words' equality. -/
theorem eq_one (a b : BitVec 32) : IntOp.cmpi CmpIPredicate.eq a b = 1#1 ↔ a = b := by
  unfold IntOp.cmpi
  by_cases h : a = b
  · simp [h]
  · have h' : (a == b) = false := beq_eq_false_iff_ne.2 h
    simp [h, h']

/-- The bit of two row numbers' order. -/
theorem lt_one {a b : ℕ} (ha : a < 10240) (hb : b < 10240) :
    IntOp.cmpi CmpIPredicate.slt (BitVec.ofNat 32 a) (BitVec.ofNat 32 b) = 1#1 ↔ a < b := by
  unfold IntOp.cmpi
  show BitVec.ofBool (BitVec.slt _ _) = 1#1 ↔ _
  unfold BitVec.slt
  rw [bool_one, Cert.Top.toInt_ofNat ha, Cert.Top.toInt_ofNat hb]
  omega

/-- A choice on a bit. -/
theorem select_bit {α : Type} (c : BitVec 1) (x y : α) : Scalar.select c x y = if c = 1#1 then x else y := by
  rcases (show c = 1#1 ∨ c = 0#1 by revert c; decide) with rfl | rfl <;> rfl

section
variable {s : ℕ → ℕ} (hs : ∀ n, s n ≤ 256) {x1 : IVec S10000 32}
  (h1 : ∀ n : Fin 10000, x1 (ix1 n) = BitVec.ofNat 32 (s n.val)) {x0 : FVec Ideal S10000x256 .f32} {key : ℕ → ℝ}
  (h0 : ∀ n : Fin 10000, x0 (ix2 n 255) = (key n.val : EReal))
include hs h1 h0

/-- Whether one row is in another's segment and beats it. -/
theorem v118_apply (i j : Fin 10000) : val_main_v118 (F := Ideal) x0 x1 (ix2 i j)
    = if s j.val = s i.val ∧ place key i.val < place key j.val then 1#32 else 0#32 := by
  pointwise [val_main_v118, val_main_v117, val_main_v116, val_main_v115,  val_main_v114,  val_main_v113,
    val_main_v112,  val_main_v111,  val_main_v110,  val_main_v109,  val_main_v108,  val_main_v107,  val_main_v106,
    val_main_v105,  val_main_v104, val_main_v103, val_main_v102, val_main_v101, val_main_v100, val_main_v99,
    val_main_v98, val_main_v97, val_main_v96, val_main_v95, val_main_v94, val_main_v93, val_main_v92]
  rw [widen_bit]
  refine if_congr ?_ rfl rfl
  rw [andi_one, ori_one, andi_one, bool_one, bool_one, eq_one, lt_one (by omega) (by omega), place_lt, h1, h1, h0, h0,
    ofNat_inj (by have := hs j.val; omega) (by have := hs i.val; omega), EReal.coe_lt_coe_iff, EReal.coe_eq_coe_iff,
    eq_comm (a := key j.val)]

/-- A row's position is its rank. -/
theorem v119_apply (i : Fin 10000) : val_main_v119 (F := Ideal) x0 x1 (ix1 i)
    = BitVec.ofNat 32 (rank key (seg s 10000 (s i.val)) i.val) := by
  pointwise [val_main_v119, val_main_c_21]
  simp only [v118_apply hs h1 h0]
  rw [fold_addi]
  refine congrArg (BitVec.ofNat 32) ?_
  unfold rank seg
  rw [Finset.filter_filter, Finset.card_filter, Finset.card_filter,
    Finset.sum_range (fun n => if s n = s i.val ∧ place key i.val < place key n then 1 else 0)]

/-- A row's number where it is of the segment and the position, 10000 elsewhere. -/
theorem v138_apply (k : Fin 3) (b : Fin 256) (i : Fin 10000) : val_main_v138 (F := Ideal) x0 x1 (ix3 k b i)
    = if s i.val = b.val ∧ rank key (seg s 10000 b.val) i.val = k.val then BitVec.ofNat 32 i.val else 10000#32 := by
  have hr : rank key (seg s 10000 (s i.val)) i.val < 10000 :=
    (rank_lt_card (mem_seg.2 ⟨i.isLt, rfl⟩)).trans_le ((Finset.card_filter_le _ _).trans (by rw [Finset.card_range]))
  pointwise [val_main_v138, val_main_call8_v2, val_main_call8_v1, val_main_call8_v0, val_main_c_22, val_main_v137,
    val_main_v136,  val_main_v135,  val_main_v134,  val_main_v133,  val_main_v132,  val_main_v131,  val_main_v130,
    val_main_v129,  val_main_v128, val_main_v127, val_main_v126, val_main_v125,  val_main_v124, val_main_v123,
    val_main_v122, val_main_v121, val_main_v120, val_main_v94]
  rw [select_bit, v119_apply hs h1 h0, h1]
  refine if_congr ?_ rfl rfl
  rw [andi_one, eq_one, eq_one, ofNat_inj (by have := hs i.val; omega) (by omega), ofNat_inj (by omega) (by omega)]
  constructor
  · rintro ⟨e, h⟩
    exact ⟨e, e ▸ h⟩
  · rintro ⟨e, h⟩
    exact ⟨e, by rw [e]; exact h⟩

/-- The k-th result is the row of rank k. -/
theorem v139_apply (k : Fin 3) (b : Fin 256) :
    Answer key (seg s 10000 b.val) k.val (val_main_v139 (F := Ideal) x0 x1 (ix2 k b)) := by
  have e : val_main_v139 (F := Ideal) x0 x1 (ix2 k b) = Finset.fold IntOp.minsi 2147483647#32
      (fun i : Fin 10000 => if s i.val = b.val ∧ rank key (seg s 10000 b.val) i.val = k.val
        then BitVec.ofNat 32 i.val else 10000#32) Finset.univ := by
    pointwise [val_main_v139, val_main_c_23]
    simp only [v138_apply hs h1 h0]
  obtain ⟨h1, -, h3⟩ := Cert.KernelIdeal.Gen.fold_minsi Finset.univ 2147483647#32
    (fun i : Fin 10000 => if s i.val = b.val ∧ rank key (seg s 10000 b.val) i.val = k.val
        then BitVec.ofNat 32 i.val else 10000#32)
  rw [← e] at h1 h3
  generalize val_main_v139 (F := Ideal) x0 x1 (ix2 k b) = y at h1 h3
  have hz : (2147483647#32 : BitVec 32).toInt = 2147483647 := by decide
  have hN : (10000#32 : BitVec 32).toInt = 10000 := by decide
  by_cases hex : ∃ n ∈ seg s 10000 b.val, rank key (seg s 10000 b.val) n = k.val
  · obtain ⟨n, hn, hr⟩ := hex
    obtain ⟨hlt, hsn⟩ := mem_seg.1 hn
    have hle := h3 ⟨n, hlt⟩ (Finset.mem_univ _)
    rw [if_pos ⟨hsn, hr⟩, Cert.Top.toInt_ofNat (by show n < 10240; omega)] at hle
    have hle : y.toInt ≤ n := hle
    refine Or.inl ⟨n, hn, hr, ?_⟩
    rcases h1 with h | ⟨j, -, h⟩
    · rw [h] at hle; omega
    · by_cases hj : s j.val = b.val ∧ rank key (seg s 10000 b.val) j.val = k.val
      · rw [if_pos hj] at h
        rw [h, rank_inj (mem_seg.2 ⟨j.isLt, hj.1⟩) hn (hj.2.trans hr.symm)]
      · rw [if_neg hj] at h
        rw [h] at hle; omega
  · have hno : ∀ n ∈ seg s 10000 b.val, rank key (seg s 10000 b.val) n ≠ k.val := fun n hn hr => hex ⟨n, hn, hr⟩
    have hf : ∀ i : Fin 10000, ¬(s i.val = b.val ∧ rank key (seg s 10000 b.val) i.val = k.val) :=
      fun i hi => hno i.val (mem_seg.2 ⟨i.isLt, hi.1⟩) hi.2
    refine Or.inr ⟨hno, ?_⟩
    rcases h1 with h | ⟨j, -, h⟩
    · have hle := h3 0 (Finset.mem_univ _)
      rw [if_neg (hf 0), h] at hle; omega
    · rw [if_neg (hf j)] at h
      exact h

/-- The first three rows of the result. -/
theorem v144_top (k : Fin 3) (b : Fin 256) :
    Answer key (seg s 10000 b.val) k.val (val_main_v144 (F := Ideal) x0 x1 (ix2 (Fin.castSucc k) b)) := by
  have e : val_main_v144 (F := Ideal) x0 x1 (ix2 (Fin.castSucc k) b) = val_main_v139 (F := Ideal) x0 x1 (ix2 k b) := by
    pointwise [val_main_v144]
    exact dif_pos k.isLt
  rw [e]
  exact v139_apply hs h1 h0 k b

omit h0 in
/-- The padding row of the result. -/
theorem v144_pad (b : Fin 256) : val_main_v144 (F := Ideal) x0 x1 (ix2 3 b)
    = if 3 < (seg s 10000 b.val).card then 4294967287#32 else 10000#32 := by
  pointwise [val_main_v144, val_main_v143, val_main_v142, val_main_v141, val_main_v140, val_main_c_24,
    val_main_c_25,  val_main_call9_v0,  val_main_call9_v1, val_main_c_26]
  rw [v3_apply hs h1, select_bit]
  refine if_congr ?_ rfl rfl
  have hc := segCount_le s 10000 b.val
  rw [← seg_card]
  unfold IntOp.cmpi
  show BitVec.ofBool (BitVec.slt 3#32 _) = 1#1 ↔ _
  unfold BitVec.slt
  rw [bool_one, Cert.Top.toInt_ofNat (n := 3) (by omega), Cert.Top.toInt_ofNat (n := segCount s 10000 b.val) (by omega)]
  exact Int.ofNat_lt
end

end Cert.ReferenceIdeal.Read
end
-- ==== Proof.TopStep.lean ====
module
public import proofs.«01_k».proof.Proof.Steps

/-!
# The best rows of one step of the first call's grid, as the payload terms it stores
-/

@[expose] public section
set_option maxHeartbeats 1000000

namespace Cert.KernelIdeal.Value
open Cert.KernelIdeal Cert.KernelIdeal.Gen Idealize.ShloMosaic Idealize.ShloMosaic.TcCoe Idealize.SL.Sem

variable {F : FTy → Type} [FloatOps F] [Named F]

/-- The best rows' keys and numbers. -/
structure Tops (F : FTy → Type) [FloatOps F] [Named F] where
  tv : Vec F S4x256 .f32
  ti : Vec F S4x256 .i32

/-- What the first step stores before it reads. -/
noncomputable def tops₀ : Tops F := ⟨k0_pay14, k0_pay19 k0_pay15⟩

/-- The first three rows. -/
noncomputable abbrev lead {e : EltTy} (v : Vec F S4x256 e) : Vec F S3x256 e :=
  View.ld v (Rect.unit (s := S4x256) ![0, 0] ![3, 256] inb_S4x256_S3x256_0_0)

section
variable (m : (ℓ : Loc nD τ sig) → Buf (Elt F) ℓ) (c : Dev nD) (t : Fin cfg0.N)

/-- The step's number as the grid's word. -/
def stepWord : BitVec 32 := BitVec.ofNat 32 (grid0.coords t 0).val

/-- The step's keys, by segment. -/
noncomputable def keys : FVec F S256x256 .f32 := k0_pay56 (k0_pay22 (iblk m c 0 t)) (k0_pay27 (iblk m c 1 t))

/-- The step's row numbers. -/
noncomputable def nums : IVec S256x256 32 := k0_pay57 (stepWord t)

/-- The step's largest keys. -/
noncomputable def keys₁ : FVec F S1x256 .f32 := k0_pay58 (k0_pay22 (iblk m c 0 t)) (k0_pay27 (iblk m c 1 t))

/-- The row numbers of the largest keys. -/
noncomputable def nums₁ : IVec S256x256 32 :=
  k0_pay59 (stepWord t) (k0_pay22 (iblk m c 0 t)) (k0_pay27 (iblk m c 1 t))

/-- The best rows after a step, from those before it. -/
noncomputable def topStep (a : Tops F) : Tops F where
  tv := k0_pay5 (k0_pay67 (keys m c t) (nums t) (nums₁ m c t) (lead a.ti))
    (k0_pay68 (keys m c t) (nums t) (keys₁ m c t) (nums₁ m c t) (lead a.tv))
    (k0_pay70 (keys m c t) (nums t) (keys₁ m c t) (nums₁ m c t) (lead a.tv) (lead a.ti))
    (k0_pay71 (keys m c t) (nums t) (keys₁ m c t) (nums₁ m c t) (lead a.tv) (lead a.ti))
  ti := k0_pay6 (k0_pay67 (keys m c t) (nums t) (nums₁ m c t) (lead a.ti))
    (k0_pay69 (keys m c t) (nums t) (keys₁ m c t) (nums₁ m c t) (lead a.tv) (lead a.ti))
    (k0_pay70 (keys m c t) (nums t) (keys₁ m c t) (nums₁ m c t) (lead a.tv) (lead a.ti))
    (k0_pay71 (keys m c t) (nums t) (keys₁ m c t) (nums₁ m c t) (lead a.tv) (lead a.ti))

end

/-- The best rows in a state of the grid. -/
abbrev topsOf (a : Vec F S256x256 .f32 × Vec F S256x256 .f32 × Vec F S256x256 .f32 × Vec F S256x256 .f32 ×
    Vec F S4x256 .i32 × Vec F S256x256 .f32 × Vec F S256x256 .f32 × Vec F S256x256 .f32 × Vec F S1x256 .f32 ×
    Vec F S1x256 .f32 × Vec F S1x256 .f32 × Vec F S4x256 .f32 × Vec F S4x256 .i32 × Vec F S1x256 .f32 ×
    Vec F S1x1 .i32) : Tops F :=
  ⟨a.2.2.2.2.2.2.2.2.2.2.2.1, a.2.2.2.2.2.2.2.2.2.2.2.2.1⟩

variable (m : (ℓ : Loc nD τ sig) → Buf (Elt F) ℓ) (c : Dev nD) (t : Fin cfg0.N)

/-- A middle step. -/
theorem top_mid (acc) (h0 : ¬t.val % 40 = 0) (h1 : ¬t.val % 40 = 39) :
    topsOf (stAt0 m c t.val t.isLt acc) = topStep m c t (topsOf acc) := by
  rw [stAt0_B m c t acc h0 h1]
  unfold topStep
  dsimp only
  rw [Tops.mk.injEq]
  refine ⟨?_, ?_⟩
  all_goals
    dsimp only
    first | unfold sout0_B_6 | unfold sout0_B_7
    refine (View.read_writes_eq_canon _ _ _ fun y => ?_).trans ?_
    · with_reducible
        first | apply scover0_B_6 | apply scover0_B_7
    unfold kernelRun0_B
    dsimp only
    sl_unfold_words
    rw [View.canon_unit_zero hz]
    simp only [View.readAt_eq_ld, Memref.IsWhole.read_unread, View.ld_unit_zero (S := S256x256) hz,
      View.ld_unit_zero (S := S1x256) hz, View.ld_unit_zero (S := S1x1) hz, View.ld_unit_zero (S := S1x256x1) hz3,
      View.readCov_unit_zero (S := S256x256) _ hz, View.readCov_unit_zero (S := S1x256) _ hz,
      View.readCov_unit_zero (S := S1x1) _ hz, read_unread_whole]
    unfold keys nums keys₁ nums₁ stepWord
    rfl

end Cert.KernelIdeal.Value
-- ==== Proof.TopEnds.lean ====
module
public import proofs.«01_k».proof.Proof.TopStep

/-!
# The best rows of the first and the last step of the first call's grid
-/

@[expose] public section
set_option maxHeartbeats 1000000

namespace Cert.KernelIdeal.Value
open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (c : Dev nD) (t : Fin cfg0.N)

/-- The first step: whatever the accumulators held, the step goes from the initial values. -/
theorem top_first (acc) (h0 : t.val % 40 = 0) (h1 : ¬t.val % 40 = 39) :
    topsOf (stAt0 m c t.val t.isLt acc) = topStep m c t tops₀ := by
  rw [stAt0_A m c t acc h0 h1]
  unfold topStep tops₀
  dsimp only
  rw [Tops.mk.injEq]
  refine ⟨?_, ?_⟩
  all_goals
    dsimp only
    first | unfold sout0_A_6 | unfold sout0_A_7
    refine (View.read_writes_eq_canon _ _ _ fun y => ?_).trans ?_
    · with_reducible
        first | apply scover0_A_6 | apply scover0_A_7
    unfold kernelRun0_A
    dsimp only
    sl_unfold_words
    rw [View.canon_cons_unit_zero (S := S4x256) hz]
    simp only [View.readAt_eq_ld, View.readCov_eq_canon', View.canon_unit_zero (S := S4x256) hz,
      Memref.IsWhole.read_unread, View.ld_unit_zero (S := S256x256) hz,
      View.ld_unit_zero (S := S1x256) hz, View.ld_unit_zero (S := S1x1) hz, View.ld_unit_zero (S := S1x256x1) hz3,
      read_unread_whole]
    unfold keys nums keys₁ nums₁ stepWord
    rfl

/-- The last step's store to the result. -/
theorem top_last (acc) (h0 : ¬t.val % 40 = 0) (h1 : t.val % 40 = 39) :
    (stAt0 m c t.val t.isLt acc).2.2.2.2.1
      = k0_pay7 (accStep m c t (accsOf acc)).ct (topStep m c t (topsOf acc)).ti := by
  rw [stAt0_C m c t acc h0 h1]
  unfold accStep topStep
  dsimp only
  unfold out0_C_21
  refine (View.read_writes_eq_canon _ _ _ fun y => ?_).trans ?_
  · with_reducible apply cover0_C_21
  unfold kernelRun0_C
  dsimp only
  sl_unfold_words
  rw [View.canon_unit_zero hz]
  simp only [View.readAt_eq_ld, Memref.IsWhole.read_unread, View.ld_unit_zero (S := S256x256) hz,
    View.ld_unit_zero (S := S1x256) hz, View.ld_unit_zero (S := S1x1) hz, View.ld_unit_zero (S := S1x256x1) hz3,
    View.readCov_unit_zero (S := S256x256) _ hz, View.readCov_unit_zero (S := S1x256) _ hz,
    View.readCov_unit_zero (S := S1x1) _ hz, View.readCov_unit_zero (S := S4x256) _ hz, read_unread_whole]
  unfold keys nums keys₁ nums₁ stepWord
  rfl

end Cert.KernelIdeal.Value
-- ==== Proof.TopKeys.lean ====
module
public import proofs.«01_k».proof.Proof.KRead
public import proofs.«01_k».proof.Proof.TopRead
public import proofs.«01_k».proof.Proof.TopSeg

/-!
# The keys, row numbers and first pick of a step, and the result's last choice
-/

@[expose] public section

namespace Cert.KernelIdeal.Gen
open Cert.Seg Cert.Top Idealize.ShloMosaic Idealize.ShloMosaic.TcCoe

/-- A step's keys: the last entry of each row of the segment, and nothing of other rows. -/
theorem keys_read {s : ℕ → ℕ} (hs : ∀ n, s n ≤ 256) {X : ℕ → Fin 256 → ℝ} {n₀ : ℕ} {v4 : FVec Ideal S256x256 .f32}
    {v : Vec Ideal S1x256x1 .i32} (h5 : SegWords s n₀ (k0_pay23 v))
    (h4 : ∀ r f : Fin 256, v4 (ix2 r f) = ((X (n₀ + r.val) f : ℝ) : EReal)) (r b : Fin 256) :
    k0_pay56 v4 (k0_pay27 v) (ix2 r b)
      = if s (n₀ + r.val) = b.val then ((X (n₀ + r.val) 255 : ℝ) : EReal) else ⊥ := by
  have e : k0_pay56 v4 (k0_pay27 v) (ix2 r b) = Scalar.select (k0_pay27 v (ix2 r b)) (v4 (ix2 r 255)) ⊥ := by
    pointwise [k0_pay56]; rw [neg_eq]
  rw [e, pay27_select hs h5, h4]

/-- A step's row numbers. -/
theorem nums_read {t : ℕ} (ht : t < 40) (r b : Fin 256) :
    k0_pay57 (BitVec.ofNat 32 (t % 40)) (ix2 r b) = BitVec.ofNat 32 (256 * t + r.val) := by
  pointwise [k0_pay57]
  show BitVec.ofNat 32 r.val + BitVec.ofNat 32 (t % 40) * BitVec.ofNat 32 256 = _
  rw [← BitVec.ofNat_mul, ← BitVec.ofNat_add, Nat.mod_eq_of_lt ht]
  refine congrArg (BitVec.ofNat 32) ?_
  omega

/-- The largest key of a segment. -/
theorem pay58_apply (v4 : FVec Ideal S256x256 .f32) (v15 : IVec S256x256 1) (b : Fin 256) :
    k0_pay58 v4 v15 (ix2 0 b) = Finset.fold max ⊥ (fun r : Fin 256 => k0_pay56 v4 v15 (ix2 r b)) Finset.univ := by
  pointwise [k0_pay58]
  rw [negInf_eq]

/-- The row numbers at the largest key. -/
theorem pay59_apply (a : BitVec 32) (v4 : FVec Ideal S256x256 .f32) (v15 : IVec S256x256 1) (r b : Fin 256) :
    k0_pay59 a v4 v15 (ix2 r b)
      = if k0_pay56 v4 v15 (ix2 r b) = k0_pay58 v4 v15 (ix2 0 b) then k0_pay57 a (ix2 r b) else 1073741824#32 := by
  pointwise [k0_pay59]

/-- The result: each row's choice by the segment's count. -/
theorem pay7_apply (v : Vec Ideal S1x256 .f32) (w : Vec Ideal S4x256 .i32) {b : Fin 256} {n : ℕ}
    (hv : v (ix2 0 b) = ((n : ℝ) : EReal)) (k : Fin 4) :
    k0_pay7 v w (ix2 k b) = if k.val < n then w (ix2 k b) else 10000#32 := by
  pointwise [k0_pay7]
  rw [hv]
  refine if_congr ?_ rfl rfl
  show (((BitVec.ofNat 32 k.val).toInt : ℝ) : EReal) < _ ↔ _
  rw [Cert.Top.toInt_ofNat (by omega), EReal.coe_lt_coe_iff]
  norm_cast

/-- The rows of a segment among 256 from a given one. -/
def own (s : ℕ → ℕ) (N b : ℕ) : Finset ℕ := (Finset.range (N + 256)).filter fun n => N ≤ n ∧ s n = b

/-- Keys and numbers of a step list its rows of a segment. -/
theorem own_lists {s : ℕ → ℕ} {X : ℕ → Fin 256 → ℝ} {n₀ : ℕ} {b : Fin 256} {v : Fin 256 → EReal} {w : Fin 256 → BitVec 32}
    (hk : ∀ r : Fin 256, v r = if s (n₀ + r.val) = b.val then ((X (n₀ + r.val) 255 : ℝ) : EReal) else ⊥)
    (hn : ∀ r : Fin 256, w r = BitVec.ofNat 32 (n₀ + r.val)) : Lists (fun n => X n 255) (own s n₀ b.val) v w := by
  refine ⟨fun r => ?_, fun n hn' => ?_⟩
  · rw [hk, hn]
    by_cases h : s (n₀ + r.val) = b.val
    · refine Or.inr ⟨n₀ + r.val, ?_, if_pos h, rfl⟩
      exact Finset.mem_filter.2 ⟨Finset.mem_range.2 (by omega), by omega, h⟩
    · exact Or.inl (if_neg h)
  · obtain ⟨h1, h2, h3⟩ := Finset.mem_filter.1 hn'
    rw [Finset.mem_range] at h1
    have e : n₀ + (n - n₀) = n := by omega
    refine ⟨⟨n - n₀, by omega⟩, ?_, ?_⟩
    · rw [hk]
      simp only [e]
      exact if_pos h3
    · rw [hn]
      simp only [e]

end Cert.KernelIdeal.Gen
-- ==== Proof.TopHold.lean ====
module
public import proofs.«01_k».proof.Proof.Accum
public import proofs.«01_k».proof.Proof.TopEnds
public import proofs.«01_k».proof.Proof.TopKeys
public import proofs.«01_k».proof.Proof.TopSeg

/-!
# The first call's best rows after any number of steps
-/

@[expose] public section
set_option maxHeartbeats 1000000

namespace Cert.KernelIdeal.Value
open Cert.KernelIdeal Cert.KernelIdeal.Gen Cert.Seg Cert.Top Idealize.ShloMosaic Idealize.ShloMosaic.TcCoe
open Idealize.SL.Sem

/-- What the best rows hold after `N` rows: the rows of rank 0, 1 and 2 of each segment. -/
def HoldsTop (s : ℕ → ℕ) (key : ℕ → ℝ) (N : ℕ) (a : Tops Ideal) : Prop :=
  ∀ (k : Fin 3) (b : Fin 256),
    Slot key (seg s N b.val) k.val (a.tv (ix2 (Fin.castSucc k) b)) (a.ti (ix2 (Fin.castSucc k) b))

/-- Before any row. -/
theorem top_zero (s : ℕ → ℕ) (key : ℕ → ℝ) : HoldsTop s key 0 tops₀ := by
  intro k b
  have e : seg s 0 b.val = ∅ := rfl
  have e' : (tops₀ (F := Ideal)).tv (ix2 (Fin.castSucc k) b) = ⊥ := by
    unfold tops₀; pointwise [k0_pay14]; rw [neg_eq]
  rw [e, e']
  exact slot_empty _ _ _

variable {m : (ℓ : Loc nD τ sig) → Buf (Elt Ideal) ℓ} {c : Dev nD} {s : ℕ → ℕ} {X : ℕ → Fin 256 → ℝ} {g : ℕ → ℝ}

/-- The first three rows, read at one. -/
theorem lead_apply {e : EltTy} (v : Vec Ideal S4x256 e) (k : Fin 3) (b : Fin 256) :
    lead v (ix2 k b) = v (ix2 (Fin.castSucc k) b) :=
  View.ld_unit_apply_of v _ _ _ _ (ix2 (Fin.castSucc k) b) (fun a => by fin_cases a <;> simp)

/-- The grid's word is the step's number. -/
theorem step_word (t : Fin cfg0.N) : stepWord t = BitVec.ofNat 32 (t.val % 40) := by
  refine congrArg (BitVec.ofNat 32) ?_
  show t.val / 1 % 40 = t.val % 40
  rw [Nat.div_one]

/-- A step adds its rows. -/
theorem top_step (R : Reads m c s X g) (t : Fin cfg0.N) {a : Tops Ideal}
    (h : HoldsTop s (fun n => X n 255) (256 * t.val) a) :
    HoldsTop s (fun n => X n 255) (256 * t.val + 256) (topStep m c t a) := by
  intro k b
  have ht : t.val < 40 := t.isLt
  rw [seg_add]
  have h5 : SegWords s (256 * t.val) (k0_pay23 (iblk m c 1 t)) := fun r =>
    (pay23_apply _ r).trans ((blk1 m c t r).trans (R.word _ (by omega)))
  have h4 : ∀ r f : Fin 256, k0_pay22 (iblk m c 0 t) (ix2 r f) = ((X (256 * t.val + r.val) f : ℝ) : EReal) := by
    intro r f; pointwise [k0_pay22]; exact (blk0 m c t r f).trans (R.row _ f)
  exact merge_slots (fun n hn => by have := (mem_seg.1 hn).1; omega)
    (fun n hn => by have := Finset.mem_range.1 (Finset.mem_filter.1 hn).1; omega)
    (keys m c t) (nums t) (nums₁ m c t) (keys₁ m c t) (lead a.tv) (lead a.ti) b
    (own_lists (fun r => keys_read R.le h5 h4 r b) (fun r => (congrArg (fun w => k0_pay57 w (ix2 r b)) (step_word t)).trans (nums_read ht r b)))
    (pay58_apply _ _ b) (fun r => pay59_apply _ _ _ r b) (fun k => by rw [lead_apply, lead_apply]; exact h k b) k

/-- The best rows after step `n`, the last excepted. -/
theorem top_after (R : Reads m c s X g) (n : ℕ) (hn : n < cfg0.N) (h39 : n < 39) :
    HoldsTop s (fun n => X n 255) (256 * n + 256) (topsOf (outsAt0 m c n hn)) := by
  induction n with
  | zero =>
    rw [outsAt0_zero, top_first m c ⟨0, hn⟩ junk0 rfl (by norm_num)]
    exact top_step R ⟨0, hn⟩ (top_zero s _)
  | succ n ih =>
    rw [outsAt0_succ, top_mid m c ⟨n + 1, hn⟩ _ (by simp only; omega) (by simp only; omega)]
    exact top_step R ⟨n + 1, hn⟩ (ih _ (by omega))

/-- The fifth result of the last step: the best rows of each segment, and the padding row. -/
theorem top_results (R : Reads m c s X g) (b : Fin 256) :
    (∀ k : Fin 3, Answer (fun n => X n 255) (seg s 10240 b.val) k.val (G21 m c (ix2 (Fin.castSucc k) b)))
    ∧ G21 m c (ix2 3 b) = if 3 < (seg s 10240 b.val).card then 4294967287#32 else 10000#32 := by
  have h39 : 39 < cfg0.N := lt_of_lt_of_eq (by decide) N_0.symm
  have hH := holds_step R ⟨39, h39⟩ (holds_after R 38 (lt_trans (by decide) h39) (by decide))
  have hT := top_step R ⟨39, h39⟩ (top_after R 38 (lt_trans (by decide) h39) (by decide))
  have e40 : 256 * (⟨39, h39⟩ : Fin cfg0.N).val + 256 = 10240 := by norm_num
  rw [e40] at hH hT
  have e21 := top_last m c ⟨39, h39⟩ (outsAt0 m c 38 (lt_trans (by decide) h39)) (by norm_num) (by norm_num)
  have e39 : outsAt0 m c 39 h39 = stAt0 m c (⟨39, h39⟩ : Fin cfg0.N).val (⟨39, h39⟩ : Fin cfg0.N).isLt
    (outsAt0 m c 38 (lt_trans (by decide) h39)) := outsAt0_succ m c 38 h39
  have hc := hH.ct b
  rw [segSum_one, seg_card] at hc
  rw [G21_last, ← outsAt0_sweep m c 39 h39, e39, e21]
  refine ⟨fun k => ?_, ?_⟩
  · rw [pay7_apply _ _ hc]
    exact (hT k b).answer
  · rw [pay7_apply _ _ hc]
    refine if_congr Iff.rfl ?_ rfl
    exact (pay6_apply _ _ _ _ b).2.2.2

end Cert.KernelIdeal.Value
-- ==== Proof.Pad.lean ====
module
public import proofs.«01_k».proof.Proof.Words

/-!
# Rows that lie in no segment

The padding rows carry a number no segment has, so no segment's sum, maximum or sum of exponentials sees them.
-/

@[expose] public section

namespace Cert.Seg
open Idealize.ShloMosaic

variable {s : ℕ → ℕ} {N K b : ℕ}

/-- The sum ignores them. -/
theorem segSum_pad (I : ℕ → EReal) (h : ∀ n, N ≤ n → s n ≠ b) : segSum s I (N + K) b = segSum s I N b := by
  rw [segSum_add, Finset.sum_eq_zero (s := Finset.univ) (f := fun r : Fin K => if s (N + r) = b then I (N + r) else 0)
    (fun r _ => if_neg (h _ (Nat.le_add_right N r))), add_zero]

/-- The maximum ignores them. -/
theorem segMax_pad (I : ℕ → EReal) (h : ∀ n, N ≤ n → s n ≠ b) : segMax s I (N + K) b = segMax s I N b := by
  rw [segMax_add, max_eq_left]
  refine Finset.sup_le fun r _ => ?_
  rw [if_neg (h _ (Nat.le_add_right N r))]
  exact bot_le

/-- The sum of exponentials ignores them. -/
theorem expSum_pad (g x : ℕ → ℝ) (h : ∀ n, N ≤ n → s n ≠ b) : expSum s g x (N + K) b = expSum s g x N b := by
  unfold expSum
  rw [segMax_pad _ h, Finset.sum_range_add]
  refine (congrArg (_ + ·) (Finset.sum_eq_zero fun r _ => if_neg (h _ (Nat.le_add_right N r)))).trans (add_zero _)

end Cert.Seg
end
-- ==== Proof.Finite.lean ====
module
public import proofs.«01_k».proof.Proof.Seg
public import Idealize.ShloMosaic.Lib.ReduceAll
public import Idealize.ShloMosaic.PureOps.Ideal

/-!
# Finiteness tests read back

A precondition tests every entry's absolute value against plus infinity; entries that pass are reals.
-/

@[expose] public section

namespace Cert.Seg
open Idealize.ShloMosaic

/-- A number whose absolute value is below plus infinity is real. -/
theorem real_of_abs {x : EReal}
    (h : FloatOps.cmpf (F := Ideal) (φ := .f32) .olt (FloatOps.hostAbsf (F := Ideal) (φ := .f32) x)
      (FloatOps.ofBits (F := Ideal) FTy.f32 0x7F800000#32) = 1#1) : IsR x := by
  have top : FloatOps.ofBits (F := Ideal) FTy.f32 0x7F800000#32 = (⊤ : EReal) := by
    show Ideal.ofBits FTy.f32 2139095040#32 = ⊤
    simp [Ideal.ofBits, Ideal.ieee]
  rw [top] at h
  have h' : BitVec.ofBool (decide (max x (-x) < ⊤)) = 1#1 := h
  have h2 : max x (-x) < ⊤ := by
    by_contra hc
    rw [decide_eq_false hc] at h'
    exact absurd h' (by decide)
  obtain ⟨a, b⟩ := max_lt_iff.1 h2
  refine IsR.of_ne a.ne ?_
  rintro rfl
  simp at b

/-- An array all of whose entries pass the test has real entries. -/
theorem real_of_all {s : Shape} {axes : List (Fin s.rank)} (x : FVec Ideal s .f32)
    (bc : (⟨0, ![]⟩ : Shape).BroadcastsInDim s (![] : Fin 0 → Fin s.rank)) (red : s.ReducesTo axes ⟨0, ![]⟩)
    (hn : 0 < (⟨0, ![]⟩ : Shape).numel) (init : IVec ⟨0, ![]⟩ 1) (j : (⟨0, ![]⟩ : Shape).Idx)
    (e : Host.reduce IntOp.andi (cmpf .olt (Host.absf x) (broadcastInDim s ![] bc (constant ⟨0, ![]⟩ .f32 0x7F800000#32)))
      init red hn j = 1#1) (i : s.Idx) : IsR (x i) := by
  haveI : Subsingleton (⟨0, ![]⟩ : Shape).Idx := ⟨fun a b => funext fun i => i.elim0⟩
  exact real_of_abs (Host.reduce_andi_all _ _ _ _ _ e i)

end Cert.Seg
end
-- ==== Proof.Hyps1.lean ====
module
public import proofs.«01_k».proof.Proof.Finite
public import proofs.«01_k».proof.Proof.Gen.Pre_finite_sorted
public import Idealize.ShloMosaic.Lib.Pointwise

/-!
# The first call's precondition read back

Every float argument is real, every segment word is below 256, and the words do not decrease.
-/

@[expose] public section
set_option maxHeartbeats 1000000

namespace Cert.Pre_finite_sorted
open Idealize.ShloMosaic Cert.Seg

/-- A word between 0 and 256 as a signed number is below 256 as an unsigned one. -/
theorem word_lt (v : BitVec 32) (h : IntOp.andi (IntOp.cmpi .sge v 0#32) (IntOp.cmpi .slt v 256#32) = 1#1) :
    v.toNat < 256 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true] at h
  obtain ⟨hge, hlt⟩ := h
  simp only [BitVec.sle, BitVec.slt, decide_eq_true_eq, BitVec.toInt, BitVec.toNat_ofNat] at hge hlt
  omega

/-- Two words below 256 in signed order are in unsigned order. -/
theorem word_le (v w : BitVec 32) (hv : v.toNat < 256) (hw : w.toNat < 256) (h : IntOp.cmpi .sle v w = 1#1) :
    v.toNat ≤ w.toNat := by
  have ofBool_eq_one (p : Bool) : (BitVec.ofBool p = 1#1) ↔ p = true := by cases p <;> decide
  simp only [IntOp.cmpi, ofBool_eq_one] at h
  simp only [BitVec.sle, decide_eq_true_eq, BitVec.toInt] at h
  omega

/-- What the precondition says of the arguments. -/
structure Good (a0 : FVec Ideal S10000x256 .f32) (a1 : IVec S10000 32) (a2 : FVec Ideal S256x256 .f32)
    (a3 : FVec Ideal S256 .f32) (a4 : FVec Ideal S256x256 .f32) (a5 : FVec Ideal S256 .f32) (a6 : FVec Ideal S256x256 .f32)
    (a7 : FVec Ideal S256 .f32) (a8 : FVec Ideal S256x256 .f32) (a9 : FVec Ideal S256 .f32) (a10 : FVec Ideal S256x1 .f32)
    (a11 : FVec Ideal S1 .f32) : Prop where
  r0 : ∀ i, IsR (a0 i)
  r2 : ∀ i, IsR (a2 i)
  r3 : ∀ i, IsR (a3 i)
  r4 : ∀ i, IsR (a4 i)
  r5 : ∀ i, IsR (a5 i)
  r6 : ∀ i, IsR (a6 i)
  r7 : ∀ i, IsR (a7 i)
  r8 : ∀ i, IsR (a8 i)
  r9 : ∀ i, IsR (a9 i)
  r10 : ∀ i, IsR (a10 i)
  r11 : ∀ i, IsR (a11 i)
  lt : ∀ i, (a1 i).toNat < 256
  le : ∀ (n : ℕ) (h : n + 1 < 10000), (a1 (ix1 ⟨n, by omega⟩)).toNat ≤ (a1 (ix1 ⟨n + 1, h⟩)).toNat

/-- The precondition says so. -/
theorem good_of_fn {a0 : FVec Ideal S10000x256 .f32} {a1 : IVec S10000 32} {a2 : FVec Ideal S256x256 .f32}
    {a3 : FVec Ideal S256 .f32} {a4 : FVec Ideal S256x256 .f32} {a5 : FVec Ideal S256 .f32} {a6 : FVec Ideal S256x256 .f32}
    {a7 : FVec Ideal S256 .f32} {a8 : FVec Ideal S256x256 .f32} {a9 : FVec Ideal S256 .f32} {a10 : FVec Ideal S256x1 .f32}
    {a11 : FVec Ideal S1 .f32} (h : fn a0 a1 a2 a3 a4 a5 a6 a7 a8 a9 a10 a11 = fun _ => 1#1) :
    Good a0 a1 a2 a3 a4 a5 a6 a7 a8 a9 a10 a11 := by
  haveI : Subsingleton S_.Idx := ⟨fun a b => funext fun i => i.elim0⟩
  have e := congrFun h (fun i => i.elim0)
  dsimp only [fn, fn_part1, fn_part2, fn_part3] at e
  obtain ⟨e, eLe⟩ := IntOp.andi_eq_one.1 e
  obtain ⟨e, eLt⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  have lt : ∀ i, (a1 i).toNat < 256 := fun i => word_lt _ (Host.reduce_andi_all _ _ _ _ _ eLt i)
  refine ⟨real_of_all _ _ _ _ _ _ e0, real_of_all _ _ _ _ _ _ e2, real_of_all _ _ _ _ _ _ e3, real_of_all _ _ _ _ _ _ e4,
    real_of_all _ _ _ _ _ _ e5, real_of_all _ _ _ _ _ _ e6, real_of_all _ _ _ _ _ _ e7, real_of_all _ _ _ _ _ _ e8,
    real_of_all _ _ _ _ _ _ e9, real_of_all _ _ _ _ _ _ e10, real_of_all _ _ _ _ _ _ e11, lt, fun n hn => ?_⟩
  have hi := Host.reduce_andi_all _ _ _ _ _ eLe (ix1 ⟨n, by omega⟩)
  refine word_le _ _ (lt _) (lt _) ?_
  refine Eq.trans (congrArg₂ (IntOp.cmpi .sle) ?_ ?_) hi
  · refine congrArg a1 (funext fun k => ?_)
    fin_cases k
    exact Fin.ext (by simp)
  · refine congrArg a1 (funext fun k => ?_)
    fin_cases k
    exact Fin.ext (by simp [Nat.add_comm])

end Cert.Pre_finite_sorted
end
-- ==== Proof.Phase1.lean ====
module
public import proofs.«01_k».proof.Defs
public import proofs.«01_k».proof.Proof.Accum
public import proofs.«01_k».proof.Proof.RRead
public import proofs.«01_k».proof.Proof.RAttn
public import proofs.«01_k».proof.Proof.RTop
public import proofs.«01_k».proof.Proof.TopHold
public import proofs.«01_k».proof.Proof.Pad
public import proofs.«01_k».proof.Proof.Hyps1
public import proofs.«01_k».proof.Proof.Gen.ReferenceIdeal.Run
public import proofs.«01_k».proof.Proof.Gen.ReferenceIdeal.Read

/-!
# The first call computes the segments' maxima, means, sums, attention pooling and best rows

Over the extended reals, from real inputs whose segments are sorted, the call's five results are the reference's.
-/

@[expose] public section
set_option maxHeartbeats 1000000

namespace Cert.KernelIdeal.Value
open Cert.KernelIdeal Cert.KernelIdeal.Gen Cert.Seg Idealize.ShloMosaic Idealize.ShloMosaic.TcCoe Idealize.SL.Sem

variable (m : (ℓ : Loc nD τ sig) → Buf (Elt Ideal) ℓ) (c : Dev nD)

/-- The precondition's meaning on the launched arguments. -/
abbrev GoodArgs : Prop := Cert.Pre_finite_sorted.Good (arg0 m c) (arg1 m c) (arg2 m c) (arg3 m c) (arg4 m c) (arg5 m c)
  (arg6 m c) (arg7 m c) (arg8 m c) (arg9 m c) (arg10 m c) (arg11 m c)

/-- The padded rows' segments as numbers. -/
noncomputable def segs (n : ℕ) : ℕ := if h : n < 10000 then (arg1 m c (ix1 ⟨n, h⟩)).toNat else 256

/-- The padded rows' entries as reals. -/
noncomputable def ents (n : ℕ) (f : Fin 256) : ℝ := (rowX m c n f).toReal

/-- The padded rows' gates as reals. -/
noncomputable def gats (n : ℕ) : ℝ := (gateAt m c (rowX m c n)).toReal

variable {m c}

/-- A real read as a number and back. -/
theorem coe_toReal {x : EReal} (h : IsR x) : x = (x.toReal : EReal) := by
  obtain ⟨r, rfl⟩ := h
  rw [EReal.toReal_coe]

/-- The segments of the rows below 10000 are below 256. -/
theorem segs_lt (G : GoodArgs m c) {n : ℕ} (h : n < 10000) : segs m c n < 256 := by
  unfold segs; rw [dif_pos h]; exact G.lt _

/-- The padding's is 256. -/
theorem segs_pad {n : ℕ} (h : 10000 ≤ n) : segs m c n = 256 := by
  unfold segs; rw [dif_neg (by omega)]

/-- No segment exceeds 256. -/
theorem segs_le (G : GoodArgs m c) (n : ℕ) : segs m c n ≤ 256 := by
  by_cases h : n < 10000
  · exact (segs_lt G h).le
  · exact (segs_pad (by omega)).le

/-- The padded rows' entries are real. -/
theorem row_real (G : GoodArgs m c) (n : ℕ) (f : Fin 256) : IsR (rowX m c n f) := by
  unfold rowX
  split
  · exact G.r0 _
  · exact IsR.zero

/-- The padded rows' gates are real. -/
theorem gate_real (G : GoodArgs m c) (n : ℕ) : IsR (gateAt m c (rowX m c n)) :=
  gateOut_real (fun _ => G.r10 _) (G.r11 _) (layer_real (fun _ _ => G.r8 _) (fun _ => G.r9 _)
    (layer_real (fun _ _ => G.r6 _) (fun _ => G.r7 _) (layer_real (fun _ _ => G.r4 _) (fun _ => G.r5 _)
      (layer_real (fun _ _ => G.r2 _) (fun _ => G.r3 _) (row_real G n)))))

/-- The launched arguments as numbers. -/
theorem reads (G : GoodArgs m c) : Reads m c (segs m c) (ents m c) (gats m c) where
  mono := monotone_nat_of_le_succ fun n => by
    by_cases h : n + 1 < 10000
    · unfold segs
      rw [dif_pos h, dif_pos (Nat.lt_of_succ_lt h)]
      exact G.le n h
    · rw [segs_pad (n := n + 1) (by omega)]
      exact segs_le G n
  le := segs_le G
  word := fun n _ => by
    unfold rowS segs
    split
    · exact BitVec.eq_of_toNat_eq (by rw [BitVec.toNat_ofNat]; exact (Nat.mod_eq_of_lt (BitVec.isLt _)).symm)
    · rfl
  row := fun n f => coe_toReal (row_real G n f)
  gate := fun n => coe_toReal (gate_real G n)
  w₁ := fun _ _ => G.r2 _
  b₁ := fun _ => G.r3 _
  w₂ := fun _ _ => G.r4 _
  b₂ := fun _ => G.r5 _
  w₃ := fun _ _ => G.r6 _
  b₃ := fun _ => G.r7 _
  w₄ := fun _ _ => G.r8 _

/-- The padding rows lie in no segment of the results. -/
theorem pad_ne (b : Fin 256) (n : ℕ) (h : 10000 ≤ n) : segs m c n ≠ b.val := by
  rw [segs_pad h]; have := b.isLt; omega

/-- The padded length. -/
theorem pad_len : (10240 : ℕ) = 10000 + 240 := by norm_num

/-- The row words of the reference's argument. -/
theorem ref_word (G : GoodArgs m c) (n : Fin 10000) : arg1 m c (ix1 n) = BitVec.ofNat 32 (segs m c n.val) := by
  unfold segs
  rw [dif_pos n.isLt]
  exact BitVec.eq_of_toNat_eq (by rw [BitVec.toNat_ofNat]; exact (Nat.mod_eq_of_lt (BitVec.isLt _)).symm)

/-- A row of the reference's argument is the padded array's. -/
theorem ref_row (n : Fin 10000) (f : Fin 256) : arg0 m c (ix2 n f) = rowX m c n.val f := by
  unfold rowX; rw [dif_pos n.isLt]

/-- Its entries are the reals read from it. -/
theorem ref_ents (G : GoodArgs m c) (n : Fin 10000) (f : Fin 256) : arg0 m c (ix2 n f) = (ents m c n.val f : EReal) :=
  (ref_row n f).trans (coe_toReal (row_real G n.val f))

open Cert.ReferenceIdeal.Read in
/-- The reference's gates are the kernel's. -/
theorem ref_gate (G : GoodArgs m c) (n : Fin 10000) :
    val_main_v50 (F := Ideal) (arg0 m c) (arg2 m c) (arg3 m c) (arg4 m c) (arg5 m c) (arg6 m c) (arg7 m c) (arg8 m c)
      (arg9 m c) (arg10 m c) (arg11 m c) (ix2 n 0) = (gats m c n.val : EReal) := by
  refine (v50_apply _ _ _ _ _ _ _ _ _ _ _ n).trans (Eq.trans ?_ (coe_toReal (gate_real G n.val)))
  exact congrArg (gateAt m c) (funext fun f => ref_row n f)

open Cert.ReferenceIdeal.Read in
/-- The maxima. -/
theorem mx_eq (G : GoodArgs m c) : val_main_v17 (F := Ideal) (arg0 m c) (arg1 m c) = G17 m c := by
  funext i
  obtain ⟨b, f, rfl⟩ : ∃ b f, i = ix2 b f := ⟨i 0, i 1, eq_ix2 i⟩
  rw [(results (reads G) b f).1, pad_len, segMax_pad _ (pad_ne b)]
  exact v17_apply (segs_le G) (ref_word G) (ref_ents G) (fun _ _ => IsR.coe _) b f

open Cert.ReferenceIdeal.Read in
/-- The means. -/
theorem mean_eq (G : GoodArgs m c) : val_main_v26 (F := Ideal) (arg0 m c) (arg1 m c) = G18 m c := by
  funext i
  obtain ⟨b, f, rfl⟩ : ∃ b f, i = ix2 b f := ⟨i 0, i 1, eq_ix2 i⟩
  rw [(results (reads G) b f).2.1, pad_len, segSum_pad _ (pad_ne b), segSum_pad _ (pad_ne b)]
  exact v26_apply (X := fun n f => (ents m c n f : EReal)) (segs_le G) (ref_word G) (ref_ents G) b f

open Cert.ReferenceIdeal.Read in
/-- The sums. -/
theorem sm_eq (G : GoodArgs m c) : val_main_v20 (F := Ideal) (arg0 m c) (arg1 m c) = G19 m c := by
  funext i
  obtain ⟨b, f, rfl⟩ : ∃ b f, i = ix2 b f := ⟨i 0, i 1, eq_ix2 i⟩
  rw [(results (reads G) b f).2.2.1, pad_len, segSum_pad _ (pad_ne b)]
  exact v20_apply (X := fun n f => (ents m c n f : EReal)) (segs_le G) (ref_word G) (ref_ents G) b f

open Cert.ReferenceIdeal.Read in
/-- The attention pooling. -/
theorem attn_eq (G : GoodArgs m c) :
    val_main_v91 (F := Ideal) (arg0 m c) (arg1 m c) (arg2 m c) (arg3 m c) (arg4 m c) (arg5 m c) (arg6 m c) (arg7 m c)
      (arg8 m c) (arg9 m c) (arg10 m c) (arg11 m c) = G20 m c := by
  funext i
  obtain ⟨b, f, rfl⟩ : ∃ b f, i = ix2 b f := ⟨i 0, i 1, eq_ix2 i⟩
  rw [(results (reads G) b f).2.2.2, pad_len, expSum_pad _ _ (pad_ne b), expSum_pad _ _ (pad_ne b)]
  exact v91_apply (segs_le G) (ref_word G) (ref_gate G) (ref_ents G) b f

open Cert.ReferenceIdeal.Read Cert.Top in
/-- The best rows, and the padding row below them. -/
theorem topi_eq (G : GoodArgs m c) : val_main_v144 (F := Ideal) (arg0 m c) (arg1 m c) = G21 m c := by
  funext i
  obtain ⟨k, b, rfl⟩ : ∃ k b, i = ix2 k b := ⟨i 0, i 1, eq_ix2 i⟩
  have h := top_results (reads G) b
  rw [pad_len, seg_pad (pad_ne b)] at h
  refine Fin.lastCases ?_ (fun k => ?_) k
  · exact (v144_pad (segs_le G) (ref_word G) b).trans h.2.symm
  · exact (v144_top (segs_le G) (ref_word G) (fun n => ref_ents G n 255) k b).unique (h.1 k)

end Cert.KernelIdeal.Value

namespace Cert.Proof
open Idealize.ShloMosaic Idealize.ShloMosaic.TcCoe Idealize.SL.Sem Cert.KernelIdeal.Value

/-- The first call and its reference end with equal results. -/
theorem algebraic₁ : Cert.algebraic_KernelIdeal_ReferenceIdeal_pre_finite_sorted := by
  intro m ρ m' ρ' hpre hagree
  have G : ∀ c, GoodArgs m c := fun c => Cert.Pre_finite_sorted.good_of_fn (hpre c)
  refine ⟨G17 m, G18 m, G19 m, G20 m, G21 m, (θ_run Cert.KernelIdeal.defs _ _).mono
    (fun r h c => h c) (Cert.KernelIdeal.Value.run m ρ),
    (θ_run Cert.ReferenceIdeal.defs _ _).mono (fun r h c => ?_) (Cert.ReferenceIdeal.Value.run (F := Ideal) m' ρ')⟩
  obtain ⟨a0, a1, a2, a3, a4, a5, a6, a7, a8, a9, a10, a11⟩ := hagree c
  obtain ⟨r17, r26, r20, r91, r144, hargs⟩ := h c
  refine ⟨r17.trans ?_, r26.trans ?_, r20.trans ?_, r91.trans ?_, r144.trans ?_, hargs⟩
  · refine (Cert.ReferenceIdeal.Read.val_main_v17_eq _).trans (Eq.trans ?_ (mx_eq (G c)))
    exact congrArg₂ _ a0 a1
  · refine (Cert.ReferenceIdeal.Read.val_main_v26_eq _).trans (Eq.trans ?_ (mean_eq (G c)))
    exact congrArg₂ _ a0 a1
  · refine (Cert.ReferenceIdeal.Read.val_main_v20_eq _).trans (Eq.trans ?_ (sm_eq (G c)))
    exact congrArg₂ _ a0 a1
  · refine (Cert.ReferenceIdeal.Read.val_main_v91_eq _).trans (Eq.trans ?_ (attn_eq (G c)))
    exact congr (congr (congr (congr (congr (congr (congr (congr (congr (congr (congrArg₂ _ a0 a1) a2) a3) a4) a5) a6) a7) a8) a9) a10) a11
  · refine (Cert.ReferenceIdeal.Read.val_main_v144_eq _).trans (Eq.trans ?_ (topi_eq (G c)))
    exact congrArg₂ _ a0 a1

end Cert.Proof
end
-- ==== Proof.Gather.lean ====
module
public import proofs.«01_k».proof.Proof.Gen.Own.Kernel2Ideal.Value
public import Idealize.ShloMosaic.Lib.Pipeline.Value
public import Idealize.ShloMosaic.Lib.Pipeline.ReadBack
public import Idealize.ShloMosaic.Lib.Pointwise
public import Idealize.ShloMosaic.Lib.Tactic

/-!
# The second call's loop: what it leaves in the three scratch buffers

The loop copies, for each of the 256 rows, the padded row a word of the index argument names into each of three
scratch buffers. After it each buffer is the array `gathered` below.
-/

@[expose] public section
set_option maxHeartbeats 1000000

namespace Cert.Kernel2Ideal.Value
open Cert.Kernel2Ideal Cert.Kernel2Ideal.Gen Idealize.ShloMosaic Idealize.ShloMosaic.TcCoe Idealize.SL.Sem

variable {F : FTy → Type} [FloatOps F]

/-- The array whose row `b` is the row of `x` that the word `(k, b)` of `w` names. -/
def gathered (x : Vec F S10240x256 .f32) (w : Vec F S4x256 .i32) (k : Fin 4) : Vec F S256x256 .f32 :=
  fun y => x (ix2 (Fin.ofNat 10240 (BitVec.toNat (w (ix2 k (y 0))))) (y 1))

/-- The loop goes round 256 times. -/
theorem trips_le : ∀ k : Fin k0_t1_loop.trips, k.val < 256 := fun k => Nat.lt_of_lt_of_le k.isLt k0_t1_abs.2.1

/-- The loop's counter as a word. -/
theorem iv_toNat (k : Fin k0_t1_loop.trips) :
    (Scalar.indexCast (Scf.iv (0#32 : BitVec 32) 1#32 k)).toNat = k.val := by
  have h := trips_le k
  simp [Scalar.indexCast, Scf.iv]
  omega

/-- One row copied: the row read at the word's offset, stored at the counter's, is a row of `gathered`. -/
theorem row_copy (x : Vec F S10240x256 .f32) (w : Vec F S4x256 .i32) (j : Fin 4) (k : ℕ) (hk : k < 256)
    (v : BitVec 32) (hv : v = w (ix2 j ⟨k, hk⟩)) (off out : Fin 2 → ℕ) (ho : off = ![v.toNat, 0]) (hout : out = ![k, 0])
    (inb : ∀ a, off a + S1x256.size a ≤ S10240x256.size a) (inb' : ∀ a, out a + S1x256.size a ≤ S256x256.size a)
    (z : S1x256.Idx) :
    x ((Rect.unit (s := S10240x256) off S1x256.size inb).idx z)
      = gathered x w j ((Rect.unit (s := S256x256) out S1x256.size inb').emb z) := by
  subst ho hout
  unfold gathered
  have h0 := inb 0
  have hz : (z 0).val < 1 := (z 0).isLt
  refine congrArg x ?_
  have hlt : v.toNat < 10240 := by
    have : v.toNat + 1 ≤ 10240 := h0
    omega
  have hb : (⟨k, hk⟩ : Fin 256) = (Rect.unit (s := S256x256) ![k, 0] S1x256.size inb').emb z 0 := Fin.ext (by
    show k = k + 1 * (z 0).val
    omega)
  funext a
  refine Fin.ext ?_
  fin_cases a
  · show v.toNat + 1 * (z 0).val = (w (ix2 j _)).toNat % 10240
    rw [← hb, ← hv, Nat.mod_eq_of_lt hlt]
    omega
  · show 0 + 1 * (z 1).val = 0 + 1 * (z 1).val
    rfl

/-- The word a trip loads. -/
theorem word_at (k : Fin k0_t1_loop.trips) (j : Fin 4) (off : Fin 2 → ℕ) (ho : off = ![j.val, k.val])
    (inb : ∀ a, off a + S1x1.size a ≤ S4x256.size a) (w : Vec F S4x256 .i32) :
    w ((Rect.unit (s := S4x256) off S1x1.size inb).idx (Shape.Idx.first (numel1_S1x1.symm ▸ Nat.one_pos)))
      = w (ix2 j ⟨k.val, trips_le k⟩) := by
  subst ho
  refine congrArg w ?_
  funext a
  refine Fin.ext ?_
  fin_cases a <;> rfl

/-- Pieces that are rows of `gathered x w j` and cover its row `k`. -/
structure RowsOf (x : Vec F S10240x256 .f32) (w : Vec F S4x256 .i32) (j : Fin 4) (k : ℕ)
    (L : List (View.Piece (Elt F) S256x256 .f32)) : Prop where
  rows : ∀ p ∈ L, ∀ z : p.1.shape.Idx, p.2 z = gathered x w j (p.1.emb z)
  cover : ∀ y : S256x256.Idx, (y 0).val = k → ∃ p ∈ L, y ∈ p.1.set

/-- Pieces that are rows of `gathered x w j` and cover its first `k` rows. -/
structure RowsTo (x : Vec F S10240x256 .f32) (w : Vec F S4x256 .i32) (j : Fin 4) (k : ℕ)
    (L : List (View.Piece (Elt F) S256x256 .f32)) : Prop where
  rows : ∀ p ∈ L, ∀ z : p.1.shape.Idx, p.2 z = gathered x w j (p.1.emb z)
  cover : ∀ y : S256x256.Idx, (y 0).val < k → ∃ p ∈ L, y ∈ p.1.set

/-- One more row. -/
theorem RowsTo.succ {x : Vec F S10240x256 .f32} {w : Vec F S4x256 .i32} {j : Fin 4} {k : ℕ}
    {L L' : List (View.Piece (Elt F) S256x256 .f32)} (h : RowsOf x w j k L) (h' : RowsTo x w j k L') :
    RowsTo x w j (k + 1) (L ++ L') where
  rows p hp z := (List.mem_append.1 hp).elim (fun e => h.rows p e z) fun e => h'.rows p e z
  cover y hy := (Nat.lt_succ_iff_lt_or_eq.1 hy).elim
    (fun e => let ⟨p, hp, m⟩ := h'.cover y e; ⟨p, List.mem_append_right _ hp, m⟩)
    fun e => let ⟨p, hp, m⟩ := h.cover y e; ⟨p, List.mem_append_left _ hp, m⟩

/-- A load of the whole buffer after pieces that cover every row reads `gathered`. -/
theorem RowsTo.read {x : Vec F S10240x256 .f32} {w : Vec F S4x256 .i32} {j : Fin 4}
    {k : ℕ} (hk : k = 256) {L : List (View.Piece (Elt F) S256x256 .f32)} (h : RowsTo x w j k L) (b : Memref sig .tc .vmem S256x256 .f32)
    {off : Fin 2 → ℕ} (hz : off = fun _ => 0) (inb : ∀ a, off a + S256x256.size a ≤ S256x256.size a) :
    b.view.readCov L (Rect.unit (s := S256x256) off S256x256.size inb).toLoadRect = gathered x w j := by
  subst hk
  rw [View.readCov_eq_canon_ld _ _ _ fun y => h.cover y (y 0).isLt, View.ld_unit_zero hz]
  exact funext fun y => View.canon_apply_of_pieces _ _ h.rows y (h.cover y (y 0).isLt)

/-- The one piece of a trip. -/
theorem rowsOf_single (x : Vec F S10240x256 .f32) (w : Vec F S4x256 .i32) (j : Fin 4) (k : Fin k0_t1_loop.trips)
    (v : BitVec 32) (hv : v = w (ix2 j ⟨k.val, trips_le k⟩)) (off : Fin 2 → ℕ) (ho : off = ![v.toNat, 0])
    (inb : ∀ a, off a + S1x256.size a ≤ S10240x256.size a) (inb' : ∀ a, k0_off3 k a + S1x256.size a ≤ S256x256.size a) :
    RowsOf x w j k.val [⟨Rect.unit (s := S256x256) (k0_off3 k) S1x256.size inb',
      k0_pay2 (View.ld x (Rect.unit (s := S10240x256) off S1x256.size inb))⟩] := by
  have hout : k0_off3 k = ![k.val, 0] := congrArg (fun n => ![n, 0]) (iv_toNat k)
  refine ⟨fun p hp z => ?_, fun y hy => ⟨_, List.mem_singleton_self _, ?_⟩⟩
  · obtain rfl := List.mem_singleton.1 hp
    rw [k0_pay2]
    rw [shapeCast_self, shapeCast_self]
    exact row_copy x w j k.val (trips_le k) v hv off _ ho hout inb inb' z
  · rw [← Rect.map_emb_univ]
    refine Finset.mem_map.2 ⟨ix2 (0 : Fin 1) (y 1), Finset.mem_univ _, ?_⟩
    funext a
    refine Fin.ext ?_
    rw [Rect.emb_apply]
    fin_cases a
    · show k0_off3 k 0 + 1 * 0 = (y 0).val
      rw [hout, hy]
      rfl
    · show k0_off3 k 1 + 1 * (y 1).val = (y 1).val
      rw [hout]
      show 0 + 1 * (y 1).val = (y 1).val
      omega

variable (arg1 : Memref sig .tc .vmem S10240x256 .f32) (harg1 : arg1.IsWhole) (arg2 : Memref sig .tc .smem S4x256 .i32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S7x256x256 .bf16) (harg7 : arg7.IsWhole) (arg8 : Memref sig .tc .vmem S7x256x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S1x256 .f32) (harg18 : arg18.IsWhole) (arg19 : Memref sig .tc .vmem S256x256 .bf16) (harg19 : arg19.IsWhole) (arg20 : Memref sig .tc .vmem S256x256 .bf16) (harg20 : arg20.IsWhole) (arg21 : Memref sig .tc .vmem S1x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole)
variable (𝒱 : Variants) (c : Dev nD) (bd : Option 𝒱.V) (i : grid0.Coords)
variable (X_arg1 : BufTy.Contents (Elt F) arg1.view.ty) (X_arg2 : BufTy.Contents (Elt F) arg2.view.ty) (k0_hw1L : ∀ (kq : ℕ) (hkq : kq < k0_t1_loop.trips), k0_chk1 (arg2.view.readAt (Elt F) (Rect.unit (s := S4x256) (k0_off1 ⟨kq, hkq⟩) S1x1.size (k0_off1_inb ⟨kq, hkq⟩)).toLoadRect X_arg2 (Shape.Idx.first (numel1_S1x1.symm ▸ Nat.one_pos)))) (k0_hw2L : ∀ (kq : ℕ) (hkq : kq < k0_t1_loop.trips), k0_chk2 (arg2.view.readAt (Elt F) (Rect.unit (s := S4x256) (k0_off4 ⟨kq, hkq⟩) S1x1.size (k0_off4_inb ⟨kq, hkq⟩)).toLoadRect X_arg2 (Shape.Idx.first (numel1_S1x1.symm ▸ Nat.one_pos)))) (k0_hw3L : ∀ (kq : ℕ) (hkq : kq < k0_t1_loop.trips), k0_chk3 (arg2.view.readAt (Elt F) (Rect.unit (s := S4x256) (k0_off7 ⟨kq, hkq⟩) S1x1.size (k0_off7_inb ⟨kq, hkq⟩)).toLoadRect X_arg2 (Shape.Idx.first (numel1_S1x1.symm ▸ Nat.one_pos))))

/-- One trip of the loop copies one row into each of the three buffers. -/
theorem trip_rows (k : Fin k0_t1_loop.trips) :
    let T := tripL_k0_t1 (F := F) 𝒱 c bd i
      arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18
      harg18 arg19 harg19 arg20 harg20 arg21 harg21 arg22 harg22 arg23 harg23 arg24 harg24 arg25 harg25
      X_arg1 X_arg2 k (k0_hw1L k.val k.isLt) (k0_hw2L k.val k.isLt) (k0_hw3L k.val k.isLt)
    let x := arg1.view.read (Elt F) X_arg1
    let w := arg2.view.read (Elt F) X_arg2
    RowsOf x w 0 k.val T.1 ∧ RowsOf x w 1 k.val T.2.1 ∧ RowsOf x w 2 k.val T.2.2 := by
  unfold tripL_k0_t1 trip_k0_t1
  dsimp only
  refine ⟨rowsOf_single _ _ 0 k _ ?_ _ rfl _ _, rowsOf_single _ _ 1 k _ ?_ _ rfl _ _, rowsOf_single _ _ 2 k _ ?_ _ rfl _ _⟩
  · rw [trip_k0_t1.sl.r, View.readAt_apply]
    exact word_at k 0 _ (congrArg (fun n => ![0, n]) (iv_toNat k)) _ _
  · rw [trip_k0_t1.sl.r_1, View.readAt_apply]
    exact word_at k 1 _ (congrArg (fun n => ![1, n]) (iv_toNat k)) _ _
  · rw [trip_k0_t1.sl.r_2, View.readAt_apply]
    exact word_at k 2 _ (congrArg (fun n => ![2, n]) (iv_toNat k)) _ _

/-- After `k` trips each buffer's first `k` rows are copied. -/
theorem loop_rows (k : ℕ) (hk : k ≤ k0_t1_loop.trips) :
    let T := pb_k0_t1 (F := F) 𝒱 c bd i
      arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18
      harg18 arg19 harg19 arg20 harg20 arg21 harg21 arg22 harg22 arg23 harg23 arg24 harg24 arg25 harg25
      X_arg1 X_arg2 k0_hw1L k0_hw2L k0_hw3L k
    let x := arg1.view.read (Elt F) X_arg1
    let w := arg2.view.read (Elt F) X_arg2
    RowsTo x w 0 k T.1 ∧ RowsTo x w 1 k T.2.1 ∧ RowsTo x w 2 k T.2.2 := by
  induction k with
  | zero => exact ⟨⟨nofun, nofun⟩, ⟨nofun, nofun⟩, ⟨nofun, nofun⟩⟩
  | succ k ih =>
    have e := pb_k0_t1_succ (F := F) 𝒱 c bd i
      arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18
      harg18 arg19 harg19 arg20 harg20 arg21 harg21 arg22 harg22 arg23 harg23 arg24 harg24 arg25 harg25
      X_arg1 X_arg2 k0_hw1L k0_hw2L k0_hw3L ⟨k, hk⟩
    have t := trip_rows (F := F)
      arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18
      harg18 arg19 harg19 arg20 harg20 arg21 harg21 arg22 harg22 arg23 harg23 arg24 harg24 arg25 harg25
      𝒱 c bd i X_arg1 X_arg2 k0_hw1L k0_hw2L k0_hw3L ⟨k, hk⟩
    have h := ih (Nat.le_of_lt hk)
    dsimp only at e t h ⊢
    rw [e]
    exact ⟨.succ t.1 h.1, .succ t.2.1 h.2.1, .succ t.2.2 h.2.2⟩

end Cert.Kernel2Ideal.Value
-- ==== Proof.MRead.lean ====
module

public import proofs.«01_k».proof.Proof.KRead
public import proofs.«01_k».proof.Proof.Gen.Kernel2Ideal.Skeleton

@[expose] public section

set_option maxHeartbeats 1000000

/-! The payloads of the second call's body, read at one index. -/

namespace Cert.Kernel2Ideal.Gen

open Idealize.ShloMosaic Idealize.ShloMosaic.TcCoe Cert.Seg

/-- The activation as the kernel writes it. -/
theorem leaky_fold (t : EReal) :
    (if 0 ≤ t then t else Ideal.ofBits FTy.f32 1008981770#32 * t) = leaky t := rfl

/-- The first part of the row, with the bias. -/
theorem pay5_apply {v1 : Vec Ideal S256x256 .f32} {v8 : Vec Ideal S1x256 .f32} {v14 v16 : Vec Ideal S1x256x256 .bf16}
    {W : Fin 256 → Fin 256 → EReal} {b : Fin 256 → EReal} {h : Fin 256 → Fin 256 → EReal}
    (hh : ∀ r k, IsR (h r k)) (h1 : ∀ r k : Fin 256, v1 (ix2 r k) = h r k)
    (h8 : ∀ j : Fin 256, v8 (ix2 0 j) = b j)
    (h14 : ∀ k j : Fin 256, v14 (ix3 0 k j) = W k j) (h16 : ∀ k j : Fin 256, v16 (ix3 0 k j) = (0 : EReal))
    (r j : Fin 256) :
    k0_pay5 v1 v8 v14 v16 (ix2 r j) = b j + ∑ k : Fin 256, h r k * W k j := by
  have hl : ∀ k, h r k - h r k = 0 := fun k => (hh r k).sub_self
  pointwise [k0_pay5]
  simp only [h1, h8, h14, h16, hl, mul_zero, zero_mul, Finset.sum_const_zero, add_zero]

/-- The second and third parts. -/
theorem pay8_apply {v2 v3 : Vec Ideal S256x256 .f32} {v24 : FVec Ideal S256x256 .f32}
    {v29 v31 v43 v45 : Vec Ideal S1x256x256 .bf16} {W₁ W₂ : Fin 256 → Fin 256 → EReal} {a h₁ h₂ : Fin 256 → Fin 256 → EReal}
    (hr₁ : ∀ r k, IsR (h₁ r k)) (hr₂ : ∀ r k, IsR (h₂ r k)) (h2 : ∀ r k : Fin 256, v2 (ix2 r k) = h₁ r k)
    (h3 : ∀ r k : Fin 256, v3 (ix2 r k) = h₂ r k) (h24 : ∀ r k : Fin 256, v24 (ix2 r k) = a r k)
    (h29 : ∀ k j : Fin 256, v29 (ix3 0 k j) = W₁ k j) (h31 : ∀ k j : Fin 256, v31 (ix3 0 k j) = (0 : EReal))
    (h43 : ∀ k j : Fin 256, v43 (ix3 0 k j) = W₂ k j) (h45 : ∀ k j : Fin 256, v45 (ix3 0 k j) = (0 : EReal))
    (r j : Fin 256) :
    k0_pay8 v3 v24 (k0_pay6 v2) (k0_pay7 v2) v29 v31 v43 v45 (ix2 r j)
      = a r j + ∑ k : Fin 256, h₁ r k * W₁ k j + ∑ k : Fin 256, h₂ r k * W₂ k j := by
  have hl₁ : ∀ k, h₁ r k - h₁ r k = 0 := fun k => (hr₁ r k).sub_self
  have hl₂ : ∀ k, h₂ r k - h₂ r k = 0 := fun k => (hr₂ r k).sub_self
  pointwise [k0_pay8, k0_pay7, k0_pay6]
  simp only [h2, h3, h24, h29, h31, h43, h45, hl₁, hl₂, mul_zero, zero_mul, Finset.sum_const_zero, add_zero]

/-- The fourth, fifth and sixth parts. -/
theorem pay14_apply {v4 v5 v6 : Vec Ideal S256x256 .f32} {v52 : FVec Ideal S256x256 .f32}
    {v57 v59 v71 v73 v85 v87 : Vec Ideal S1x256x256 .bf16} {W₃ W₄ W₅ : Fin 256 → Fin 256 → EReal}
    {a h₃ h₄ h₅ : Fin 256 → Fin 256 → EReal}
    (hr₃ : ∀ r k, IsR (h₃ r k)) (hr₄ : ∀ r k, IsR (h₄ r k)) (hr₅ : ∀ r k, IsR (h₅ r k))
    (h4 : ∀ r k : Fin 256, v4 (ix2 r k) = h₃ r k) (h5 : ∀ r k : Fin 256, v5 (ix2 r k) = h₄ r k)
    (h6 : ∀ r k : Fin 256, v6 (ix2 r k) = h₅ r k) (h52 : ∀ r k : Fin 256, v52 (ix2 r k) = a r k)
    (h57 : ∀ k j : Fin 256, v57 (ix3 0 k j) = W₃ k j) (h59 : ∀ k j : Fin 256, v59 (ix3 0 k j) = (0 : EReal))
    (h71 : ∀ k j : Fin 256, v71 (ix3 0 k j) = W₄ k j) (h73 : ∀ k j : Fin 256, v73 (ix3 0 k j) = (0 : EReal))
    (h85 : ∀ k j : Fin 256, v85 (ix3 0 k j) = W₅ k j) (h87 : ∀ k j : Fin 256, v87 (ix3 0 k j) = (0 : EReal))
    (r j : Fin 256) :
    k0_pay14 v5 v6 v52 (k0_pay10 v4) (k0_pay11 v57) (k0_pay12 v4 v57) (k0_pay13 v4 v59) v71 v73 v85 v87 (ix2 r j)
      = a r j + ∑ k : Fin 256, h₃ r k * W₃ k j + ∑ k : Fin 256, h₄ r k * W₄ k j + ∑ k : Fin 256, h₅ r k * W₅ k j := by
  have hl₃ : ∀ k, h₃ r k - h₃ r k = 0 := fun k => (hr₃ r k).sub_self
  have hl₄ : ∀ k, h₄ r k - h₄ r k = 0 := fun k => (hr₄ r k).sub_self
  have hl₅ : ∀ k, h₅ r k - h₅ r k = 0 := fun k => (hr₅ r k).sub_self
  pointwise [k0_pay14, k0_pay13, k0_pay12, k0_pay11, k0_pay10, k0_pay9]
  simp only [h4, h5, h6, h52, h57, h59, h71, h73, h85, h87, hl₃, hl₄, hl₅, mul_zero, zero_mul, Finset.sum_const_zero,
    add_zero]

/-- The seventh part, the first activation and the second layer. -/
theorem pay18_apply {v7 : Vec Ideal S256x256 .f32} {v94 : FVec Ideal S256x256 .f32} {v99 v101 : Vec Ideal S1x256x256 .bf16}
    {v118 v120 : Vec Ideal S256x256 .bf16} {v127 : Vec Ideal S1x256 .f32} {W₆ W : Fin 256 → Fin 256 → EReal}
    {a h₆ : Fin 256 → Fin 256 → EReal} {b : Fin 256 → EReal}
    (hr₆ : ∀ r k, IsR (h₆ r k)) (hp : ∀ r j, IsR (a r j + ∑ k : Fin 256, h₆ r k * W₆ k j))
    (h7 : ∀ r k : Fin 256, v7 (ix2 r k) = h₆ r k) (h94 : ∀ r k : Fin 256, v94 (ix2 r k) = a r k)
    (h99 : ∀ k j : Fin 256, v99 (ix3 0 k j) = W₆ k j) (h101 : ∀ k j : Fin 256, v101 (ix3 0 k j) = (0 : EReal))
    (h118 : ∀ k j : Fin 256, v118 (ix2 k j) = W k j) (h120 : ∀ k j : Fin 256, v120 (ix2 k j) = (0 : EReal))
    (h127 : ∀ j : Fin 256, v127 (ix2 0 j) = b j) (r j : Fin 256) :
    k0_pay18 v94 (k0_pay15 v7) (k0_pay16 v7) (k0_pay17 v99) v101 v118 v120 v127 (ix2 r j)
      = layer W b (fun j => leaky (a r j + ∑ k : Fin 256, h₆ r k * W₆ k j)) j := by
  have hl : ∀ k, h₆ r k - h₆ r k = 0 := fun k => (hr₆ r k).sub_self
  have hl' : ∀ j, leaky (a r j + ∑ k : Fin 256, h₆ r k * W₆ k j) - leaky (a r j + ∑ k : Fin 256, h₆ r k * W₆ k j) = 0 :=
    fun j => (leaky_real (hp r j)).sub_self
  pointwise [k0_pay18, k0_pay17, k0_pay16, k0_pay15]
  simp only [h7, h94, h99, h101, h118, h120, h127, hl, mul_zero, zero_mul, Finset.sum_const_zero, add_zero]
  simp only [leaky_fold]
  simp only [hl', zero_mul, Finset.sum_const_zero, add_zero]
  rfl

/-- The third and fourth layers. -/
theorem pay21_apply {v136 v139 : FVec Ideal S256x256 .bf16}
    {v140 v142 v162 v164 : Vec Ideal S256x256 .bf16} {v149 v171 : Vec Ideal S1x256 .f32}
    {W₂ W₃ : Fin 256 → Fin 256 → EReal} {b₂ b₃ : Fin 256 → EReal} {h : Fin 256 → Fin 256 → EReal}
    (hW₂ : ∀ k j, IsR (W₂ k j)) (hb₂ : ∀ j, IsR (b₂ j)) (hh : ∀ r k, IsR (h r k))
    (h136 : ∀ r k : Fin 256, v136 (ix2 r k) = h r k) (h139 : ∀ r k : Fin 256, v139 (ix2 r k) = (0 : EReal))
    (h140 : ∀ k j : Fin 256, v140 (ix2 k j) = W₂ k j) (h142 : ∀ k j : Fin 256, v142 (ix2 k j) = (0 : EReal))
    (h149 : ∀ j : Fin 256, v149 (ix2 0 j) = b₂ j)
    (h162 : ∀ k j : Fin 256, v162 (ix2 k j) = W₃ k j) (h164 : ∀ k j : Fin 256, v164 (ix2 k j) = (0 : EReal))
    (h171 : ∀ j : Fin 256, v171 (ix2 0 j) = b₃ j) (r j : Fin 256) :
    k0_pay21 v136 v139 v140 v142 v149 v162 v164 v171 (ix2 r j) = layer W₃ b₃ (layer W₂ b₂ (h r)) j := by
  have hl : ∀ k, leaky (∑ x, h r x * W₂ x k + b₂ k) - leaky (∑ x, h r x * W₂ x k + b₂ k) = 0 := fun k =>
    (layer_real hW₂ hb₂ (hh r) k).sub_self
  pointwise [k0_pay21]
  simp only [h136, h139, h140, h142, h149, h162, h164, h171, mul_zero, zero_mul, Finset.sum_const_zero, add_zero]
  simp only [leaky_fold]
  simp only [hl, zero_mul, Finset.sum_const_zero, add_zero]
  rfl

/-- The output layer. -/
theorem pay1_apply {v179 : FVec Ideal S256x256 .f32} {v184 v186 : Vec Ideal S256x256 .bf16} {v193 : Vec Ideal S1x256 .f32}
    {W : Fin 256 → Fin 256 → EReal} {b : Fin 256 → EReal} {h : Fin 256 → Fin 256 → EReal}
    (hh : ∀ r k, IsR (h r k)) (h179 : ∀ r k : Fin 256, v179 (ix2 r k) = h r k)
    (h184 : ∀ k j : Fin 256, v184 (ix2 k j) = W k j) (h186 : ∀ k j : Fin 256, v186 (ix2 k j) = (0 : EReal))
    (h193 : ∀ j : Fin 256, v193 (ix2 0 j) = b j) (r j : Fin 256) :
    k0_pay1 v179 v184 v186 v193 (ix2 r j) = ∑ k : Fin 256, h r k * W k j + b j := by
  have hl : ∀ k, h r k - h r k = 0 := fun k => (hh r k).sub_self
  pointwise [k0_pay1]
  simp only [h179, h184, h186, h193, hl, mul_zero, zero_mul, Finset.sum_const_zero, add_zero]

end Cert.Kernel2Ideal.Gen
-- ==== Proof.Body.lean ====
module
public import proofs.«01_k».proof.Proof.Gather
public import proofs.«01_k».proof.Proof.MRead

/-! The second call's output block, from its input blocks. -/

@[expose] public section
set_option maxHeartbeats 1000000

namespace Cert.Kernel2Ideal.Value
open Cert.Kernel2Ideal Cert.Kernel2Ideal.Gen Idealize.ShloMosaic Idealize.ShloMosaic.TcCoe Idealize.SL.Sem

variable {F : FTy → Type} [FloatOps F]
/-- The offsets of a whole block. -/
theorem hz : (![0, 0] : Fin 2 → ℕ) = fun _ => 0 := by funext a; fin_cases a <;> rfl

/-- What the body stores, from its input blocks. -/
noncomputable def body (x0 : Vec F S10240x256 .f32) (x1 : Vec F S4x256 .i32) (x2 x3 x4 x5 : Vec F S256x256 .f32)
    (x6 x7 : Vec F S7x256x256 .bf16) (x8 : Vec F S1x256 .f32) (x9 x10 : Vec F S256x256 .bf16) (x11 : Vec F S1x256 .f32)
    (x12 x13 : Vec F S256x256 .bf16) (x14 : Vec F S1x256 .f32) (x15 x16 : Vec F S256x256 .bf16) (x17 : Vec F S1x256 .f32)
    (x18 x19 : Vec F S256x256 .bf16) (x20 : Vec F S1x256 .f32) : Vec F S256x256 .f32 :=
  let w (x : Vec F S7x256x256 .bf16) (off : Fin 3 → ℕ) (inb : ∀ a, off a + S1x256x256.size a ≤ S7x256x256.size a) :=
    View.ld x (Rect.unit (s := S7x256x256) off S1x256x256.size inb)
  let p2 := k0_pay8 x4
    (k0_pay5 x2 x8 (w x6 ![0, 0, 0] inb_S7x256x256_S1x256x256_0_0_0) (w x7 ![0, 0, 0] inb_S7x256x256_S1x256x256_0_0_0))
    (k0_pay6 x3) (k0_pay7 x3)
    (w x6 ![1, 0, 0] inb_S7x256x256_S1x256x256_1_0_0) (w x7 ![1, 0, 0] inb_S7x256x256_S1x256x256_1_0_0)
    (w x6 ![2, 0, 0] inb_S7x256x256_S1x256x256_2_0_0) (w x7 ![2, 0, 0] inb_S7x256x256_S1x256x256_2_0_0)
  let p5 := k0_pay14 (gathered x0 x1 0) (gathered x0 x1 1) p2 (k0_pay10 x5)
    (k0_pay11 (w x6 ![3, 0, 0] inb_S7x256x256_S1x256x256_3_0_0))
    (k0_pay12 x5 (w x6 ![3, 0, 0] inb_S7x256x256_S1x256x256_3_0_0))
    (k0_pay13 x5 (w x7 ![3, 0, 0] inb_S7x256x256_S1x256x256_3_0_0))
    (w x6 ![4, 0, 0] inb_S7x256x256_S1x256x256_4_0_0) (w x7 ![4, 0, 0] inb_S7x256x256_S1x256x256_4_0_0)
    (w x6 ![5, 0, 0] inb_S7x256x256_S1x256x256_5_0_0) (w x7 ![5, 0, 0] inb_S7x256x256_S1x256x256_5_0_0)
  let h2 := k0_pay18 p5 (k0_pay15 (gathered x0 x1 2)) (k0_pay16 (gathered x0 x1 2))
    (k0_pay17 (w x6 ![6, 0, 0] inb_S7x256x256_S1x256x256_6_0_0)) (w x7 ![6, 0, 0] inb_S7x256x256_S1x256x256_6_0_0)
    x9 x10 x11
  k0_pay1 (k0_pay21 (truncf .bf16 h2 bitsLt_bf16_f32)
      (truncf .bf16 (subf h2 (extf .f32 (truncf .bf16 h2 bitsLt_bf16_f32) bitsLt_bf16_f32)) bitsLt_bf16_f32)
      x12 x13 x14 x15 x16 x17) x18 x19 x20

/-- What the run's pieces leave in the output block is `body` of the input blocks. -/
theorem out_eq (c : Dev nD) (i : grid0.Coords) (a1 : Memref sig .tc .vmem S10240x256 .f32) (h1) (a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14 x15 x16 x17 x18 x19 x20 g1 g2 g3) :
   out0_A_21 (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 x0 x1 x2 x3 x4 x5 x6 x7 x8 x9 x10 x11 x12 x13 x14 x15 x16 x17 x18 x19 x20 g1 g2 g3
      = body x0 x1 x2 x3 x4 x5 x6 x7 x8 x9 x10 x11 x12 x13 x14 x15 x16 x17 x18 x19 x20 := by
  unfold out0_A_21
  refine (View.read_writes_eq_canon _ _ _ fun y => ?_).trans ?_
  · with_reducible apply cover0_A_21
  unfold kernelRun0_A
  dsimp only
  sl_unfold_words
  rw [View.canon_unit_zero (S := S256x256) hz]
  simp only [View.readAt_eq_ld, Memref.IsWhole.read_unread, View.ld_unit_zero (S := S256x256) hz,
      View.ld_unit_zero (S := S1x256) hz, read_unread_whole]
  have L := loop_rows (F := F) a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25
    Variants.none c none i (h1.unread x0) (h2.unread x1) g1 g2 g3 _ le_rfl
  dsimp only at L
  rw [Memref.IsWhole.read_unread, Memref.IsWhole.read_unread] at L
  obtain ⟨L0, L1, L2⟩ := L
  have e0 := RowsTo.read (k := k0_t1_loop.trips) (by decide) L0 a23 hz inb_S256x256_S256x256_0_0
  have e1 := RowsTo.read (by decide) L1 a24 hz inb_S256x256_S256x256_0_0
  have e2 := RowsTo.read (by decide) L2 a25 hz inb_S256x256_S256x256_0_0
  rw [e0, e1, e2]
  rfl
open Cert.Seg

/-- A layer of the second call on one row, before its activation, over the seven parts of the row. -/
noncomputable def preact (W : Fin 7 → Fin 256 → Fin 256 → EReal) (b : Fin 256 → EReal) (h : Fin 7 → Fin 256 → EReal)
    (j : Fin 256) : EReal :=
  b j + ∑ k : Fin 256, h 0 k * W 0 k j + ∑ k : Fin 256, h 1 k * W 1 k j + ∑ k : Fin 256, h 2 k * W 2 k j
    + ∑ k : Fin 256, h 3 k * W 3 k j + ∑ k : Fin 256, h 4 k * W 4 k j + ∑ k : Fin 256, h 5 k * W 5 k j
    + ∑ k : Fin 256, h 6 k * W 6 k j

/-- The product of a real row and a real matrix is real. -/
theorem dot_real {W : Fin 256 → Fin 256 → EReal} {h : Fin 256 → EReal} (hW : ∀ k j, IsR (W k j)) (hh : ∀ k, IsR (h k))
    (j : Fin 256) : IsR (∑ k, h k * W k j) :=
  IsR.sum _ fun k _ => (hh k).mul (hW k j)

/-- So `preact` is real. -/
theorem preact_real {W : Fin 7 → Fin 256 → Fin 256 → EReal} {b : Fin 256 → EReal} {h : Fin 7 → Fin 256 → EReal}
    (hW : ∀ p k j, IsR (W p k j)) (hb : ∀ j, IsR (b j)) (hh : ∀ p k, IsR (h p k)) (j : Fin 256) : IsR (preact W b h j) :=
  (((((((hb j).add (dot_real (hW 0) (hh 0) j)).add (dot_real (hW 1) (hh 1) j)).add (dot_real (hW 2) (hh 2) j)).add
    (dot_real (hW 3) (hh 3) j)).add (dot_real (hW 4) (hh 4) j)).add (dot_real (hW 5) (hh 5) j)).add
    (dot_real (hW 6) (hh 6) j)

/-- A load of one of the seven matrices of the first layer's weights. -/
theorem part_apply (x : Vec Ideal S7x256x256 .bf16) (p : Fin 7) (off : Fin 3 → ℕ) (ho : off = ![p.val, 0, 0])
    (inb : ∀ a, off a + S1x256x256.size a ≤ S7x256x256.size a) (k j : Fin 256) :
    View.ld x (Rect.unit (s := S7x256x256) off S1x256x256.size inb) (ix3 0 k j) = x (ix3 p k j) := by
  subst ho
  refine congrArg x ?_
  funext a
  refine Fin.ext ?_
  fin_cases a
  · show p.val + 1 * 0 = p.val
    omega
  · show 0 + 1 * k.val = k.val
    omega
  · show 0 + 1 * j.val = j.val
    omega

/-- The body's result on one row: the four layers and the output layer over the seven parts of the row. -/
theorem body_apply {x0 : Vec Ideal S10240x256 .f32} {x1 : Vec Ideal S4x256 .i32} {x2 x3 x4 x5 : Vec Ideal S256x256 .f32}
    {x6 x7 : Vec Ideal S7x256x256 .bf16} {x8 : Vec Ideal S1x256 .f32} {x9 x10 : Vec Ideal S256x256 .bf16}
    {x11 : Vec Ideal S1x256 .f32} {x12 x13 : Vec Ideal S256x256 .bf16} {x14 : Vec Ideal S1x256 .f32}
    {x15 x16 : Vec Ideal S256x256 .bf16} {x17 : Vec Ideal S1x256 .f32} {x18 x19 : Vec Ideal S256x256 .bf16}
    {x20 : Vec Ideal S1x256 .f32}
    {H : Fin 7 → Fin 256 → Fin 256 → EReal} {W₀ : Fin 7 → Fin 256 → Fin 256 → EReal}
    {W₁ W₂ W₃ W₄ : Fin 256 → Fin 256 → EReal} {b₀ b₁ b₂ b₃ b₄ : Fin 256 → EReal}
    (hH : ∀ p r k, IsR (H p r k)) (hW₀ : ∀ p k j, IsR (W₀ p k j)) (hb₀ : ∀ j, IsR (b₀ j))
    (hW₁ : ∀ k j, IsR (W₁ k j)) (hb₁ : ∀ j, IsR (b₁ j)) (hW₂ : ∀ k j, IsR (W₂ k j)) (hb₂ : ∀ j, IsR (b₂ j))
    (hW₃ : ∀ k j, IsR (W₃ k j)) (hb₃ : ∀ j, IsR (b₃ j))
    (h2 : ∀ r k : Fin 256, x2 (ix2 r k) = H 0 r k) (h3 : ∀ r k : Fin 256, x3 (ix2 r k) = H 1 r k)
    (h4 : ∀ r k : Fin 256, x4 (ix2 r k) = H 2 r k) (h5 : ∀ r k : Fin 256, x5 (ix2 r k) = H 3 r k)
    (g0 : ∀ r k : Fin 256, gathered (F := Ideal) x0 x1 0 (ix2 r k) = H 4 r k)
    (g1 : ∀ r k : Fin 256, gathered (F := Ideal) x0 x1 1 (ix2 r k) = H 5 r k)
    (g2 : ∀ r k : Fin 256, gathered (F := Ideal) x0 x1 2 (ix2 r k) = H 6 r k)
    (h6 : ∀ (p : Fin 7) (k j : Fin 256), x6 (ix3 p k j) = W₀ p k j)
    (h7 : ∀ (p : Fin 7) (k j : Fin 256), x7 (ix3 p k j) = (0 : EReal)) (h8 : ∀ j : Fin 256, x8 (ix2 0 j) = b₀ j)
    (h9 : ∀ k j : Fin 256, x9 (ix2 k j) = W₁ k j) (h10 : ∀ k j : Fin 256, x10 (ix2 k j) = (0 : EReal))
    (h11 : ∀ j : Fin 256, x11 (ix2 0 j) = b₁ j)
    (h12 : ∀ k j : Fin 256, x12 (ix2 k j) = W₂ k j) (h13 : ∀ k j : Fin 256, x13 (ix2 k j) = (0 : EReal))
    (h14 : ∀ j : Fin 256, x14 (ix2 0 j) = b₂ j)
    (h15 : ∀ k j : Fin 256, x15 (ix2 k j) = W₃ k j) (h16 : ∀ k j : Fin 256, x16 (ix2 k j) = (0 : EReal))
    (h17 : ∀ j : Fin 256, x17 (ix2 0 j) = b₃ j)
    (h18 : ∀ k j : Fin 256, x18 (ix2 k j) = W₄ k j) (h19 : ∀ k j : Fin 256, x19 (ix2 k j) = (0 : EReal))
    (h20 : ∀ j : Fin 256, x20 (ix2 0 j) = b₄ j) (r j : Fin 256) :
    body (F := Ideal) x0 x1 x2 x3 x4 x5 x6 x7 x8 x9 x10 x11 x12 x13 x14 x15 x16 x17 x18 x19 x20 (ix2 r j)
      = ∑ k : Fin 256, layer W₃ b₃ (layer W₂ b₂ (layer W₁ b₁ fun j => leaky (preact W₀ b₀ (fun p => H p r) j))) k * W₄ k j
        + b₄ j := by
  have P : ∀ r j, IsR (preact W₀ b₀ (fun p => H p r) j) := fun r => preact_real hW₀ hb₀ fun p => hH p r
  have hi : ∀ (p : Fin 7) (off : Fin 3 → ℕ) (_ : off = ![p.val, 0, 0]) (inb) (k j : Fin 256),
      View.ld x6 (Rect.unit (s := S7x256x256) off S1x256x256.size inb) (ix3 0 k j) = W₀ p k j :=
    fun p off ho inb k j => (part_apply x6 p off ho inb k j).trans (h6 p k j)
  have lo : ∀ (p : Fin 7) (off : Fin 3 → ℕ) (_ : off = ![p.val, 0, 0]) (inb) (k j : Fin 256),
      View.ld x7 (Rect.unit (s := S7x256x256) off S1x256x256.size inb) (ix3 0 k j) = (0 : EReal) :=
    fun p off ho inb k j => (part_apply x7 p off ho inb k j).trans (h7 p k j)
  have L1 : ∀ r k, IsR (layer W₁ b₁ (fun j => leaky (preact W₀ b₀ (fun p => H p r) j)) k) := fun r =>
    layer_real hW₁ hb₁ fun k => leaky_real (P r k)
  have e18 := fun r j : Fin 256 => pay18_apply (hH 6) P g2
    (pay14_apply (hH 3) (hH 4) (hH 5) h5 g0 g1
      (pay8_apply (hH 1) (hH 2) h3 h4
        (pay5_apply (hH 0) h2 h8 (hi 0 ![0, 0, 0] rfl inb_S7x256x256_S1x256x256_0_0_0)
          (lo 0 ![0, 0, 0] rfl inb_S7x256x256_S1x256x256_0_0_0))
        (hi 1 ![1, 0, 0] rfl inb_S7x256x256_S1x256x256_1_0_0) (lo 1 ![1, 0, 0] rfl inb_S7x256x256_S1x256x256_1_0_0)
        (hi 2 ![2, 0, 0] rfl inb_S7x256x256_S1x256x256_2_0_0) (lo 2 ![2, 0, 0] rfl inb_S7x256x256_S1x256x256_2_0_0))
      (hi 3 ![3, 0, 0] rfl inb_S7x256x256_S1x256x256_3_0_0) (lo 3 ![3, 0, 0] rfl inb_S7x256x256_S1x256x256_3_0_0)
      (hi 4 ![4, 0, 0] rfl inb_S7x256x256_S1x256x256_4_0_0) (lo 4 ![4, 0, 0] rfl inb_S7x256x256_S1x256x256_4_0_0)
      (hi 5 ![5, 0, 0] rfl inb_S7x256x256_S1x256x256_5_0_0) (lo 5 ![5, 0, 0] rfl inb_S7x256x256_S1x256x256_5_0_0))
    (hi 6 ![6, 0, 0] rfl inb_S7x256x256_S1x256x256_6_0_0) (lo 6 ![6, 0, 0] rfl inb_S7x256x256_S1x256x256_6_0_0)
    h9 h10 h11 r j
  unfold body
  dsimp only
  refine pay1_apply (fun r k => layer_real hW₃ hb₃ (layer_real hW₂ hb₂ (L1 r)) k)
    (pay21_apply hW₂ hb₂ L1 e18 (fun r k => ?_) h12 h13 h14 h15 h16 h17) h18 h19 h20 r j
  pointwise []
  rw [show _ = _ from e18 r k]
  exact (L1 r k).sub_self

end Cert.Kernel2Ideal.Value
-- ==== Proof.Blocks2.lean ====
module
public import proofs.«01_k».proof.Proof.Body
public import proofs.«01_k».proof.Proof.Hyps2
public import Idealize.ShloMosaic.Lib.Pointwise
public import Idealize.ShloMosaic.Lib.Claim
public import Idealize.ShloMosaic.Lib.Pipeline.ValueKit.Point
public import Idealize.ShloMosaic.Lib.StableHlo.ReadAt

/-!
# The blocks of the second call's input windows, in terms of the arguments
-/

@[expose] public section
set_option maxHeartbeats 1000000

namespace Cert.Kernel2Ideal.Value
open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Argument 0, as launched. -/
abbrev arg0 : Vec Ideal S10000x256 .f32 := m ((c : Thread nD τ).loc main_arg0)
/-- Argument 1, as launched. -/
abbrev arg1 : Vec Ideal S4x256 .i32 := m ((c : Thread nD τ).loc main_arg1)
/-- Argument 2, as launched. -/
abbrev arg2 : Vec Ideal S256x256 .f32 := m ((c : Thread nD τ).loc main_arg2)
/-- Argument 3, as launched. -/
abbrev arg3 : Vec Ideal S256x256 .f32 := m ((c : Thread nD τ).loc main_arg3)
/-- Argument 4, as launched. -/
abbrev arg4 : Vec Ideal S256x256 .f32 := m ((c : Thread nD τ).loc main_arg4)
/-- Argument 5, as launched. -/
abbrev arg5 : Vec Ideal S256x256 .f32 := m ((c : Thread nD τ).loc main_arg5)
/-- Argument 6, as launched. -/
abbrev arg6 : Vec Ideal S1792x256 .f32 := m ((c : Thread nD τ).loc main_arg6)
/-- Argument 7, as launched. -/
abbrev arg7 : Vec Ideal S256 .f32 := m ((c : Thread nD τ).loc main_arg7)
/-- Argument 8, as launched. -/
abbrev arg8 : Vec Ideal S256x256 .f32 := m ((c : Thread nD τ).loc main_arg8)
/-- Argument 9, as launched. -/
abbrev arg9 : Vec Ideal S256 .f32 := m ((c : Thread nD τ).loc main_arg9)
/-- Argument 10, as launched. -/
abbrev arg10 : Vec Ideal S256x256 .f32 := m ((c : Thread nD τ).loc main_arg10)
/-- Argument 11, as launched. -/
abbrev arg11 : Vec Ideal S256 .f32 := m ((c : Thread nD τ).loc main_arg11)
/-- Argument 12, as launched. -/
abbrev arg12 : Vec Ideal S256x256 .f32 := m ((c : Thread nD τ).loc main_arg12)
/-- Argument 13, as launched. -/
abbrev arg13 : Vec Ideal S256 .f32 := m ((c : Thread nD τ).loc main_arg13)
/-- Argument 14, as launched. -/
abbrev arg14 : Vec Ideal S256x256 .f32 := m ((c : Thread nD τ).loc main_arg14)
/-- Argument 15, as launched. -/
abbrev arg15 : Vec Ideal S256 .f32 := m ((c : Thread nD τ).loc main_arg15)

/-- Row `n` of the padded input. -/
noncomputable def rowX (n : ℕ) (f : Fin 256) : EReal := if h : n < 10000 then arg0 m c (ix2 ⟨n, h⟩ f) else 0

/-- The padded rows as the call finds them. -/
theorem V_v0 (n : Fin 10240) (f : Fin 256) : V m c main_v0 (ix2 n f) = rowX m c n.val f := by
  unfold V rowX
  after_reads_at
  have : (FloatOps.sitofp FTy.f32 0#32 : Ideal .f32) = (0 : EReal) := by simp [FloatOps.sitofp]
  simp only [this]

/-- Every input window's block is its whole array. -/
theorem idx_whole : ∀ t : Fin cfg0.N, win0_0.index t = ![0, 0] ∧ win0_1.index t = ![0, 0] ∧
    win0_2.index t = ![0, 0] ∧ win0_3.index t = ![0, 0] ∧ win0_4.index t = ![0, 0] ∧ win0_5.index t = ![0, 0] ∧
    win0_6.index t = ![0, 0, 0] ∧ win0_7.index t = ![0, 0, 0] ∧ win0_8.index t = ![0, 0] ∧ win0_9.index t = ![0, 0] ∧
    win0_10.index t = ![0, 0] ∧ win0_11.index t = ![0, 0] ∧ win0_12.index t = ![0, 0] ∧ win0_13.index t = ![0, 0] ∧
    win0_14.index t = ![0, 0] ∧ win0_15.index t = ![0, 0] ∧ win0_16.index t = ![0, 0] ∧ win0_17.index t = ![0, 0] ∧
    win0_18.index t = ![0, 0] ∧ win0_19.index t = ![0, 0] ∧ win0_20.index t = ![0, 0] ∧ win0_21.index t = ![0, 0] := by
  decide +kernel

variable (t : Fin cfg0.N)

/-- The padded rows. -/
theorem blk0 (n : Fin 10240) (f : Fin 256) : iblk m c 0 t (ix2 n f) = rowX m c n.val f := by
  refine Eq.trans ?_ (V_v0 m c n f)
  blk_ext [iblk, idx_whole]

/-- The row numbers. -/
theorem blk1 (k : Fin 4) (b : Fin 256) : iblk m c 1 t (ix2 k b) = arg1 m c (ix2 k b) := by
  blk_ext [iblk, idx_whole]

/-- The four pooled arrays. -/
theorem blk_pool (b f : Fin 256) : iblk m c 2 t (ix2 b f) = arg2 m c (ix2 b f) ∧
    iblk m c 3 t (ix2 b f) = arg3 m c (ix2 b f) ∧ iblk m c 4 t (ix2 b f) = arg4 m c (ix2 b f) ∧
    iblk m c 5 t (ix2 b f) = arg5 m c (ix2 b f) := by
  refine ⟨?_, ?_, ?_, ?_⟩ <;> blk_ext [iblk, idx_whole]

/-- The row of the first layer's weights that row `k` of its matrix `p` is. -/
def rowOf (p : Fin 7) (k : Fin 256) : Fin 1792 := ⟨256 * p.val + k.val, by omega⟩

/-- The first layer's weights as the call finds them. -/
theorem V_w0 (p : Fin 7) (k j : Fin 256) : V m c main_v2 (ix3 p k j) = arg6 m c (ix2 (rowOf p k) j) ∧
    V m c main_v5 (ix3 p k j) = (arg6 m c (ix2 (rowOf p k) j) : EReal) - arg6 m c (ix2 (rowOf p k) j) := by
  unfold V rowOf
  simp only [Nat.mul_comm 256]
  constructor
  · after_reads_at
  · after_reads_at

/-- The first layer's weights, the high and the low part. -/
theorem blk_w0 (p : Fin 7) (k j : Fin 256) : iblk m c 6 t (ix3 p k j) = arg6 m c (ix2 (rowOf p k) j) ∧
    iblk m c 7 t (ix3 p k j) = (arg6 m c (ix2 (rowOf p k) j) : EReal) - arg6 m c (ix2 (rowOf p k) j) := by
  obtain ⟨e, e'⟩ := V_w0 m c p k j
  constructor
  · refine Eq.trans ?_ e
    blk_ext [iblk, idx_whole]
  · refine Eq.trans ?_ e'
    blk_ext [iblk, idx_whole]

/-- The other layers' weights, the high parts. -/
theorem blk_hi (k j : Fin 256) : iblk m c 9 t (ix2 k j) = arg8 m c (ix2 k j) ∧
    iblk m c 12 t (ix2 k j) = arg10 m c (ix2 k j) ∧
    iblk m c 15 t (ix2 k j) = arg12 m c (ix2 k j) ∧
    iblk m c 18 t (ix2 k j) = arg14 m c (ix2 k j) := by
  refine ⟨?_, ?_, ?_, ?_⟩
  · refine Eq.trans (b := V m c main_v6 (ix2 k j)) ?_ ?_
    · blk_ext [iblk, idx_whole]
    · unfold V
      after_reads_at
  · refine Eq.trans (b := V m c main_v10 (ix2 k j)) ?_ ?_
    · blk_ext [iblk, idx_whole]
    · unfold V
      after_reads_at
  · refine Eq.trans (b := V m c main_v14 (ix2 k j)) ?_ ?_
    · blk_ext [iblk, idx_whole]
    · unfold V
      after_reads_at
  · refine Eq.trans (b := V m c main_v18 (ix2 k j)) ?_ ?_
    · blk_ext [iblk, idx_whole]
    · unfold V
      after_reads_at

/-- The other layers' weights, the low parts. -/
theorem blk_lo (k j : Fin 256) : iblk m c 10 t (ix2 k j) = (arg8 m c (ix2 k j) : EReal) - arg8 m c (ix2 k j) ∧
    iblk m c 13 t (ix2 k j) = (arg10 m c (ix2 k j) : EReal) - arg10 m c (ix2 k j) ∧
    iblk m c 16 t (ix2 k j) = (arg12 m c (ix2 k j) : EReal) - arg12 m c (ix2 k j) ∧
    iblk m c 19 t (ix2 k j) = (arg14 m c (ix2 k j) : EReal) - arg14 m c (ix2 k j) := by
  refine ⟨?_, ?_, ?_, ?_⟩
  · refine Eq.trans (b := V m c main_v9 (ix2 k j)) ?_ ?_
    · blk_ext [iblk, idx_whole]
    · unfold V
      after_reads_at
  · refine Eq.trans (b := V m c main_v13 (ix2 k j)) ?_ ?_
    · blk_ext [iblk, idx_whole]
    · unfold V
      after_reads_at
  · refine Eq.trans (b := V m c main_v17 (ix2 k j)) ?_ ?_
    · blk_ext [iblk, idx_whole]
    · unfold V
      after_reads_at
  · refine Eq.trans (b := V m c main_v21 (ix2 k j)) ?_ ?_
    · blk_ext [iblk, idx_whole]
    · unfold V
      after_reads_at

/-- The biases. -/
theorem blk_bias (j : Fin 256) : iblk m c 8 t (ix2 0 j) = arg7 m c (ix1 j) ∧
    iblk m c 11 t (ix2 0 j) = arg9 m c (ix1 j) ∧
    iblk m c 14 t (ix2 0 j) = arg11 m c (ix1 j) ∧
    iblk m c 17 t (ix2 0 j) = arg13 m c (ix1 j) ∧
    iblk m c 20 t (ix2 0 j) = arg15 m c (ix1 j) := by
  refine ⟨?_, ?_, ?_, ?_, ?_⟩
  · refine Eq.trans (b := V m c main_v22 (ix2 0 j)) ?_ ?_
    · blk_ext [iblk, idx_whole]
    · unfold V
      after_reads_at
  · refine Eq.trans (b := V m c main_v23 (ix2 0 j)) ?_ ?_
    · blk_ext [iblk, idx_whole]
    · unfold V
      after_reads_at
  · refine Eq.trans (b := V m c main_v24 (ix2 0 j)) ?_ ?_
    · blk_ext [iblk, idx_whole]
    · unfold V
      after_reads_at
  · refine Eq.trans (b := V m c main_v25 (ix2 0 j)) ?_ ?_
    · blk_ext [iblk, idx_whole]
    · unfold V
      after_reads_at
  · refine Eq.trans (b := V m c main_v26 (ix2 0 j)) ?_ ?_
    · blk_ext [iblk, idx_whole]
    · unfold V
      after_reads_at

end Cert.Kernel2Ideal.Value
-- ==== Proof.RRead2.lean ====
module
public import proofs.«01_k».proof.Proof.Blocks2
public import proofs.«01_k».proof.Proof.Gen.Reference2Ideal.Read
public import proofs.«01_k».proof.Proof.Gen.Reference2Ideal
public import Idealize.ShloMosaic.Lib.Pointwise
public import Idealize.ShloMosaic.Lib.Routing.Ops
public import Idealize.ShloMosaic.Lib.Routing.OpsPair
public import Idealize.ShloMosaic.Lib.Pipeline.Value

/-!
# The second call's reference read at an element
-/

@[expose] public section
set_option maxHeartbeats 1000000

namespace Cert.Reference2Ideal.Read
open Cert.Reference2Ideal Cert.Reference2Ideal.Gen Idealize.ShloMosaic Cert.Seg
open Cert.Kernel2Ideal.Value (rowOf preact)

/-- The activation as the reference writes it. -/
theorem leaky_const (t : EReal) : (if 0 ≤ t then t else id (constant (F := Ideal) S_ FTy.f32 1008981770#32) ix0 * t) = leaky t := rfl

/-- A sum over the positions as seven sums over the pieces. -/
theorem sum_pieces (f : Fin 1792 → EReal) : ∑ q, f q = ∑ p : Fin 7, ∑ k : Fin 256, f (rowOf p k) := by
  rw [← Finset.sum_product', Finset.univ_product_univ]
  refine (Fintype.sum_equiv (finProdFinEquiv (m := 7) (n := 256)) _ _ fun q => congrArg f (Fin.ext ?_)).symm
  show 256 * q.1.val + q.2.val = q.2.val + 256 * q.1.val
  omega

section
variable (x0 : FVec Ideal S10000x256 .f32) (x1 : IVec S4x256 32) (x2 x3 x4 x5 : FVec Ideal S256x256 .f32)

/-- Row `n` of the padded input. -/
noncomputable def rowsX (n : ℕ) (f : Fin 256) : EReal := if h : n < 10000 then x0 (ix2 ⟨n, h⟩ f) else 0

/-- The input with its rows of zeros. -/
theorem v1_apply (n : Fin 10240) (f : Fin 256) : val_main_v1 (F := Ideal) x0 (ix2 n f) = rowsX x0 n.val f := by
  pointwise [val_main_v1, val_main_v0, val_main_cst, rowsX]

variable {x1} (h1 : ∀ (k : Fin 4), k.val < 3 → ∀ b : Fin 256, (x1 (ix2 k b)).toNat ≤ 10000)
include h1

/-- A row number is its own unsigned reading. -/
theorem wrap (k : Fin 4) (hk : k.val < 3) (b : Fin 256) :
    Scalar.select (IntOp.cmpi .slt (x1 (ix2 k b)) 0#32) (IntOp.addi (x1 (ix2 k b)) 10240#32) (x1 (ix2 k b))
      = BitVec.ofNat 32 (x1 (ix2 k b)).toNat :=
  (Routing.wrap_of_lt _ _ (by have := h1 k hk b; omega)).trans (by rw [BitVec.ofNat_toNat, BitVec.setWidth_eq])

/-- The first wrapped row number. -/
theorem v9_apply (b : Fin 256) : val_main_v9 (F := Ideal) x1 (ix2 b 0) = BitVec.ofNat 32 (x1 (ix2 0 b)).toNat := by
  pointwise [val_main_v9, val_main_v8, val_main_v7, val_main_v6, val_main_v5, val_main_v4, val_main_v3, val_main_v2, val_main_c, val_main_c_0]
  exact wrap h1 0 (by decide) b

/-- The first row gathered. -/
theorem v10_apply (b f : Fin 256) : val_main_v10 (F := Ideal) x0 x1 (ix2 b f) = rowsX x0 (x1 (ix2 0 b)).toNat f := by
  have lt : (x1 (ix2 0 b)).toNat < 10240 := by have := h1 0 (by decide) b; omega
  have e : val_main_v10 (F := Ideal) x0 x1 (ix2 b f) = val_main_v1 (F := Ideal) x0 (ix2 ⟨_, lt⟩ f) :=
    Routing.gather_row _ rfl rfl rfl rfl rfl _ _ b f ⟨_, lt⟩ (v9_apply h1 b) (by norm_num)
  exact e.trans (v1_apply x0 _ f)

/-- The second wrapped row number. -/
theorem v18_apply (b : Fin 256) : val_main_v18 (F := Ideal) x1 (ix2 b 0) = BitVec.ofNat 32 (x1 (ix2 1 b)).toNat := by
  pointwise [val_main_v18, val_main_v17, val_main_v16, val_main_v15, val_main_v14, val_main_v13, val_main_v12, val_main_v11, val_main_c_1, val_main_c_2]
  exact wrap h1 1 (by decide) b

/-- The second row gathered. -/
theorem v19_apply (b f : Fin 256) : val_main_v19 (F := Ideal) x0 x1 (ix2 b f) = rowsX x0 (x1 (ix2 1 b)).toNat f := by
  have lt : (x1 (ix2 1 b)).toNat < 10240 := by have := h1 1 (by decide) b; omega
  have e : val_main_v19 (F := Ideal) x0 x1 (ix2 b f) = val_main_v1 (F := Ideal) x0 (ix2 ⟨_, lt⟩ f) :=
    Routing.gather_row _ rfl rfl rfl rfl rfl _ _ b f ⟨_, lt⟩ (v18_apply h1 b) (by norm_num)
  exact e.trans (v1_apply x0 _ f)

/-- The third wrapped row number. -/
theorem v27_apply (b : Fin 256) : val_main_v27 (F := Ideal) x1 (ix2 b 0) = BitVec.ofNat 32 (x1 (ix2 2 b)).toNat := by
  pointwise [val_main_v27, val_main_v26, val_main_v25, val_main_v24, val_main_v23, val_main_v22, val_main_v21, val_main_v20, val_main_c_3, val_main_c_4]
  exact wrap h1 2 (by decide) b

/-- The third row gathered. -/
theorem v28_apply (b f : Fin 256) : val_main_v28 (F := Ideal) x0 x1 (ix2 b f) = rowsX x0 (x1 (ix2 2 b)).toNat f := by
  have lt : (x1 (ix2 2 b)).toNat < 10240 := by have := h1 2 (by decide) b; omega
  have e : val_main_v28 (F := Ideal) x0 x1 (ix2 b f) = val_main_v1 (F := Ideal) x0 (ix2 ⟨_, lt⟩ f) :=
    Routing.gather_row _ rfl rfl rfl rfl rfl _ _ b f ⟨_, lt⟩ (v27_apply h1 b) (by norm_num)
  exact e.trans (v1_apply x0 _ f)

variable (x1)

/-- The seven pieces of a row's features. -/
noncomputable def pieces : Fin 7 → Fin 256 → Fin 256 → EReal :=
  ![fun b k => x2 (ix2 b k), fun b k => x3 (ix2 b k), fun b k => x4 (ix2 b k), fun b k => x5 (ix2 b k),
    fun b => rowsX x0 (x1 (ix2 0 b)).toNat, fun b => rowsX x0 (x1 (ix2 1 b)).toNat, fun b => rowsX x0 (x1 (ix2 2 b)).toNat]

/-- The features laid side by side: position `256 p + k` is entry `k` of piece `p`. -/
theorem v29_apply (b : Fin 256) (p : Fin 7) (k : Fin 256) :
    val_main_v29 (F := Ideal) x0 x1 x2 x3 x4 x5 (ix2 b (rowOf p k)) = pieces x0 x1 x2 x3 x4 x5 p b k := by
  have e := concatenate_ofFn_apply (t := S256x1792) (s₁ := S256x256) 1
    (![x2, x3, x4, x5, val_main_v10 (F := Ideal) x0 x1, val_main_v19 (F := Ideal) x0 x1, val_main_v28 (F := Ideal) x0 x1])
    concatenates_S256x256_S256x256_S256x256_S256x256_S256x256_S256x256_S256x256_S256x1792_d1 rfl 256 rfl (ix2 b (rowOf p k)) p
    (by show (256 * p.val + k.val) / 256 = p.val; omega) (ix2 b k)
    (by show k.val = (256 * p.val + k.val) % 256; omega)
    (fun a ha => by
      fin_cases a
      · rfl
      · exact absurd rfl ha)
  refine Eq.trans e ?_
  fin_cases p
  · rfl
  · rfl
  · rfl
  · rfl
  · exact v10_apply x0 h1 b k
  · exact v19_apply x0 h1 b k
  · exact v28_apply x0 h1 b k

variable (x6 : FVec Ideal S1792x256 .f32) (x7 : FVec Ideal S256 .f32)

/-- The first layer before its activation. -/
theorem v33_apply (b j : Fin 256) : val_main_v33 (F := Ideal) x0 x1 x2 x3 x4 x5 x6 x7 (ix2 b j)
    = preact (fun p k j => x6 (ix2 (rowOf p k) j)) (fun j => x7 (ix1 j)) (fun p => pieces x0 x1 x2 x3 x4 x5 p b) j := by
  have e : val_main_v30 (F := Ideal) x0 x1 x2 x3 x4 x5 x6 (ix2 b j)
      = ∑ q : Fin 1792, val_main_v29 (F := Ideal) x0 x1 x2 x3 x4 x5 (ix2 b q) * x6 (ix2 q j) := by
    pointwise [val_main_v30]
  have e' : val_main_v32 (F := Ideal) x7 (ix2 b j) = x7 (ix1 j) := by
    pointwise [val_main_v32, val_main_v31]
  rw [val_main_v33_apply, e, e', sum_pieces, Fin.sum_univ_seven]
  simp only [v29_apply x0 x1 x2 x3 x4 x5 h1]
  unfold preact
  rw [Ideal.addf_def, add_comm]
  simp only [add_assoc]

end

section
variable (x0 : FVec Ideal S10000x256 .f32) (x1 : IVec S4x256 32) (x2 x3 x4 x5 : FVec Ideal S256x256 .f32)
  (x6 : FVec Ideal S1792x256 .f32) (x7 : FVec Ideal S256 .f32) (x8 : FVec Ideal S256x256 .f32) (x9 : FVec Ideal S256 .f32)
  (x10 : FVec Ideal S256x256 .f32) (x11 : FVec Ideal S256 .f32) (x12 : FVec Ideal S256x256 .f32) (x13 : FVec Ideal S256 .f32)
  (x14 : FVec Ideal S256x256 .f32) (x15 : FVec Ideal S256 .f32)

/-- The first layer. -/
theorem v34_apply (b j : Fin 256) : val_main_v34 (F := Ideal) x0 x1 x2 x3 x4 x5 x6 x7 (ix2 b j)
    = leaky (val_main_v33 (F := Ideal) x0 x1 x2 x3 x4 x5 x6 x7 (ix2 b j)) := by
  unfold val_main_v34 val_main_call0_v4 val_main_call0_v1
  generalize val_main_v33 (F := Ideal) x0 x1 x2 x3 x4 x5 x6 x7 = v
  pointwise [val_main_call0_v3, val_main_call0_v2, val_main_call0_v0, val_main_call0_cst, val_main_cst_5]
  rw [leaky_const]

/-- The second layer. -/
theorem v39_apply (b j : Fin 256) : val_main_v39 (F := Ideal) x0 x1 x2 x3 x4 x5 x6 x7 x8 x9 (ix2 b j)
    = layer (fun k j => x8 (ix2 k j)) (fun j => x9 (ix1 j))
        (fun k => val_main_v34 (F := Ideal) x0 x1 x2 x3 x4 x5 x6 x7 (ix2 b k)) j := by
  unfold val_main_v39 val_main_call1_v4 val_main_call1_v1 val_main_v38 val_main_v35
  generalize val_main_v34 (F := Ideal) x0 x1 x2 x3 x4 x5 x6 x7 = v
  pointwise [val_main_call1_v3, val_main_call1_v2, val_main_call1_v0, val_main_call1_cst, val_main_cst_6,
    val_main_v37, val_main_v36]
  rw [leaky_const]; rfl

/-- The third layer. -/
theorem v44_apply (b j : Fin 256) : val_main_v44 (F := Ideal) x0 x1 x2 x3 x4 x5 x6 x7 x8 x9 x10 x11 (ix2 b j)
    = layer (fun k j => x10 (ix2 k j)) (fun j => x11 (ix1 j))
        (fun k => val_main_v39 (F := Ideal) x0 x1 x2 x3 x4 x5 x6 x7 x8 x9 (ix2 b k)) j := by
  unfold val_main_v44 val_main_call2_v4 val_main_call2_v1 val_main_v43 val_main_v40
  generalize val_main_v39 (F := Ideal) x0 x1 x2 x3 x4 x5 x6 x7 x8 x9 = v
  pointwise [val_main_call2_v3, val_main_call2_v2, val_main_call2_v0, val_main_call2_cst, val_main_cst_7,
    val_main_v42, val_main_v41]
  rw [leaky_const]; rfl

/-- The fourth layer. -/
theorem v49_apply (b j : Fin 256) : val_main_v49 (F := Ideal) x0 x1 x2 x3 x4 x5 x6 x7 x8 x9 x10 x11 x12 x13 (ix2 b j)
    = layer (fun k j => x12 (ix2 k j)) (fun j => x13 (ix1 j))
        (fun k => val_main_v44 (F := Ideal) x0 x1 x2 x3 x4 x5 x6 x7 x8 x9 x10 x11 (ix2 b k)) j := by
  unfold val_main_v49 val_main_call3_v4 val_main_call3_v1 val_main_v48 val_main_v45
  generalize val_main_v44 (F := Ideal) x0 x1 x2 x3 x4 x5 x6 x7 x8 x9 x10 x11 = v
  pointwise [val_main_call3_v3, val_main_call3_v2, val_main_call3_v0, val_main_call3_cst, val_main_cst_8,
    val_main_v47, val_main_v46]
  rw [leaky_const]; rfl

/-- The reference's result. -/
theorem v53_apply (h1 : ∀ (k : Fin 4), k.val < 3 → ∀ b : Fin 256, (x1 (ix2 k b)).toNat ≤ 10000) (b j : Fin 256) :
    val_main_v53 (F := Ideal) x0 x1 x2 x3 x4 x5 x6 x7 x8 x9 x10 x11 x12 x13 x14 x15 (ix2 b j)
      = ∑ k : Fin 256, layer (fun k j => x12 (ix2 k j)) (fun j => x13 (ix1 j))
          (layer (fun k j => x10 (ix2 k j)) (fun j => x11 (ix1 j))
            (layer (fun k j => x8 (ix2 k j)) (fun j => x9 (ix1 j)) fun j =>
              leaky (preact (fun p k j => x6 (ix2 (rowOf p k) j)) (fun j => x7 (ix1 j))
                (fun p => pieces x0 x1 x2 x3 x4 x5 p b) j))) k * x14 (ix2 k j) + x15 (ix1 j) := by
  have e : val_main_v53 (F := Ideal) x0 x1 x2 x3 x4 x5 x6 x7 x8 x9 x10 x11 x12 x13 x14 x15 (ix2 b j)
      = ∑ k : Fin 256, val_main_v49 (F := Ideal) x0 x1 x2 x3 x4 x5 x6 x7 x8 x9 x10 x11 x12 x13 (ix2 b k) * x14 (ix2 k j) + x15 (ix1 j) := by
    unfold val_main_v53 val_main_v50
    generalize val_main_v49 (F := Ideal) x0 x1 x2 x3 x4 x5 x6 x7 x8 x9 x10 x11 x12 x13 = v
    pointwise [val_main_v52, val_main_v51]
  rw [e]
  simp only [v49_apply, v44_apply, v39_apply, v34_apply, v33_apply x0 x1 x2 x3 x4 x5 h1]

end

end Cert.Reference2Ideal.Read
-- ==== Proof.Hyps3.lean ====
module
public import proofs.«01_k».proof.Proof.Finite
public import proofs.«01_k».proof.Proof.Hyps2
public import proofs.«01_k».proof.Proof.Gen.Pre_in_range_finite

/-!
# The second call's precondition read back

Every float argument but the last bias is real, and every word of the first three rows of row numbers is at most 10000.
-/

@[expose] public section
set_option maxHeartbeats 1000000

namespace Cert.Pre_in_range_finite
open Idealize.ShloMosaic Cert.Seg

/-- What the precondition says of the arguments. -/
structure Good (a0 : FVec Ideal S10000x256 .f32) (a1 : IVec S4x256 32) (a2 a3 a4 a5 : FVec Ideal S256x256 .f32)
    (a6 : FVec Ideal S1792x256 .f32) (a7 : FVec Ideal S256 .f32) (a8 : FVec Ideal S256x256 .f32) (a9 : FVec Ideal S256 .f32)
    (a10 : FVec Ideal S256x256 .f32) (a11 : FVec Ideal S256 .f32) (a12 : FVec Ideal S256x256 .f32) (a13 : FVec Ideal S256 .f32)
    (a14 : FVec Ideal S256x256 .f32) : Prop where
  r0 : ∀ i, IsR (a0 i)
  r2 : ∀ i, IsR (a2 i)
  r3 : ∀ i, IsR (a3 i)
  r4 : ∀ i, IsR (a4 i)
  r5 : ∀ i, IsR (a5 i)
  r6 : ∀ i, IsR (a6 i)
  r7 : ∀ i, IsR (a7 i)
  r8 : ∀ i, IsR (a8 i)
  r9 : ∀ i, IsR (a9 i)
  r10 : ∀ i, IsR (a10 i)
  r11 : ∀ i, IsR (a11 i)
  r12 : ∀ i, IsR (a12 i)
  r13 : ∀ i, IsR (a13 i)
  r14 : ∀ i, IsR (a14 i)
  le : ∀ k : Fin 4, k.val < 3 → ∀ b : Fin 256, (a1 (ix2 k b)).toNat ≤ 10000

/-- The precondition says so. -/
theorem good_of_fn {a0 : FVec Ideal S10000x256 .f32} {a1 : IVec S4x256 32} {a2 a3 a4 a5 : FVec Ideal S256x256 .f32}
    {a6 : FVec Ideal S1792x256 .f32} {a7 : FVec Ideal S256 .f32} {a8 : FVec Ideal S256x256 .f32} {a9 : FVec Ideal S256 .f32}
    {a10 : FVec Ideal S256x256 .f32} {a11 : FVec Ideal S256 .f32} {a12 : FVec Ideal S256x256 .f32} {a13 : FVec Ideal S256 .f32}
    {a14 : FVec Ideal S256x256 .f32} {a15 : FVec Ideal S256 .f32}
    (h : fn a0 a1 a2 a3 a4 a5 a6 a7 a8 a9 a10 a11 a12 a13 a14 a15 = fun _ => 1#1) :
    Good a0 a1 a2 a3 a4 a5 a6 a7 a8 a9 a10 a11 a12 a13 a14 := by
  have le := Cert.Hyps2.bound_of_pre _ _ _ _ _ _ _ _ _ _ _ _ _ _ _ _ (Cert.Hyps2.fn_of_finite _ _ _ _ _ _ _ _ _ _ _ _ _ _ _ _ h)
  haveI : Subsingleton S_.Idx := ⟨fun a b => funext fun i => i.elim0⟩
  have e := congrFun h (fun i => i.elim0)
  dsimp only [fn, fn_part1, fn_part2, fn_part3, fn_part4] at e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e0⟩ := IntOp.andi_eq_one.1 e
  exact ⟨real_of_all _ _ _ _ _ _ e0, real_of_all _ _ _ _ _ _ e2,
    real_of_all _ _ _ _ _ _ e3, real_of_all _ _ _ _ _ _ e4, real_of_all _ _ _ _ _ _ e5,
    real_of_all _ _ _ _ _ _ e6, real_of_all _ _ _ _ _ _ e7, real_of_all _ _ _ _ _ _ e8,
    real_of_all _ _ _ _ _ _ e9, real_of_all _ _ _ _ _ _ e10, real_of_all _ _ _ _ _ _ e11,
    real_of_all _ _ _ _ _ _ e12, real_of_all _ _ _ _ _ _ e13, real_of_all _ _ _ _ _ _ e14, le⟩

end Cert.Pre_in_range_finite
end
-- ==== Proof.Phase2.lean ====
module
public import proofs.«01_k».proof.Defs
public import proofs.«01_k».proof.Proof.Blocks2
public import proofs.«01_k».proof.Proof.RRead2
public import proofs.«01_k».proof.Proof.Hyps3
public import proofs.«01_k».proof.Proof.Gen.Reference2Ideal.Run
public import proofs.«01_k».proof.Proof.Gen.Reference2Ideal.Read

/-!
# The second call computes the final layers

Over the extended reals, from real inputs and row numbers in range, the call's result is the reference's.
-/

@[expose] public section
set_option maxHeartbeats 1000000

namespace Cert.Kernel2Ideal.Value
open Cert.Kernel2Ideal Cert.Kernel2Ideal.Gen Cert.Seg Idealize.ShloMosaic Idealize.ShloMosaic.TcCoe Idealize.SL.Sem
open Cert.Reference2Ideal.Read (pieces rowsX)

variable (m : (ℓ : Loc nD τ sig) → Buf (Elt Ideal) ℓ) (c : Dev nD)

/-- The precondition's meaning on the launched arguments. -/
abbrev GoodArgs : Prop := Cert.Pre_in_range_finite.Good (arg0 m c) (arg1 m c) (arg2 m c) (arg3 m c) (arg4 m c) (arg5 m c)
  (arg6 m c) (arg7 m c) (arg8 m c) (arg9 m c) (arg10 m c) (arg11 m c) (arg12 m c) (arg13 m c) (arg14 m c)

/-- The reference's result on the launched arguments. -/
noncomputable abbrev result : Vec Ideal S256x256 .f32 :=
  Cert.Reference2Ideal.Read.val_main_v53 (F := Ideal) (arg0 m c) (arg1 m c) (arg2 m c) (arg3 m c) (arg4 m c) (arg5 m c)
    (arg6 m c) (arg7 m c) (arg8 m c) (arg9 m c) (arg10 m c) (arg11 m c) (arg12 m c) (arg13 m c) (arg14 m c) (arg15 m c)

variable {m c}

/-- The padded rows' entries are real. -/
theorem row_real (G : GoodArgs m c) (n : ℕ) (f : Fin 256) : IsR (rowsX (arg0 m c) n f) := by
  unfold rowsX
  split
  · exact G.r0 _
  · exact IsR.zero

/-- Every entry of the seven pieces is real. -/
theorem pieces_real (G : GoodArgs m c) (p : Fin 7) (r k : Fin 256) :
    IsR (pieces (arg0 m c) (arg1 m c) (arg2 m c) (arg3 m c) (arg4 m c) (arg5 m c) p r k) := by
  fin_cases p
  · exact G.r2 _
  · exact G.r3 _
  · exact G.r4 _
  · exact G.r5 _
  · exact row_real G _ _
  · exact row_real G _ _
  · exact row_real G _ _

/-- A real less itself is zero. -/
theorem low_zero {x y : EReal} (h : x = y - y) (hy : IsR y) : x = 0 := h.trans hy.sub_self

/-- The rows the loop copies are the padded rows the words name. -/
theorem gathered_rows (G : GoodArgs m c) (t : Fin cfg0.N) (k : Fin 4) (hk : k.val < 3) (r f : Fin 256) :
    gathered (F := Ideal) (iblk m c 0 t) (iblk m c 1 t) k (ix2 r f) = rowsX (arg0 m c) (arg1 m c (ix2 k r)).toNat f := by
  have e1 : iblk m c 1 t (ix2 k r) = (arg1 m c (ix2 k r) : BitVec 32) := blk1 m c t k r
  have le := G.le k hk r
  refine Eq.trans (b := iblk m c 0 t (ix2 (Fin.ofNat 10240 (arg1 m c (ix2 k r)).toNat) f)) ?_ ?_
  · exact congrArg (fun w : BitVec 32 => iblk m c 0 t (ix2 (Fin.ofNat 10240 w.toNat) f)) e1
  · refine (blk0 m c t _ f).trans ?_
    have e : (Fin.ofNat 10240 (arg1 m c (ix2 k r)).toNat).val = (arg1 m c (ix2 k r)).toNat := Nat.mod_eq_of_lt (by omega)
    exact congrArg (fun n => rowX m c n f) e

/-- What the body leaves is the reference's result. -/
theorem body_result (G : GoodArgs m c) (t : Fin cfg0.N) (r j : Fin 256) :
    body (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) (iblk m c 20 t) (ix2 r j)
      = result m c (ix2 r j) := by
  refine (body_apply (H := pieces (arg0 m c) (arg1 m c) (arg2 m c) (arg3 m c) (arg4 m c) (arg5 m c))
    (W₀ := fun p k j => arg6 m c (ix2 (rowOf p k) j)) (b₀ := fun j => arg7 m c (ix1 j))
    (W₁ := fun k j => arg8 m c (ix2 k j)) (b₁ := fun j => arg9 m c (ix1 j))
    (W₂ := fun k j => arg10 m c (ix2 k j)) (b₂ := fun j => arg11 m c (ix1 j))
    (W₃ := fun k j => arg12 m c (ix2 k j)) (b₃ := fun j => arg13 m c (ix1 j))
    (W₄ := fun k j => arg14 m c (ix2 k j)) (b₄ := fun j => arg15 m c (ix1 j))
    (pieces_real G) (fun _ _ _ => G.r6 _) (fun _ => G.r7 _) (fun _ _ => G.r8 _) (fun _ => G.r9 _)
    (fun _ _ => G.r10 _) (fun _ => G.r11 _) (fun _ _ => G.r12 _) (fun _ => G.r13 _)
    (fun b f => (blk_pool m c t b f).1) (fun b f => (blk_pool m c t b f).2.1) (fun b f => (blk_pool m c t b f).2.2.1)
    (fun b f => (blk_pool m c t b f).2.2.2)
    (gathered_rows G t 0 (by decide)) (gathered_rows G t 1 (by decide)) (gathered_rows G t 2 (by decide))
    (fun p k j => (blk_w0 m c t p k j).1) (fun p k j => low_zero (blk_w0 m c t p k j).2 (G.r6 _))
    (fun j => (blk_bias m c t j).1)
    (fun k j => (blk_hi m c t k j).1) (fun k j => low_zero (blk_lo m c t k j).1 (G.r8 _)) (fun j => (blk_bias m c t j).2.1)
    (fun k j => (blk_hi m c t k j).2.1) (fun k j => low_zero (blk_lo m c t k j).2.1 (G.r10 _))
    (fun j => (blk_bias m c t j).2.2.1)
    (fun k j => (blk_hi m c t k j).2.2.1) (fun k j => low_zero (blk_lo m c t k j).2.2.1 (G.r12 _))
    (fun j => (blk_bias m c t j).2.2.2.1)
    (fun k j => (blk_hi m c t k j).2.2.2) (fun k j => low_zero (blk_lo m c t k j).2.2.2 (G.r14 _))
    (fun j => (blk_bias m c t j).2.2.2.2) r j).trans ?_
  exact (Cert.Reference2Ideal.Read.v53_apply _ _ _ _ _ _ _ _ _ _ _ _ _ _ _ _ G.le r j).symm

/-- The result's block is the whole array. -/
theorem emb21 (t : Fin cfg0.N) (j : S256x256.Idx) : ((cfg0.win 21).blk t).view.emb j = j := by
  have e : win0_21.index t = ![0, 0] := (idx_whole t).2.2.2.2.2.2.2.2.2.2.2.2.2.2.2.2.2.2.2.2.2
  have e0 : win0_21.index t (0 : Fin 2) = 0 := congrFun e 0
  have e1 : win0_21.index t (1 : Fin 2) = 0 := congrFun e 1
  funext a
  apply Fin.ext
  match a with
  | ⟨0, _⟩ => show win0_21.index t (0 : Fin 2) * 256 + 1 * (j 0).val = (j 0).val; omega
  | ⟨1, _⟩ => show win0_21.index t (1 : Fin 2) * 256 + 1 * (j 1).val = (j 1).val; omega

/-- What the one grid point writes back is the reference's result. -/
theorem flushed_result (G : GoodArgs m c) (hH : Hyps m) (t : Fin cfg0.N) :
    (dats m hH 0 c).flushed 21 t = ((cfg0.win 21).blk t).view.read (Elt Ideal) (result m c) := by
  rw [flushed21_A, out_eq]
  funext j
  refine Eq.trans ?_ (congrArg (result m c) (emb21 t j)).symm
  refine Eq.trans ?_ (congrArg (result m c) (eq_ix2 j)).symm
  exact (congrArg (body (F := Ideal) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) (iblk m c 16 t) (iblk m c 17 t) (iblk m c 18 t) (iblk m c 19 t)
    (iblk m c 20 t)) (eq_ix2 j)).trans (body_result G t (j 0) (j 1))

/-- Every index of the result array is in the point's block. -/
theorem covered21 (i : S256x256.Idx) :
    ∃ t : Fin cfg0.N, (cfg0.win 21).flush t = true ∧ i ∈ ((cfg0.win 21).blk t).view.set :=
  ⟨(⟨0, by decide⟩ : Fin cfg0.N), flush0_21 _, by
    have h := ((cfg0.win 21).blk (⟨0, by decide⟩ : Fin cfg0.N)).view.emb_mem_set i; rwa [emb21] at h⟩

/-- The result array after the run is the reference's. -/
theorem final_result (G : GoodArgs m c) (hH : Hyps m) : (dats m hH 0 c).arrAt 21 cfg0.N = result m c :=
  (dats m hH 0 c).arrAt_eq_of_cover 21 (result m c) (fun t _ => flushed_result G hH t) covered21

end Cert.Kernel2Ideal.Value

namespace Cert.Proof
open Idealize.ShloMosaic Idealize.ShloMosaic.TcCoe Idealize.SL.Sem Cert.Kernel2Ideal.Value

/-- The second call and its reference end with equal results. -/
theorem algebraic₂ : Cert.algebraic_Kernel2Ideal_Reference2Ideal_pre_in_range_finite := by
  intro m ρ m' ρ' hpre hagree
  have G : ∀ c, GoodArgs m c := fun c => Cert.Pre_in_range_finite.good_of_fn (hpre c)
  have hH : Cert.Kernel2Ideal.Gen.Hyps m := Cert.Kernel2Ideal.Gen.hyps_of_bound m fun c => (G c).le
  refine ⟨result m, (θ_run Cert.Kernel2Ideal.defs _ _).mono
    (fun r h c => ⟨(h c).1.trans (final_result (G c) hH), (h c).2⟩) (Cert.Kernel2Ideal.Value.run_blocks m ρ hH),
    (θ_run Cert.Reference2Ideal.defs _ _).mono (fun r h c => ?_) (Cert.Reference2Ideal.Value.run (F := Ideal) m' ρ')⟩
  obtain ⟨a0, a1, a2, a3, a4, a5, a6, a7, a8, a9, a10, a11, a12, a13, a14, a15⟩ := hagree c
  obtain ⟨r53, hargs⟩ := h c
  refine ⟨r53.trans ((Cert.Reference2Ideal.Read.val_main_v53_eq _).trans ?_), hargs⟩
  exact congr (congr (congr (congr (congr (congr (congr (congr (congr (congr (congr (congr (congr (congr (congrArg₂ _ a0 a1)
    a2) a3) a4) a5) a6) a7) a8) a9) a10) a11) a12) a13) a14) a15

end Cert.Proof
end
-- ==== Proof.lean ====
/- The claims of `Cert.Claim`, assembled from the runs of the programs. -/
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Own.Kernel.Frame
public import proofs.«01_k».proof.Proof.Gen.Own.KernelIdeal.Frame
public import proofs.«01_k».proof.Proof.Gen.Own.KernelIdeal.Value
public import proofs.«01_k».proof.Proof.Gen.Own.Kernel2.Frame
public import proofs.«01_k».proof.Proof.Gen.Own.Kernel2Ideal.Frame
public import proofs.«01_k».proof.Proof.Gen.Own.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Hyps2
public import proofs.«01_k».proof.Proof.Phase1
public import proofs.«01_k».proof.Proof.Phase2
public import Idealize.ShloMosaic.Adequacy
public import Idealize.ShloMosaic.Init

@[expose] public section

noncomputable section

namespace Cert.Proof

open Idealize.ShloMosaic Idealize.SL.Sem

/-- The first call runs and leaves its arguments alone, at the machine's own floats. -/
theorem frame_p : Cert.quiescent_Kernel := fun m ρ _ => Cert.Kernel.Gen.frame m ρ

/-- The first call runs and leaves its arguments alone, over the extended reals. -/
theorem frame_pi : Cert.quiescent_KernelIdeal := fun m ρ _ => Cert.KernelIdeal.Gen.frame m ρ

/-- The first reference runs and leaves its arguments alone. -/
theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The second call runs and leaves its arguments alone, its row numbers in range, at the machine's own floats. -/
theorem frame_p2 : Cert.quiescent_Kernel2 := fun m ρ h => Cert.Kernel2.Gen.frame m ρ (Cert.Kernel2.Gen.hyps_of_pre m h)

/-- The second call runs and leaves its arguments alone, its row numbers in range, over the extended reals. -/
theorem frame_pi2 : Cert.quiescent_Kernel2Ideal := fun m ρ h =>
  Cert.Kernel2Ideal.Gen.frame m ρ (Cert.Kernel2Ideal.Gen.hyps_of_pre m h)

/-- The second reference runs and leaves its arguments alone. -/
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The one named constant stands for minus infinity. -/
theorem preserves : Cert.preserves_Kernel_KernelIdeal :=
  IdealRules.named_const.statement Cert.KernelIdeal.κ "neg" .f32 0xFF61B1E6#32 ⊥ rfl

/-- Quiescence under the first call's precondition follows from quiescence without it. -/
theorem frame_pi_pre : Cert.quiescent_KernelIdeal_pre_finite_sorted := fun m ρ _ => Cert.KernelIdeal.Gen.frame m ρ

/-- The same of the first reference. -/
theorem frame_ri_pre : Cert.quiescent_ReferenceIdeal_pre_finite_sorted := fun m ρ _ => frame_ri m ρ trivial

/-- Quiescence under the second call's precondition for its values: that one implies the precondition of its frame. -/
theorem frame_pi2_pre : Cert.quiescent_Kernel2Ideal_pre_in_range_finite := fun m ρ h =>
  frame_pi2 m ρ fun c => Cert.Hyps2.fn_of_finite _ _ _ _ _ _ _ _ _ _ _ _ _ _ _ _ (h c)

/-- The same of the second reference. -/
theorem frame_ri2_pre : Cert.quiescent_Reference2Ideal_pre_in_range_finite := fun m ρ _ => frame_ri2 m ρ trivial

/-- Everything claimed. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_finite_sorted.Gen.facts, Cert.Pre_in_range.Gen.facts,
    Cert.Pre_in_range_finite.Gen.facts, frame_p, frame_pi, frame_pi_pre, frame_ri, frame_ri_pre, frame_p2, frame_pi2,
    frame_pi2_pre, frame_ri2, frame_ri2_pre, preserves, algebraic₁, trivial, algebraic₂⟩

end Cert.Proof

end
